-- ==== Defs.lean ====
def Pre_Kernel [hPre_few_coarse : Cert.Pre_few_coarse.Facts] (m : (ℓ : Loc Cert.Kernel.nD Cert.Kernel.τ Cert.Kernel.sig) → Buf (Elt Bits) ℓ) : Prop :=
  ∀ c : Dev Cert.Kernel.nD,
    (Cert.Pre_few_coarse.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_few_coarse : Cert.Pre_few_coarse.Facts] (m : (ℓ : Loc Cert.KernelIdeal.nD Cert.KernelIdeal.τ Cert.KernelIdeal.sig) → Buf (Elt Ideal) ℓ) : Prop :=
  ∀ c : Dev Cert.KernelIdeal.nD,
    (Cert.Pre_few_coarse.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_few_coarse [hPre_few_coarse : Cert.Pre_few_coarse.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_few_coarse.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_few_coarse : Cert.Pre_few_coarse.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_few_coarse : Cert.Pre_few_coarse.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_few_coarse [hReferenceIdeal : Cert.ReferenceIdeal.Facts] [hPre_few_coarse : Cert.Pre_few_coarse.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_few_coarse m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_few_coarse : Cert.Pre_few_coarse.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_few_coarse : Cert.Pre_few_coarse.Facts),
    quiescent_Kernel (hKernel := hKernel) (hPre_few_coarse := hPre_few_coarse)
    ∧ quiescent_KernelIdeal (hKernelIdeal := hKernelIdeal) (hPre_few_coarse := hPre_few_coarse)
    ∧ quiescent_ReferenceIdeal (hReferenceIdeal := hReferenceIdeal)
    ∧ quiescent_ReferenceIdeal_pre_few_coarse (hReferenceIdeal := hReferenceIdeal) (hPre_few_coarse := hPre_few_coarse)
    ∧ preserves_Kernel_KernelIdeal
    ∧ algebraic_KernelIdeal_ReferenceIdeal (hKernelIdeal := hKernelIdeal) (hReferenceIdeal := hReferenceIdeal) (hPre_few_coarse := hPre_few_coarse)
-- ==== Pre_few_coarse.lean ====
abbrev S32x81900 : Shape := ⟨2, ![32, 81900]⟩
abbrev S32x900x4 : Shape := ⟨3, ![32, 900, 4]⟩
abbrev S32x2 : Shape := ⟨2, ![32, 2]⟩
abbrev S32x300 : Shape := ⟨2, ![32, 300]⟩
abbrev S32x1 : Shape := ⟨2, ![32, 1]⟩
abbrev S_ : Shape := ⟨0, ![]⟩
abbrev S32 : Shape := ⟨1, ![32]⟩

class Facts : Prop where
  sliceFits_S32x81900_S32x300 : S32x81900.Slices (fun _ => 0) S32x300
  slices_S32x300_S32x1_0_299 : S32x300.Slices ![0, 299] S32x1
  bcast_S_S32x81900 : S_.BroadcastsInDim S32x81900 (![] : Fin 0 → Fin S32x81900.rank)
  bcast_S_S32x1 : S_.BroadcastsInDim S32x1 (![] : Fin 0 → Fin S32x1.rank)
  bcast_S32x1_S32x81900_0_1 : S32x1.BroadcastsInDim S32x81900 (![0, 1] : Fin 2 → Fin S32x81900.rank)
  natLt_1_32 : 1 < 32
  reducesTo_S32x81900_S32_d1 : S32x81900.ReducesTo [1] S32
  h_S_ : 0 < S_.numel
  reducesTo_S32x81900_S_d0_1 : S32x81900.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v8 : IVec S32 32) (main_v14 : IVec S_ 1) (main_c_5 : IVec S_ 32) : IVec S_ 1 :=
  let main_v15 : IVec S32 32 := broadcastInDim S32 ![] bcast_S_S32 main_c_5
  let main_v16 : IVec S32 1 := cmpi .sle main_v8 main_v15
  let main_c_6 : IVec S_ 1 := constantI S_ 1 1#1
  let main_v17 : IVec S_ 1 := (fun x v => Host.reduce IntOp.andi x v reducesTo_S32_S_d0 h_S_) main_v16 main_c_6
  let main_v18 : IVec S_ 1 := andi main_v14 main_v17
  main_v18

def fn {F : FTy → Type} [FloatOps F] (main_arg0 : IVec S32x81900 32) (main_arg1 : FVec F S32x900x4 .f32) (main_arg2 : IVec S32x2 32) : IVec S_ 1 :=
  let main_values : IVec S32x300 32 := (fun x => (Host.topK S32x300 1 (IntOp.cmpi .sgt) x sliceFits_S32x81900_S32x300).1) main_arg0
  let main_indices : IVec S32x300 32 := (fun x => (Host.topK S32x300 1 (IntOp.cmpi .sgt) x sliceFits_S32x81900_S32x300).2) main_arg0
  let main_v0 : IVec S32x1 32 := (extractStridedSlice S32x1 ![0, 299] · slices_S32x300_S32x1_0_299) main_values
  let main_c : IVec S_ 32 := constantI S_ 32 17#32
  let main_v1 : IVec S32x81900 32 := broadcastInDim S32x81900 ![] bcast_S_S32x81900 main_c
  let main_v2 : IVec S32x81900 32 := Host.shrsi main_arg0 main_v1
  let main_c_0 : IVec S_ 32 := constantI S_ 32 17#32
  let main_v3 : IVec S32x1 32 := broadcastInDim S32x1 ![] bcast_S_S32x1 main_c_0
  let main_v4 : IVec S32x1 32 := Host.shrsi main_v0 main_v3
  let main_v5 : IVec S32x81900 32 := broadcastInDim S32x81900 ![0, 1] bcast_S32x1_S32x81900_0_1 main_v4
  let main_v6 : IVec S32x81900 1 := cmpi .sge main_v2 main_v5
  let main_v7 : IVec S32x81900 32 := (extui 32 · natLt_1_32) main_v6
  let main_c_1 : IVec S_ 32 := constantI S_ 32 0#32
  let main_v8 : IVec S32 32 := (fun x v => Host.reduce IntOp.addi x v reducesTo_S32x81900_S32_d1 h_S_) main_v7 main_c_1
  let main_c_2 : IVec S_ 32 := constantI S_ 32 0#32
  let main_v9 : IVec S32x81900 32 := broadcastInDim S32x81900 ![] bcast_S_S32x81900 main_c_2
  let main_v10 : IVec S32x81900 1 := cmpi .sge main_arg0 main_v9
  let main_c_3 : IVec S_ 32 := constantI S_ 32 1065353216#32
  let main_v11 : IVec S32x81900 32 := broadcastInDim S32x81900 ![] bcast_S_S32x81900 main_c_3
  let main_v12 : IVec S32x81900 1 := cmpi .sle main_arg0 main_v11
  let main_v13 : IVec S32x81900 1 := andi main_v10 main_v12
  let main_c_4 : IVec S_ 1 := constantI S_ 1 1#1
  let main_v14 : IVec S_ 1 := (fun x v => Host.reduce IntOp.andi x v reducesTo_S32x81900_S_d0_1 h_S_) main_v13 main_c_4
  let main_c_5 : IVec S_ 32 := constantI S_ 32 4096#32
  fn_part1 (F := F) main_v8 main_v14 main_c_5
-- ==== Kernel.lean ====
abbrev S32x81900 : Shape := ⟨2, ![32, 81900]⟩
abbrev S32x900x4 : Shape := ⟨3, ![32, 900, 4]⟩
abbrev S32x2 : Shape := ⟨2, ![32, 2]⟩
abbrev S_ : Shape := ⟨0, ![]⟩
abbrev S32x81920 : Shape := ⟨2, ![32, 81920]⟩
abbrev S32x3600 : Shape := ⟨2, ![32, 3600]⟩
abbrev S32x1 : Shape := ⟨2, ![32, 1]⟩
abbrev S32 : Shape := ⟨1, ![32]⟩
abbrev S32x16 : Shape := ⟨2, ![32, 16]⟩
abbrev S32x32 : Shape := ⟨2, ![32, 32]⟩
abbrev S32x304 : Shape := ⟨2, ![32, 304]⟩
abbrev S32x1216 : Shape := ⟨2, ![32, 1216]⟩
abbrev S81920 : Shape := ⟨1, ![81920]⟩
abbrev S3600 : Shape := ⟨1, ![3600]⟩
abbrev S8192 : Shape := ⟨1, ![8192]⟩
abbrev S4128 : Shape := ⟨1, ![4128]⟩
abbrev S320 : Shape := ⟨1, ![320]⟩
abbrev S304 : Shape := ⟨1, ![304]⟩
abbrev S1216 : Shape := ⟨1, ![1216]⟩
abbrev S16 : Shape := ⟨1, ![16]⟩
abbrev S1x81920 : Shape := ⟨2, ![1, 81920]⟩
abbrev S1x3600 : Shape := ⟨2, ![1, 3600]⟩
abbrev S1x32 : Shape := ⟨2, ![1, 32]⟩
abbrev S1x304 : Shape := ⟨2, ![1, 304]⟩
abbrev S1x1216 : Shape := ⟨2, ![1, 1216]⟩
abbrev S32x300 : Shape := ⟨2, ![32, 300]⟩
abbrev S32x4x304 : Shape := ⟨3, ![32, 4, 304]⟩
abbrev S32x304x4 : Shape := ⟨3, ![32, 304, 4]⟩
abbrev S32x300x4 : Shape := ⟨3, ![32, 300, 4]⟩

abbrev nBuf : Table → Nat
  | .hbm => 25
  | .local .scVector .vmem => 12
  | _ => 0

abbrev bufTy : (tb : Table) → Fin (nBuf tb) → BufTy
  | .hbm, ⟨0, _⟩ => ⟨S32x81900, .i32⟩
  | .hbm, ⟨1, _⟩ => ⟨S32x900x4, .f32⟩
  | .hbm, ⟨2, _⟩ => ⟨S32x2, .i32⟩
  | .hbm, ⟨3, _⟩ => ⟨S_, .i32⟩
  | .hbm, ⟨4, _⟩ => ⟨S_, .i32⟩
  | .hbm, ⟨5, _⟩ => ⟨S32x81920, .i32⟩
  | .hbm, ⟨6, _⟩ => ⟨S32x3600, .f32⟩
  | .hbm, ⟨7, _⟩ => ⟨S32x2, .f32⟩
  | .hbm, ⟨8, _⟩ => ⟨S32x1, .f32⟩
  | .hbm, ⟨9, _⟩ => ⟨S32, .f32⟩
  | .hbm, ⟨10, _⟩ => ⟨S32x1, .f32⟩
  | .hbm, ⟨11, _⟩ => ⟨S32, .f32⟩
  | .hbm, ⟨12, _⟩ => ⟨S32x1, .f32⟩
  | .hbm, ⟨13, _⟩ => ⟨S32x16, .f32⟩
  | .hbm, ⟨14, _⟩ => ⟨S32x1, .f32⟩
  | .hbm, ⟨15, _⟩ => ⟨S32x16, .f32⟩
  | .hbm, ⟨16, _⟩ => ⟨S32x32, .f32⟩
  | .hbm, ⟨17, _⟩ => ⟨S32x304, .i32⟩
  | .hbm, ⟨18, _⟩ => ⟨S32x304, .i32⟩
  | .hbm, ⟨19, _⟩ => ⟨S32x1216, .f32⟩
  | .hbm, ⟨20, _⟩ => ⟨S32x300, .i32⟩
  | .hbm, ⟨21, _⟩ => ⟨S32x300, .i32⟩
  | .hbm, ⟨22, _⟩ => ⟨S32x4x304, .f32⟩
  | .hbm, ⟨23, _⟩ => ⟨S32x304x4, .f32⟩
  | .hbm, ⟨24, _⟩ => ⟨S32x300x4, .f32⟩
  | .local .scVector .vmem, ⟨0, _⟩ => ⟨S81920, .i32⟩
  | .local .scVector .vmem, ⟨1, _⟩ => ⟨S3600, .f32⟩
  | .local .scVector .vmem, ⟨2, _⟩ => ⟨S32, .f32⟩
  | .local .scVector .vmem, ⟨3, _⟩ => ⟨S8192, .i32⟩
  | .local .scVector .vmem, ⟨4, _⟩ => ⟨S4128, .i32⟩
  | .local .scVector .vmem, ⟨5, _⟩ => ⟨S4128, .i32⟩
  | .local .scVector .vmem, ⟨6, _⟩ => ⟨S320, .i32⟩
  | .local .scVector .vmem, ⟨7, _⟩ => ⟨S320, .i32⟩
  | .local .scVector .vmem, ⟨8, _⟩ => ⟨S304, .i32⟩
  | .local .scVector .vmem, ⟨9, _⟩ => ⟨S304, .i32⟩
  | .local .scVector .vmem, ⟨10, _⟩ => ⟨S304, .i32⟩
  | .local .scVector .vmem, ⟨11, _⟩ => ⟨S1216, .f32⟩
  | _, _ => ⟨S32x81900, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v0_scv : Ref sig .scVector := ⟨.hbm, 5, rfl⟩
abbrev main_v1_scv : Ref sig .scVector := ⟨.hbm, 6, rfl⟩
abbrev main_v11_scv : Ref sig .scVector := ⟨.hbm, 16, rfl⟩
abbrev main_v12_0_scv : Ref sig .scVector := ⟨.hbm, 17, rfl⟩
abbrev main_v12_1_scv : Ref sig .scVector := ⟨.hbm, 18, rfl⟩
abbrev main_v12_2_scv : Ref sig .scVector := ⟨.hbm, 19, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_414_r0 : BitVec 32 := 0#32
  ![v1.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_414_r1 : BitVec 32 := 0#32
  ![v1.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_414_r2 : BitVec 32 := 0#32
  ![v1.toNat, 0]
@[reducible] def k0_t1_loop : Scf.Loop 32 :=
  let c0_i32_1 : BitVec 32 := 0#32
  let c512_i32 : BitVec 32 := 512#32
  let v5 : BitVec 32 := Scalar.addi c0_i32_1 c512_i32
  let c1_i32_2 : BitVec 32 := 1#32
  ⟨c0_i32_1, v5, c1_i32_2⟩
def k0_off4 (k0_t1 : Fin k0_t1_loop.trips) : Fin 1 → Nat :=
  let c0_i32_1 : BitVec 32 := 0#32
  let c1_i32_2 : BitVec 32 := 1#32
  let arg20 : BitVec 32 := Scf.iv c0_i32_1 c1_i32_2 k0_t1
  let c16_i32_414 : BitVec 32 := 16#32
  let v1232 : BitVec 32 := Scalar.muli arg20 c16_i32_414
  let v1233 : Index := Scalar.indexCast v1232
  ![v1233.toNat]
@[reducible] def k0_t2_loop : Scf.Loop 32 :=
  let c0_i32_5 : BitVec 32 := 0#32
  let c1280_i32 : BitVec 32 := 1280#32
  let v7 : BitVec 32 := Scalar.addi c0_i32_5 c1280_i32
  let c1_i32_6 : BitVec 32 := 1#32
  ⟨c0_i32_5, v7, c1_i32_6⟩
def k0_off5 (k0_t2 : Fin k0_t2_loop.trips) : Fin 1 → Nat :=
  let c0_i32_5 : BitVec 32 := 0#32
  let c1_i32_6 : BitVec 32 := 1#32
  let arg20 : BitVec 32 := Scf.iv c0_i32_5 c1_i32_6 k0_t2
  let c4_i32_414 : BitVec 32 := 4#32
  let v1232 : BitVec 32 := Scalar.muli arg20 c4_i32_414
  let c0_i32_415 : BitVec 32 := 0#32
  let v1233 : BitVec 32 := Scalar.addi v1232 c0_i32_415
  let c16_i32_416 : BitVec 32 := 16#32
  let v1234 : BitVec 32 := Scalar.muli v1233 c16_i32_416
  let v1235 : Index := Scalar.indexCast v1234
  ![v1235.toNat]

def k0_chk1 (v1238 : IVec S16 32) : Prop :=
  (∀ a x, ((![v1238] : Fin 1 → IVec S16 32) a x).toNat < S8192.size a)
theorem k0_idx1_inb : ∀ (v1238 : IVec S16 32) (k0_hw1 : k0_chk1 v1238), ∀ a x, ((![v1238] : Fin 1 → IVec S16 32) a x).toNat < S8192.size a := fun v1238 k0_hw1 => k0_hw1
def k0_off6 (k0_t2 : Fin k0_t2_loop.trips) : Fin 1 → Nat :=
  let c0_i32_5 : BitVec 32 := 0#32
  let c1_i32_6 : BitVec 32 := 1#32
  let arg20 : BitVec 32 := Scf.iv c0_i32_5 c1_i32_6 k0_t2
  let c4_i32_418 : BitVec 32 := 4#32
  let v1239 : BitVec 32 := Scalar.muli arg20 c4_i32_418
  let c1_i32_419 : BitVec 32 := 1#32
  let v1240 : BitVec 32 := Scalar.addi v1239 c1_i32_419
  let c16_i32_420 : BitVec 32 := 16#32
  let v1241 : BitVec 32 := Scalar.muli v1240 c16_i32_420
  let v1242 : Index := Scalar.indexCast v1241
  ![v1242.toNat]

def k0_chk2 (v1245 : IVec S16 32) : Prop :=
  (∀ a x, ((![v1245] : Fin 1 → IVec S16 32) a x).toNat < S8192.size a)
theorem k0_idx2_inb : ∀ (v1245 : IVec S16 32) (k0_hw2 : k0_chk2 v1245), ∀ a x, ((![v1245] : Fin 1 → IVec S16 32) a x).toNat < S8192.size a := fun v1245 k0_hw2 => k0_hw2
def k0_off7 (k0_t2 : Fin k0_t2_loop.trips) : Fin 1 → Nat :=
  let c0_i32_5 : BitVec 32 := 0#32
  let c1_i32_6 : BitVec 32 := 1#32
  let arg20 : BitVec 32 := Scf.iv c0_i32_5 c1_i32_6 k0_t2
  let c4_i32_422 : BitVec 32 := 4#32
  let v1246 : BitVec 32 := Scalar.muli arg20 c4_i32_422
  let c2_i32_423 : BitVec 32 := 2#32
  let v1247 : BitVec 32 := Scalar.addi v1246 c2_i32_423
  let c16_i32_424 : BitVec 32 := 16#32
  let v1248 : BitVec 32 := Scalar.muli v1247 c16_i32_424
  let v1249 : Index := Scalar.indexCast v1248
  ![v1249.toNat]

def k0_chk3 (v1252 : IVec S16 32) : Prop :=
  (∀ a x, ((![v1252] : Fin 1 → IVec S16 32) a x).toNat < S8192.size a)
theorem k0_idx3_inb : ∀ (v1252 : IVec S16 32) (k0_hw3 : k0_chk3 v1252), ∀ a x, ((![v1252] : Fin 1 → IVec S16 32) a x).toNat < S8192.size a := fun v1252 k0_hw3 => k0_hw3
def k0_off8 (k0_t2 : Fin k0_t2_loop.trips) : Fin 1 → Nat :=
  let c0_i32_5 : BitVec 32 := 0#32
  let c1_i32_6 : BitVec 32 := 1#32
  let arg20 : BitVec 32 := Scf.iv c0_i32_5 c1_i32_6 k0_t2
  let c4_i32_426 : BitVec 32 := 4#32
  let v1253 : BitVec 32 := Scalar.muli arg20 c4_i32_426
  let c3_i32_427 : BitVec 32 := 3#32
  let v1254 : BitVec 32 := Scalar.addi v1253 c3_i32_427
  let c16_i32_428 : BitVec 32 := 16#32
  let v1255 : BitVec 32 := Scalar.muli v1254 c16_i32_428
  let v1256 : Index := Scalar.indexCast v1255
  ![v1256.toNat]

def k0_chk4 (v1259 : IVec S16 32) : Prop :=
  (∀ a x, ((![v1259] : Fin 1 → IVec S16 32) a x).toNat < S8192.size a)
theorem k0_idx4_inb : ∀ (v1259 : IVec S16 32) (k0_hw4 : k0_chk4 v1259), ∀ a x, ((![v1259] : Fin 1 → IVec S16 32) a x).toNat < S8192.size a := fun v1259 k0_hw4 => k0_hw4
@[reducible] def k0_t3_loop : Scf.Loop 32 :=
  let c0_i32_11 : BitVec 32 := 0#32
  let c512_i32_12 : BitVec 32 := 512#32
  let v10 : BitVec 32 := Scalar.addi c0_i32_11 c512_i32_12
  let c1_i32_13 : BitVec 32 := 1#32
  ⟨c0_i32_11, v10, c1_i32_13⟩

def k0_chk5 (v1236 : IVec S16 32) : Prop :=
  (∀ a x, ((![v1236] : Fin 1 → IVec S16 32) a x).toNat < S8192.size a)
theorem k0_idx5_inb : ∀ (v1236 : IVec S16 32) (k0_hw5 : k0_chk5 v1236), ∀ a x, ((![v1236] : Fin 1 → IVec S16 32) a x).toNat < S8192.size a := fun v1236 k0_hw5 => k0_hw5
@[reducible] def k0_t4_loop : Scf.Loop 32 :=
  let c0_i32_16 : BitVec 32 := 0#32
  let c1280_i32_17 : BitVec 32 := 1280#32
  let v14 : BitVec 32 := Scalar.addi c0_i32_16 c1280_i32_17
  let c1_i32_18 : BitVec 32 := 1#32
  ⟨c0_i32_16, v14, c1_i32_18⟩
def k0_off9 (k0_t4 : Fin k0_t4_loop.trips) : Fin 1 → Nat :=
  let c0_i32_16 : BitVec 32 := 0#32
  let c1_i32_18 : BitVec 32 := 1#32
  let arg20 : BitVec 32 := Scf.iv c0_i32_16 c1_i32_18 k0_t4
  let c4_i32_414 : BitVec 32 := 4#32
  let v1232 : BitVec 32 := Scalar.muli arg20 c4_i32_414
  let c0_i32_415 : BitVec 32 := 0#32
  let v1233 : BitVec 32 := Scalar.addi v1232 c0_i32_415
  let c16_i32_416 : BitVec 32 := 16#32
  let v1234 : BitVec 32 := Scalar.muli v1233 c16_i32_416
  let v1235 : Index := Scalar.indexCast v1234
  ![v1235.toNat]

def k0_chk6 (v1247 : IVec S16 32) : Prop :=
  (∀ a x, ((![v1247] : Fin 1 → IVec S16 32) a x).toNat < S4128.size a)
theorem k0_idx6_inb : ∀ (v1247 : IVec S16 32) (k0_hw6 : k0_chk6 v1247), ∀ a x, ((![v1247] : Fin 1 → IVec S16 32) a x).toNat < S4128.size a := fun v1247 k0_hw6 => k0_hw6

def k0_chk7 (v1257 : IVec S16 32) : Prop :=
  (∀ a x, ((![v1257] : Fin 1 → IVec S16 32) a x).toNat < S4128.size a)
theorem k0_idx7_inb : ∀ (v1257 : IVec S16 32) (k0_hw7 : k0_chk7 v1257), ∀ a x, ((![v1257] : Fin 1 → IVec S16 32) a x).toNat < S4128.size a := fun v1257 k0_hw7 => k0_hw7
def k0_off10 (k0_t4 : Fin k0_t4_loop.trips) : Fin 1 → Nat :=
  let c0_i32_16 : BitVec 32 := 0#32
  let c1_i32_18 : BitVec 32 := 1#32
  let arg20 : BitVec 32 := Scf.iv c0_i32_16 c1_i32_18 k0_t4
  let c4_i32_426 : BitVec 32 := 4#32
  let v1265 : BitVec 32 := Scalar.muli arg20 c4_i32_426
  let c1_i32_427 : BitVec 32 := 1#32
  let v1266 : BitVec 32 := Scalar.addi v1265 c1_i32_427
  let c16_i32_428 : BitVec 32 := 16#32
  let v1267 : BitVec 32 := Scalar.muli v1266 c16_i32_428
  let v1268 : Index := Scalar.indexCast v1267
  ![v1268.toNat]

def k0_chk8 (v1280 : IVec S16 32) : Prop :=
  (∀ a x, ((![v1280] : Fin 1 → IVec S16 32) a x).toNat < S4128.size a)
theorem k0_idx8_inb : ∀ (v1280 : IVec S16 32) (k0_hw8 : k0_chk8 v1280), ∀ a x, ((![v1280] : Fin 1 → IVec S16 32) a x).toNat < S4128.size a := fun v1280 k0_hw8 => k0_hw8

def k0_chk9 (v1290 : IVec S16 32) : Prop :=
  (∀ a x, ((![v1290] : Fin 1 → IVec S16 32) a x).toNat < S4128.size a)
theorem k0_idx9_inb : ∀ (v1290 : IVec S16 32) (k0_hw9 : k0_chk9 v1290), ∀ a x, ((![v1290] : Fin 1 → IVec S16 32) a x).toNat < S4128.size a := fun v1290 k0_hw9 => k0_hw9
def k0_off11 (k0_t4 : Fin k0_t4_loop.trips) : Fin 1 → Nat :=
  let c0_i32_16 : BitVec 32 := 0#32
  let c1_i32_18 : BitVec 32 := 1#32
  let arg20 : BitVec 32 := Scf.iv c0_i32_16 c1_i32_18 k0_t4
  let c4_i32_439 : BitVec 32 := 4#32
  let v1298 : BitVec 32 := Scalar.muli arg20 c4_i32_439
  let c2_i32_440 : BitVec 32 := 2#32
  let v1299 : BitVec 32 := Scalar.addi v1298 c2_i32_440
  let c16_i32_441 : BitVec 32 := 16#32
  let v1300 : BitVec 32 := Scalar.muli v1299 c16_i32_441
  let v1301 : Index := Scalar.indexCast v1300
  ![v1301.toNat]

def k0_chk10 (v1313 : IVec S16 32) : Prop :=
  (∀ a x, ((![v1313] : Fin 1 → IVec S16 32) a x).toNat < S4128.size a)
theorem k0_idx10_inb : ∀ (v1313 : IVec S16 32) (k0_hw10 : k0_chk10 v1313), ∀ a x, ((![v1313] : Fin 1 → IVec S16 32) a x).toNat < S4128.size a := fun v1313 k0_hw10 => k0_hw10

def k0_chk11 (v1323 : IVec S16 32) : Prop :=
  (∀ a x, ((![v1323] : Fin 1 → IVec S16 32) a x).toNat < S4128.size a)
theorem k0_idx11_inb : ∀ (v1323 : IVec S16 32) (k0_hw11 : k0_chk11 v1323), ∀ a x, ((![v1323] : Fin 1 → IVec S16 32) a x).toNat < S4128.size a := fun v1323 k0_hw11 => k0_hw11
def k0_off12 (k0_t4 : Fin k0_t4_loop.trips) : Fin 1 → Nat :=
  let c0_i32_16 : BitVec 32 := 0#32
  let c1_i32_18 : BitVec 32 := 1#32
  let arg20 : BitVec 32 := Scf.iv c0_i32_16 c1_i32_18 k0_t4
  let c4_i32_452 : BitVec 32 := 4#32
  let v1331 : BitVec 32 := Scalar.muli arg20 c4_i32_452
  let c3_i32_453 : BitVec 32 := 3#32
  let v1332 : BitVec 32 := Scalar.addi v1331 c3_i32_453
  let c16_i32_454 : BitVec 32 := 16#32
  let v1333 : BitVec 32 := Scalar.muli v1332 c16_i32_454
  let v1334 : Index := Scalar.indexCast v1333
  ![v1334.toNat]

def k0_chk12 (v1346 : IVec S16 32) : Prop :=
  (∀ a x, ((![v1346] : Fin 1 → IVec S16 32) a x).toNat < S4128.size a)
theorem k0_idx12_inb : ∀ (v1346 : IVec S16 32) (k0_hw12 : k0_chk12 v1346), ∀ a x, ((![v1346] : Fin 1 → IVec S16 32) a x).toNat < S4128.size a := fun v1346 k0_hw12 => k0_hw12

def k0_chk13 (v1356 : IVec S16 32) : Prop :=
  (∀ a x, ((![v1356] : Fin 1 → IVec S16 32) a x).toNat < S4128.size a)
theorem k0_idx13_inb : ∀ (v1356 : IVec S16 32) (k0_hw13 : k0_chk13 v1356), ∀ a x, ((![v1356] : Fin 1 → IVec S16 32) a x).toNat < S4128.size a := fun v1356 k0_hw13 => k0_hw13
def k0_off13 (v15 : BitVec 32) : Fin 1 → Nat :=
  let c4096_i32 : BitVec 32 := 4096#32
  let v16 : BitVec 32 := Scalar.minsi v15 c4096_i32
  let v17 : Index := Scalar.indexCast v16
  ![v17.toNat]

@[reducible] def k0_t5_loop : Scf.Loop 32 :=
  let c0_i32_22 : BitVec 32 := 0#32
  let c32_i32 : BitVec 32 := 32#32
  let v22 : BitVec 32 := Scalar.addi c0_i32_22 c32_i32
  let c1_i32_23 : BitVec 32 := 1#32
  ⟨c0_i32_22, v22, c1_i32_23⟩
def k0_off14 (k0_t5 : Fin k0_t5_loop.trips) : Fin 1 → Nat :=
  let c0_i32_22 : BitVec 32 := 0#32
  let c1_i32_23 : BitVec 32 := 1#32
  let arg20 : BitVec 32 := Scf.iv c0_i32_22 c1_i32_23 k0_t5
  let c16_i32_414 : BitVec 32 := 16#32
  let v1232 : BitVec 32 := Scalar.muli arg20 c16_i32_414
  let v1233 : Index := Scalar.indexCast v1232
  ![v1233.toNat]
@[reducible] def k0_t6_loop (v15 : BitVec 32) : Scf.Loop 32 :=
  let c0_i32_25 : BitVec 32 := 0#32
  let c4096_i32 : BitVec 32 := 4096#32
  let v16 : BitVec 32 := Scalar.minsi v15 c4096_i32
  let c15_i32 : BitVec 32 := 15#32
  let v19 : BitVec 32 := Scalar.addi v16 c15_i32
  let c4_i32 : BitVec 32 := 4#32
  let v20 : BitVec 32 := Scalar.shrsi v19 c4_i32
  let v25 : BitVec 32 := Scalar.subi v20 c0_i32_25
  let c1_i32_27 : BitVec 32 := 1#32
  let v27 : BitVec 32 := Scalar.divsi v25 c1_i32_27
  let v28 : BitVec 32 := Scalar.muli v27 c1_i32_27
  let v29 : BitVec 32 := Scalar.addi c0_i32_25 v28
  let c1_i32_28 : BitVec 32 := 1#32
  ⟨c0_i32_25, v29, c1_i32_28⟩
def k0_off15 (v15 : BitVec 32) (k0_t6 : Fin (k0_t6_loop v15).trips) : Fin 1 → Nat :=
  let c0_i32_25 : BitVec 32 := 0#32
  let c1_i32_28 : BitVec 32 := 1#32
  let arg20 : BitVec 32 := Scf.iv c0_i32_25 c1_i32_28 k0_t6
  let c16_i32_414 : BitVec 32 := 16#32
  let v1232 : BitVec 32 := Scalar.muli arg20 c16_i32_414
  let v1233 : Index := Scalar.indexCast v1232
  ![v1233.toNat]

def k0_chk15 (v1242 : IVec S16 32) : Prop :=
  (∀ a x, ((![v1242] : Fin 1 → IVec S16 32) a x).toNat < S8192.size a)
theorem k0_idx14_inb : ∀ (v1242 : IVec S16 32) (k0_hw15 : k0_chk15 v1242), ∀ a x, ((![v1242] : Fin 1 → IVec S16 32) a x).toNat < S8192.size a := fun v1242 k0_hw15 => k0_hw15
@[reducible] def k0_t7_loop (v15 : BitVec 32) : Scf.Loop 32 :=
  let c0_i32_25 : BitVec 32 := 0#32
  let c4096_i32 : BitVec 32 := 4096#32
  let v16 : BitVec 32 := Scalar.minsi v15 c4096_i32
  let c15_i32 : BitVec 32 := 15#32
  let v19 : BitVec 32 := Scalar.addi v16 c15_i32
  let c4_i32 : BitVec 32 := 4#32
  let v20 : BitVec 32 := Scalar.shrsi v19 c4_i32
  let v25 : BitVec 32 := Scalar.subi v20 c0_i32_25
  let c1_i32_27 : BitVec 32 := 1#32
  let v27 : BitVec 32 := Scalar.divsi v25 c1_i32_27
  let v28 : BitVec 32 := Scalar.muli v27 c1_i32_27
  let v29 : BitVec 32 := Scalar.addi c0_i32_25 v28
  let v26 : BitVec 32 := Scalar.addi c0_i32_25 v25
  let c1_i32_29 : BitVec 32 := 1#32
  ⟨v29, v26, c1_i32_29⟩
def k0_off16 (v15 : BitVec 32) (k0_t7 : Fin (k0_t7_loop v15).trips) : Fin 1 → Nat :=
  let c0_i32_25 : BitVec 32 := 0#32
  let c4096_i32 : BitVec 32 := 4096#32
  let v16 : BitVec 32 := Scalar.minsi v15 c4096_i32
  let c15_i32 : BitVec 32 := 15#32
  let v19 : BitVec 32 := Scalar.addi v16 c15_i32
  let c4_i32 : BitVec 32 := 4#32
  let v20 : BitVec 32 := Scalar.shrsi v19 c4_i32
  let v25 : BitVec 32 := Scalar.subi v20 c0_i32_25
  let c1_i32_27 : BitVec 32 := 1#32
  let v27 : BitVec 32 := Scalar.divsi v25 c1_i32_27
  let v28 : BitVec 32 := Scalar.muli v27 c1_i32_27
  let v29 : BitVec 32 := Scalar.addi c0_i32_25 v28
  let c1_i32_29 : BitVec 32 := 1#32
  let arg20 : BitVec 32 := Scf.iv v29 c1_i32_29 k0_t7
  let c16_i32_414 : BitVec 32 := 16#32
  let v1232 : BitVec 32 := Scalar.muli arg20 c16_i32_414
  let v1233 : Index := Scalar.indexCast v1232
  ![v1233.toNat]

def k0_chk16 (v1242 : IVec S16 32) : Prop :=
  (∀ a x, ((![v1242] : Fin 1 → IVec S16 32) a x).toNat < S8192.size a)
theorem k0_idx15_inb : ∀ (v1242 : IVec S16 32) (k0_hw16 : k0_chk16 v1242), ∀ a x, ((![v1242] : Fin 1 → IVec S16 32) a x).toNat < S8192.size a := fun v1242 k0_hw16 => k0_hw16
@[reducible] def k0_t8_loop : Scf.Loop 32 :=
  let c0_i32_34 : BitVec 32 := 0#32
  let c32_i32_35 : BitVec 32 := 32#32
  let v33 : BitVec 32 := Scalar.addi c0_i32_34 c32_i32_35
  let c1_i32_36 : BitVec 32 := 1#32
  ⟨c0_i32_34, v33, c1_i32_36⟩

def k0_chk17 (v1236 : IVec S16 32) : Prop :=
  (∀ a x, ((![v1236] : Fin 1 → IVec S16 32) a x).toNat < S8192.size a)
theorem k0_idx16_inb : ∀ (v1236 : IVec S16 32) (k0_hw17 : k0_chk17 v1236), ∀ a x, ((![v1236] : Fin 1 → IVec S16 32) a x).toNat < S8192.size a := fun v1236 k0_hw17 => k0_hw17
@[reducible] def k0_t9_loop : Scf.Loop 32 :=
  let c0_i32_40 : BitVec 32 := 0#32
  let c16_i32 : BitVec 32 := 16#32
  let v38 : BitVec 32 := Scalar.addi c0_i32_40 c16_i32
  let c1_i32_41 : BitVec 32 := 1#32
  ⟨c0_i32_40, v38, c1_i32_41⟩
def k0_off17 (k0_t9 : Fin k0_t9_loop.trips) : Fin 1 → Nat :=
  let c0_i32_40 : BitVec 32 := 0#32
  let c1_i32_41 : BitVec 32 := 1#32
  let arg20 : BitVec 32 := Scf.iv c0_i32_40 c1_i32_41 k0_t9
  let c16_i32_414 : BitVec 32 := 16#32
  let v1232 : BitVec 32 := Scalar.muli arg20 c16_i32_414
  let v1233 : Index := Scalar.indexCast v1232
  ![v1233.toNat]
@[reducible] def k0_t10_loop (v15 : BitVec 32) : Scf.Loop 32 :=
  let c0_i32_43 : BitVec 32 := 0#32
  let c4096_i32 : BitVec 32 := 4096#32
  let v16 : BitVec 32 := Scalar.minsi v15 c4096_i32
  let c15_i32 : BitVec 32 := 15#32
  let v19 : BitVec 32 := Scalar.addi v16 c15_i32
  let c4_i32 : BitVec 32 := 4#32
  let v20 : BitVec 32 := Scalar.shrsi v19 c4_i32
  let v41 : BitVec 32 := Scalar.subi v20 c0_i32_43
  let c1_i32_45 : BitVec 32 := 1#32
  let v43 : BitVec 32 := Scalar.divsi v41 c1_i32_45
  let v44 : BitVec 32 := Scalar.muli v43 c1_i32_45
  let v45 : BitVec 32 := Scalar.addi c0_i32_43 v44
  let c1_i32_46 : BitVec 32 := 1#32
  ⟨c0_i32_43, v45, c1_i32_46⟩
def k0_off18 (v15 : BitVec 32) (k0_t10 : Fin (k0_t10_loop v15).trips) : Fin 1 → Nat :=
  let c0_i32_43 : BitVec 32 := 0#32
  let c1_i32_46 : BitVec 32 := 1#32
  let arg20 : BitVec 32 := Scf.iv c0_i32_43 c1_i32_46 k0_t10
  let c16_i32_414 : BitVec 32 := 16#32
  let v1232 : BitVec 32 := Scalar.muli arg20 c16_i32_414
  let v1233 : Index := Scalar.indexCast v1232
  ![v1233.toNat]

def k0_chk18 (v1240 : IVec S16 32) : Prop :=
  (∀ a x, ((![v1240] : Fin 1 → IVec S16 32) a x).toNat < S8192.size a)
theorem k0_idx17_inb : ∀ (v1240 : IVec S16 32) (k0_hw18 : k0_chk18 v1240), ∀ a x, ((![v1240] : Fin 1 → IVec S16 32) a x).toNat < S8192.size a := fun v1240 k0_hw18 => k0_hw18
@[reducible] def k0_t11_loop (v15 : BitVec 32) : Scf.Loop 32 :=
  let c0_i32_43 : BitVec 32 := 0#32
  let c4096_i32 : BitVec 32 := 4096#32
  let v16 : BitVec 32 := Scalar.minsi v15 c4096_i32
  let c15_i32 : BitVec 32 := 15#32
  let v19 : BitVec 32 := Scalar.addi v16 c15_i32
  let c4_i32 : BitVec 32 := 4#32
  let v20 : BitVec 32 := Scalar.shrsi v19 c4_i32
  let v41 : BitVec 32 := Scalar.subi v20 c0_i32_43
  let c1_i32_45 : BitVec 32 := 1#32
  let v43 : BitVec 32 := Scalar.divsi v41 c1_i32_45
  let v44 : BitVec 32 := Scalar.muli v43 c1_i32_45
  let v45 : BitVec 32 := Scalar.addi c0_i32_43 v44
  let v42 : BitVec 32 := Scalar.addi c0_i32_43 v41
  let c1_i32_47 : BitVec 32 := 1#32
  ⟨v45, v42, c1_i32_47⟩
def k0_off19 (v15 : BitVec 32) (k0_t11 : Fin (k0_t11_loop v15).trips) : Fin 1 → Nat :=
  let c0_i32_43 : BitVec 32 := 0#32
  let c4096_i32 : BitVec 32 := 4096#32
  let v16 : BitVec 32 := Scalar.minsi v15 c4096_i32
  let c15_i32 : BitVec 32 := 15#32
  let v19 : BitVec 32 := Scalar.addi v16 c15_i32
  let c4_i32 : BitVec 32 := 4#32
  let v20 : BitVec 32 := Scalar.shrsi v19 c4_i32
  let v41 : BitVec 32 := Scalar.subi v20 c0_i32_43
  let c1_i32_45 : BitVec 32 := 1#32
  let v43 : BitVec 32 := Scalar.divsi v41 c1_i32_45
  let v44 : BitVec 32 := Scalar.muli v43 c1_i32_45
  let v45 : BitVec 32 := Scalar.addi c0_i32_43 v44
  let c1_i32_47 : BitVec 32 := 1#32
  let arg20 : BitVec 32 := Scf.iv v45 c1_i32_47 k0_t11
  let c16_i32_414 : BitVec 32 := 16#32
  let v1232 : BitVec 32 := Scalar.muli arg20 c16_i32_414
  let v1233 : Index := Scalar.indexCast v1232
  ![v1233.toNat]

def k0_chk19 (v1240 : IVec S16 32) : Prop :=
  (∀ a x, ((![v1240] : Fin 1 → IVec S16 32) a x).toNat < S8192.size a)
theorem k0_idx18_inb : ∀ (v1240 : IVec S16 32) (k0_hw19 : k0_chk19 v1240), ∀ a x, ((![v1240] : Fin 1 → IVec S16 32) a x).toNat < S8192.size a := fun v1240 k0_hw19 => k0_hw19
@[reducible] def k0_t12_loop : Scf.Loop 32 :=
  let c0_i32_52 : BitVec 32 := 0#32
  let c16_i32_53 : BitVec 32 := 16#32
  let v49 : BitVec 32 := Scalar.addi c0_i32_52 c16_i32_53
  let c1_i32_54 : BitVec 32 := 1#32
  ⟨c0_i32_52, v49, c1_i32_54⟩

def k0_chk20 (v1236 : IVec S16 32) : Prop :=
  (∀ a x, ((![v1236] : Fin 1 → IVec S16 32) a x).toNat < S8192.size a)
theorem k0_idx19_inb : ∀ (v1236 : IVec S16 32) (k0_hw20 : k0_chk20 v1236), ∀ a x, ((![v1236] : Fin 1 → IVec S16 32) a x).toNat < S8192.size a := fun v1236 k0_hw20 => k0_hw20
@[reducible] def k0_t13_loop (v15 : BitVec 32) : Scf.Loop 32 :=
  let c0_i32_57 : BitVec 32 := 0#32
  let c4096_i32 : BitVec 32 := 4096#32
  let v16 : BitVec 32 := Scalar.minsi v15 c4096_i32
  let c15_i32 : BitVec 32 := 15#32
  let v19 : BitVec 32 := Scalar.addi v16 c15_i32
  let c4_i32 : BitVec 32 := 4#32
  let v20 : BitVec 32 := Scalar.shrsi v19 c4_i32
  let v76 : BitVec 32 := Scalar.subi v20 c0_i32_57
  let c1_i32_60 : BitVec 32 := 1#32
  let v78 : BitVec 32 := Scalar.divsi v76 c1_i32_60
  let v79 : BitVec 32 := Scalar.muli v78 c1_i32_60
  let v80 : BitVec 32 := Scalar.addi c0_i32_57 v79
  let c1_i32_61 : BitVec 32 := 1#32
  ⟨c0_i32_57, v80, c1_i32_61⟩
def k0_off20 (v15 : BitVec 32) (k0_t13 : Fin (k0_t13_loop v15).trips) : Fin 1 → Nat :=
  let c0_i32_57 : BitVec 32 := 0#32
  let c1_i32_61 : BitVec 32 := 1#32
  let arg20 : BitVec 32 := Scf.iv c0_i32_57 c1_i32_61 k0_t13
  let c16_i32_414 : BitVec 32 := 16#32
  let v1232 : BitVec 32 := Scalar.muli arg20 c16_i32_414
  let v1233 : Index := Scalar.indexCast v1232
  ![v1233.toNat]

def k0_chk21 (v1249 : IVec S16 32) : Prop :=
  (∀ a x, ((![v1249] : Fin 1 → IVec S16 32) a x).toNat < S320.size a)
theorem k0_idx20_inb : ∀ (v1249 : IVec S16 32) (k0_hw21 : k0_chk21 v1249), ∀ a x, ((![v1249] : Fin 1 → IVec S16 32) a x).toNat < S320.size a := fun v1249 k0_hw21 => k0_hw21

def k0_chk22 (v1257 : IVec S16 32) : Prop :=
  (∀ a x, ((![v1257] : Fin 1 → IVec S16 32) a x).toNat < S320.size a)
theorem k0_idx21_inb : ∀ (v1257 : IVec S16 32) (k0_hw22 : k0_chk22 v1257), ∀ a x, ((![v1257] : Fin 1 → IVec S16 32) a x).toNat < S320.size a := fun v1257 k0_hw22 => k0_hw22
def k0_cond1 (v11_3 : BitVec 32) (v34_3 : BitVec 32) (v50_3 : BitVec 32) (arg22 : BitVec 32) : BitVec 1 :=
  let c300_i32_56 : BitVec 32 := 300#32
  let v53 : BitVec 32 := Scalar.addi v11_3 v34_3
  let v54 : BitVec 32 := Scalar.addi v53 v50_3
  let v55 : BitVec 32 := Scalar.subi c300_i32_56 v54
  let v1265 : BitVec 1 := Scalar.cmpi .slt arg22 v55
  let v1266 : BitVec 32 := Scalar.extui v1265
  let c0_i32_424 : BitVec 32 := 0#32
  let v1267 : BitVec 1 := Scalar.cmpi .ne v1266 c0_i32_424
  v1267

def k0_chk23 (v11_3 : BitVec 32) (v34_3 : BitVec 32) (v50_3 : BitVec 32) (arg22 : BitVec 32) (v1284 : IVec S16 32) : Prop :=
  (∀ (k0_h1 : k0_cond1 v11_3 v34_3 v50_3 arg22 = 1#1), ∀ a x, ((![v1284] : Fin 1 → IVec S16 32) a x).toNat < S320.size a)
theorem k0_idx22_inb : ∀ (v11_3 : BitVec 32) (v34_3 : BitVec 32) (v50_3 : BitVec 32) (arg22 : BitVec 32) (v1284 : IVec S16 32) (k0_hw23 : k0_chk23 v11_3 v34_3 v50_3 arg22 v1284), ∀ (k0_h1 : k0_cond1 v11_3 v34_3 v50_3 arg22 = 1#1), ∀ a x, ((![v1284] : Fin 1 → IVec S16 32) a x).toNat < S320.size a := fun v11_3 v34_3 v50_3 arg22 v1284 k0_hw23 k0_h1 => k0_hw23 k0_h1

def k0_chk24 (v11_3 : BitVec 32) (v34_3 : BitVec 32) (v50_3 : BitVec 32) (arg22 : BitVec 32) (v1292 : IVec S16 32) : Prop :=
  (∀ (k0_h1 : k0_cond1 v11_3 v34_3 v50_3 arg22 = 1#1), ∀ a x, ((![v1292] : Fin 1 → IVec S16 32) a x).toNat < S320.size a)
theorem k0_idx23_inb : ∀ (v11_3 : BitVec 32) (v34_3 : BitVec 32) (v50_3 : BitVec 32) (arg22 : BitVec 32) (v1292 : IVec S16 32) (k0_hw24 : k0_chk24 v11_3 v34_3 v50_3 arg22 v1292), ∀ (k0_h1 : k0_cond1 v11_3 v34_3 v50_3 arg22 = 1#1), ∀ a x, ((![v1292] : Fin 1 → IVec S16 32) a x).toNat < S320.size a := fun v11_3 v34_3 v50_3 arg22 v1292 k0_hw24 k0_h1 => k0_hw24 k0_h1
@[reducible] def k0_t14_loop (v15 : BitVec 32) : Scf.Loop 32 :=
  let c0_i32_57 : BitVec 32 := 0#32
  let c4096_i32 : BitVec 32 := 4096#32
  let v16 : BitVec 32 := Scalar.minsi v15 c4096_i32
  let c15_i32 : BitVec 32 := 15#32
  let v19 : BitVec 32 := Scalar.addi v16 c15_i32
  let c4_i32 : BitVec 32 := 4#32
  let v20 : BitVec 32 := Scalar.shrsi v19 c4_i32
  let v76 : BitVec 32 := Scalar.subi v20 c0_i32_57
  let c1_i32_60 : BitVec 32 := 1#32
  let v78 : BitVec 32 := Scalar.divsi v76 c1_i32_60
  let v79 : BitVec 32 := Scalar.muli v78 c1_i32_60
  let v80 : BitVec 32 := Scalar.addi c0_i32_57 v79
  let v77 : BitVec 32 := Scalar.addi c0_i32_57 v76
  let c1_i32_62 : BitVec 32 := 1#32
  ⟨v80, v77, c1_i32_62⟩
def k0_off21 (v15 : BitVec 32) (k0_t14 : Fin (k0_t14_loop v15).trips) : Fin 1 → Nat :=
  let c0_i32_57 : BitVec 32 := 0#32
  let c4096_i32 : BitVec 32 := 4096#32
  let v16 : BitVec 32 := Scalar.minsi v15 c4096_i32
  let c15_i32 : BitVec 32 := 15#32
  let v19 : BitVec 32 := Scalar.addi v16 c15_i32
  let c4_i32 : BitVec 32 := 4#32
  let v20 : BitVec 32 := Scalar.shrsi v19 c4_i32
  let v76 : BitVec 32 := Scalar.subi v20 c0_i32_57
  let c1_i32_60 : BitVec 32 := 1#32
  let v78 : BitVec 32 := Scalar.divsi v76 c1_i32_60
  let v79 : BitVec 32 := Scalar.muli v78 c1_i32_60
  let v80 : BitVec 32 := Scalar.addi c0_i32_57 v79
  let c1_i32_62 : BitVec 32 := 1#32
  let arg20 : BitVec 32 := Scf.iv v80 c1_i32_62 k0_t14
  let c16_i32_414 : BitVec 32 := 16#32
  let v1232 : BitVec 32 := Scalar.muli arg20 c16_i32_414
  let v1233 : Index := Scalar.indexCast v1232
  ![v1233.toNat]

def k0_chk14 (v15 : BitVec 32) : Prop :=
  (∀ a, (k0_off13 v15) a + S16.size a ≤ S4128.size a) ∧
  ((k0_t6_loop v15).OK) ∧
  (∀ k0_t6 : Fin (k0_t6_loop v15).trips, ∀ a, (k0_off15 v15 k0_t6) a + S16.size a ≤ S4128.size a) ∧
  ((k0_t7_loop v15).OK) ∧
  (∀ k0_t7 : Fin (k0_t7_loop v15).trips, ∀ a, (k0_off16 v15 k0_t7) a + S16.size a ≤ S4128.size a) ∧
  ((k0_t10_loop v15).OK) ∧
  (∀ k0_t10 : Fin (k0_t10_loop v15).trips, ∀ a, (k0_off18 v15 k0_t10) a + S16.size a ≤ S4128.size a) ∧
  ((k0_t11_loop v15).OK) ∧
  (∀ k0_t11 : Fin (k0_t11_loop v15).trips, ∀ a, (k0_off19 v15 k0_t11) a + S16.size a ≤ S4128.size a) ∧
  ((k0_t13_loop v15).OK) ∧
  (∀ k0_t13 : Fin (k0_t13_loop v15).trips, ∀ a, (k0_off20 v15 k0_t13) a + S16.size a ≤ S4128.size a) ∧
  ((k0_t14_loop v15).OK) ∧
  (∀ k0_t14 : Fin (k0_t14_loop v15).trips, ∀ a, (k0_off21 v15 k0_t14) a + S16.size a ≤ S4128.size a)
theorem k0_off13_inb : ∀ (v15 : BitVec 32) (k0_hw14 : k0_chk14 v15), ∀ a, (k0_off13 v15) a + S16.size a ≤ S4128.size a := fun v15 k0_hw14 => k0_hw14.1
theorem k0_t6_ok : ∀ (v15 : BitVec 32) (k0_hw14 : k0_chk14 v15), (k0_t6_loop v15).OK := fun v15 k0_hw14 => k0_hw14.2.1
theorem k0_off15_inb : ∀ (v15 : BitVec 32) (k0_hw14 : k0_chk14 v15) (k0_t6 : Fin (k0_t6_loop v15).trips), ∀ a, (k0_off15 v15 k0_t6) a + S16.size a ≤ S4128.size a := fun v15 k0_hw14 k0_t6 => k0_hw14.2.2.1 k0_t6
theorem k0_t7_ok : ∀ (v15 : BitVec 32) (k0_hw14 : k0_chk14 v15), (k0_t7_loop v15).OK := fun v15 k0_hw14 => k0_hw14.2.2.2.1
theorem k0_off16_inb : ∀ (v15 : BitVec 32) (k0_hw14 : k0_chk14 v15) (k0_t7 : Fin (k0_t7_loop v15).trips), ∀ a, (k0_off16 v15 k0_t7) a + S16.size a ≤ S4128.size a := fun v15 k0_hw14 k0_t7 => k0_hw14.2.2.2.2.1 k0_t7
theorem k0_t10_ok : ∀ (v15 : BitVec 32) (k0_hw14 : k0_chk14 v15), (k0_t10_loop v15).OK := fun v15 k0_hw14 => k0_hw14.2.2.2.2.2.1
theorem k0_off18_inb : ∀ (v15 : BitVec 32) (k0_hw14 : k0_chk14 v15) (k0_t10 : Fin (k0_t10_loop v15).trips), ∀ a, (k0_off18 v15 k0_t10) a + S16.size a ≤ S4128.size a := fun v15 k0_hw14 k0_t10 => k0_hw14.2.2.2.2.2.2.1 k0_t10
theorem k0_t11_ok : ∀ (v15 : BitVec 32) (k0_hw14 : k0_chk14 v15), (k0_t11_loop v15).OK := fun v15 k0_hw14 => k0_hw14.2.2.2.2.2.2.2.1
theorem k0_off19_inb : ∀ (v15 : BitVec 32) (k0_hw14 : k0_chk14 v15) (k0_t11 : Fin (k0_t11_loop v15).trips), ∀ a, (k0_off19 v15 k0_t11) a + S16.size a ≤ S4128.size a := fun v15 k0_hw14 k0_t11 => k0_hw14.2.2.2.2.2.2.2.2.1 k0_t11
theorem k0_t13_ok : ∀ (v15 : BitVec 32) (k0_hw14 : k0_chk14 v15), (k0_t13_loop v15).OK := fun v15 k0_hw14 => k0_hw14.2.2.2.2.2.2.2.2.2.1
theorem k0_off20_inb : ∀ (v15 : BitVec 32) (k0_hw14 : k0_chk14 v15) (k0_t13 : Fin (k0_t13_loop v15).trips), ∀ a, (k0_off20 v15 k0_t13) a + S16.size a ≤ S4128.size a := fun v15 k0_hw14 k0_t13 => k0_hw14.2.2.2.2.2.2.2.2.2.2.1 k0_t13
theorem k0_t14_ok : ∀ (v15 : BitVec 32) (k0_hw14 : k0_chk14 v15), (k0_t14_loop v15).OK := fun v15 k0_hw14 => k0_hw14.2.2.2.2.2.2.2.2.2.2.2.1
theorem k0_off21_inb : ∀ (v15 : BitVec 32) (k0_hw14 : k0_chk14 v15) (k0_t14 : Fin (k0_t14_loop v15).trips), ∀ a, (k0_off21 v15 k0_t14) a + S16.size a ≤ S4128.size a := fun v15 k0_hw14 k0_t14 => k0_hw14.2.2.2.2.2.2.2.2.2.2.2.2 k0_t14

def k0_chk25 (v1249 : IVec S16 32) : Prop :=
  (∀ a x, ((![v1249] : Fin 1 → IVec S16 32) a x).toNat < S320.size a)
theorem k0_idx24_inb : ∀ (v1249 : IVec S16 32) (k0_hw25 : k0_chk25 v1249), ∀ a x, ((![v1249] : Fin 1 → IVec S16 32) a x).toNat < S320.size a := fun v1249 k0_hw25 => k0_hw25

def k0_chk26 (v1257 : IVec S16 32) : Prop :=
  (∀ a x, ((![v1257] : Fin 1 → IVec S16 32) a x).toNat < S320.size a)
theorem k0_idx25_inb : ∀ (v1257 : IVec S16 32) (k0_hw26 : k0_chk26 v1257), ∀ a x, ((![v1257] : Fin 1 → IVec S16 32) a x).toNat < S320.size a := fun v1257 k0_hw26 => k0_hw26
def k0_cond2 (v11_3 : BitVec 32) (v34_3 : BitVec 32) (v50_3 : BitVec 32) (arg22 : BitVec 32) : BitVec 1 :=
  let c300_i32_56 : BitVec 32 := 300#32
  let v53 : BitVec 32 := Scalar.addi v11_3 v34_3
  let v54 : BitVec 32 := Scalar.addi v53 v50_3
  let v55 : BitVec 32 := Scalar.subi c300_i32_56 v54
  let v1265 : BitVec 1 := Scalar.cmpi .slt arg22 v55
  let v1266 : BitVec 32 := Scalar.extui v1265
  let c0_i32_424 : BitVec 32 := 0#32
  let v1267 : BitVec 1 := Scalar.cmpi .ne v1266 c0_i32_424
  v1267

def k0_chk27 (v11_3 : BitVec 32) (v34_3 : BitVec 32) (v50_3 : BitVec 32) (arg22 : BitVec 32) (v1284 : IVec S16 32) : Prop :=
  (∀ (k0_h2 : k0_cond2 v11_3 v34_3 v50_3 arg22 = 1#1), ∀ a x, ((![v1284] : Fin 1 → IVec S16 32) a x).toNat < S320.size a)
theorem k0_idx26_inb : ∀ (v11_3 : BitVec 32) (v34_3 : BitVec 32) (v50_3 : BitVec 32) (arg22 : BitVec 32) (v1284 : IVec S16 32) (k0_hw27 : k0_chk27 v11_3 v34_3 v50_3 arg22 v1284), ∀ (k0_h2 : k0_cond2 v11_3 v34_3 v50_3 arg22 = 1#1), ∀ a x, ((![v1284] : Fin 1 → IVec S16 32) a x).toNat < S320.size a := fun v11_3 v34_3 v50_3 arg22 v1284 k0_hw27 k0_h2 => k0_hw27 k0_h2

def k0_chk28 (v11_3 : BitVec 32) (v34_3 : BitVec 32) (v50_3 : BitVec 32) (arg22 : BitVec 32) (v1292 : IVec S16 32) : Prop :=
  (∀ (k0_h2 : k0_cond2 v11_3 v34_3 v50_3 arg22 = 1#1), ∀ a x, ((![v1292] : Fin 1 → IVec S16 32) a x).toNat < S320.size a)
theorem k0_idx27_inb : ∀ (v11_3 : BitVec 32) (v34_3 : BitVec 32) (v50_3 : BitVec 32) (arg22 : BitVec 32) (v1292 : IVec S16 32) (k0_hw28 : k0_chk28 v11_3 v34_3 v50_3 arg22 v1292), ∀ (k0_h2 : k0_cond2 v11_3 v34_3 v50_3 arg22 = 1#1), ∀ a x, ((![v1292] : Fin 1 → IVec S16 32) a x).toNat < S320.size a := fun v11_3 v34_3 v50_3 arg22 v1292 k0_hw28 k0_h2 => k0_hw28 k0_h2
@[reducible] def k0_t15_loop : Scf.Loop 32 :=
  let c0_i32_68 : BitVec 32 := 0#32
  let c300_i32_69 : BitVec 32 := 300#32
  let v88 : BitVec 32 := Scalar.addi c0_i32_68 c300_i32_69
  let c1_i32_70 : BitVec 32 := 1#32
  ⟨c0_i32_68, v88, c1_i32_70⟩

def k0_chk29 (v1359 : IVec S16 32) : Prop :=
  (∀ a x, ((![v1359] : Fin 1 → IVec S16 32) a x).toNat < S304.size a)
theorem k0_idx28_inb : ∀ (v1359 : IVec S16 32) (k0_hw29 : k0_chk29 v1359), ∀ a x, ((![v1359] : Fin 1 → IVec S16 32) a x).toNat < S304.size a := fun v1359 k0_hw29 => k0_hw29

def k0_chk30 (v1357 : IVec S16 32) : Prop :=
  (∀ a x, ((![v1357] : Fin 1 → IVec S16 32) a x).toNat < S320.size a)
theorem k0_idx29_inb : ∀ (v1357 : IVec S16 32) (k0_hw30 : k0_chk30 v1357), ∀ a x, ((![v1357] : Fin 1 → IVec S16 32) a x).toNat < S320.size a := fun v1357 k0_hw30 => k0_hw30

def k0_chk31 (v92 : IVec S16 32) : Prop :=
  (∀ a x, ((![v92] : Fin 1 → IVec S16 32) a x).toNat < S320.size a)
theorem k0_idx30_inb : ∀ (v92 : IVec S16 32) (k0_hw31 : k0_chk31 v92), ∀ a x, ((![v92] : Fin 1 → IVec S16 32) a x).toNat < S320.size a := fun v92 k0_hw31 => k0_hw31

def k0_chk32 (v93 : IVec S16 32) : Prop :=
  (∀ a x, ((![v93] : Fin 1 → IVec S16 32) a x).toNat < S81920.size a)
theorem k0_idx31_inb : ∀ (v93 : IVec S16 32) (k0_hw32 : k0_chk32 v93), ∀ a x, ((![v93] : Fin 1 → IVec S16 32) a x).toNat < S81920.size a := fun v93 k0_hw32 => k0_hw32

def k0_chk33 (v123 : IVec S16 32) : Prop :=
  (∀ a x, ((![v123] : Fin 1 → IVec S16 32) a x).toNat < S3600.size a)
theorem k0_idx32_inb : ∀ (v123 : IVec S16 32) (k0_hw33 : k0_chk33 v123), ∀ a x, ((![v123] : Fin 1 → IVec S16 32) a x).toNat < S3600.size a := fun v123 k0_hw33 => k0_hw33

def k0_chk34 (v126 : IVec S16 32) : Prop :=
  (∀ a x, ((![v126] : Fin 1 → IVec S16 32) a x).toNat < S3600.size a)
theorem k0_idx33_inb : ∀ (v126 : IVec S16 32) (k0_hw34 : k0_chk34 v126), ∀ a x, ((![v126] : Fin 1 → IVec S16 32) a x).toNat < S3600.size a := fun v126 k0_hw34 => k0_hw34

def k0_chk35 (v129 : IVec S16 32) : Prop :=
  (∀ a x, ((![v129] : Fin 1 → IVec S16 32) a x).toNat < S3600.size a)
theorem k0_idx34_inb : ∀ (v129 : IVec S16 32) (k0_hw35 : k0_chk35 v129), ∀ a x, ((![v129] : Fin 1 → IVec S16 32) a x).toNat < S3600.size a := fun v129 k0_hw35 => k0_hw35

def k0_chk36 (v132 : IVec S16 32) : Prop :=
  (∀ a x, ((![v132] : Fin 1 → IVec S16 32) a x).toNat < S3600.size a)
theorem k0_idx35_inb : ∀ (v132 : IVec S16 32) (k0_hw36 : k0_chk36 v132), ∀ a x, ((![v132] : Fin 1 → IVec S16 32) a x).toNat < S3600.size a := fun v132 k0_hw36 => k0_hw36

def k0_chk37 (v152 : IVec S16 32) : Prop :=
  (∀ a x, ((![v152] : Fin 1 → IVec S16 32) a x).toNat < S320.size a)
theorem k0_idx36_inb : ∀ (v152 : IVec S16 32) (k0_hw37 : k0_chk37 v152), ∀ a x, ((![v152] : Fin 1 → IVec S16 32) a x).toNat < S320.size a := fun v152 k0_hw37 => k0_hw37

def k0_chk38 (v153 : IVec S16 32) : Prop :=
  (∀ a x, ((![v153] : Fin 1 → IVec S16 32) a x).toNat < S81920.size a)
theorem k0_idx37_inb : ∀ (v153 : IVec S16 32) (k0_hw38 : k0_chk38 v153), ∀ a x, ((![v153] : Fin 1 → IVec S16 32) a x).toNat < S81920.size a := fun v153 k0_hw38 => k0_hw38

def k0_chk39 (v183 : IVec S16 32) : Prop :=
  (∀ a x, ((![v183] : Fin 1 → IVec S16 32) a x).toNat < S3600.size a)
theorem k0_idx38_inb : ∀ (v183 : IVec S16 32) (k0_hw39 : k0_chk39 v183), ∀ a x, ((![v183] : Fin 1 → IVec S16 32) a x).toNat < S3600.size a := fun v183 k0_hw39 => k0_hw39

def k0_chk40 (v186 : IVec S16 32) : Prop :=
  (∀ a x, ((![v186] : Fin 1 → IVec S16 32) a x).toNat < S3600.size a)
theorem k0_idx39_inb : ∀ (v186 : IVec S16 32) (k0_hw40 : k0_chk40 v186), ∀ a x, ((![v186] : Fin 1 → IVec S16 32) a x).toNat < S3600.size a := fun v186 k0_hw40 => k0_hw40

def k0_chk41 (v189 : IVec S16 32) : Prop :=
  (∀ a x, ((![v189] : Fin 1 → IVec S16 32) a x).toNat < S3600.size a)
theorem k0_idx40_inb : ∀ (v189 : IVec S16 32) (k0_hw41 : k0_chk41 v189), ∀ a x, ((![v189] : Fin 1 → IVec S16 32) a x).toNat < S3600.size a := fun v189 k0_hw41 => k0_hw41

def k0_chk42 (v192 : IVec S16 32) : Prop :=
  (∀ a x, ((![v192] : Fin 1 → IVec S16 32) a x).toNat < S3600.size a)
theorem k0_idx41_inb : ∀ (v192 : IVec S16 32) (k0_hw42 : k0_chk42 v192), ∀ a x, ((![v192] : Fin 1 → IVec S16 32) a x).toNat < S3600.size a := fun v192 k0_hw42 => k0_hw42

def k0_chk43 (v212 : IVec S16 32) : Prop :=
  (∀ a x, ((![v212] : Fin 1 → IVec S16 32) a x).toNat < S320.size a)
theorem k0_idx42_inb : ∀ (v212 : IVec S16 32) (k0_hw43 : k0_chk43 v212), ∀ a x, ((![v212] : Fin 1 → IVec S16 32) a x).toNat < S320.size a := fun v212 k0_hw43 => k0_hw43

def k0_chk44 (v213 : IVec S16 32) : Prop :=
  (∀ a x, ((![v213] : Fin 1 → IVec S16 32) a x).toNat < S81920.size a)
theorem k0_idx43_inb : ∀ (v213 : IVec S16 32) (k0_hw44 : k0_chk44 v213), ∀ a x, ((![v213] : Fin 1 → IVec S16 32) a x).toNat < S81920.size a := fun v213 k0_hw44 => k0_hw44

def k0_chk45 (v243 : IVec S16 32) : Prop :=
  (∀ a x, ((![v243] : Fin 1 → IVec S16 32) a x).toNat < S3600.size a)
theorem k0_idx44_inb : ∀ (v243 : IVec S16 32) (k0_hw45 : k0_chk45 v243), ∀ a x, ((![v243] : Fin 1 → IVec S16 32) a x).toNat < S3600.size a := fun v243 k0_hw45 => k0_hw45

def k0_chk46 (v246 : IVec S16 32) : Prop :=
  (∀ a x, ((![v246] : Fin 1 → IVec S16 32) a x).toNat < S3600.size a)
theorem k0_idx45_inb : ∀ (v246 : IVec S16 32) (k0_hw46 : k0_chk46 v246), ∀ a x, ((![v246] : Fin 1 → IVec S16 32) a x).toNat < S3600.size a := fun v246 k0_hw46 => k0_hw46

def k0_chk47 (v249 : IVec S16 32) : Prop :=
  (∀ a x, ((![v249] : Fin 1 → IVec S16 32) a x).toNat < S3600.size a)
theorem k0_idx46_inb : ∀ (v249 : IVec S16 32) (k0_hw47 : k0_chk47 v249), ∀ a x, ((![v249] : Fin 1 → IVec S16 32) a x).toNat < S3600.size a := fun v249 k0_hw47 => k0_hw47

def k0_chk48 (v252 : IVec S16 32) : Prop :=
  (∀ a x, ((![v252] : Fin 1 → IVec S16 32) a x).toNat < S3600.size a)
theorem k0_idx47_inb : ∀ (v252 : IVec S16 32) (k0_hw48 : k0_chk48 v252), ∀ a x, ((![v252] : Fin 1 → IVec S16 32) a x).toNat < S3600.size a := fun v252 k0_hw48 => k0_hw48

def k0_chk49 (v272 : IVec S16 32) : Prop :=
  (∀ a x, ((![v272] : Fin 1 → IVec S16 32) a x).toNat < S320.size a)
theorem k0_idx48_inb : ∀ (v272 : IVec S16 32) (k0_hw49 : k0_chk49 v272), ∀ a x, ((![v272] : Fin 1 → IVec S16 32) a x).toNat < S320.size a := fun v272 k0_hw49 => k0_hw49

def k0_chk50 (v273 : IVec S16 32) : Prop :=
  (∀ a x, ((![v273] : Fin 1 → IVec S16 32) a x).toNat < S81920.size a)
theorem k0_idx49_inb : ∀ (v273 : IVec S16 32) (k0_hw50 : k0_chk50 v273), ∀ a x, ((![v273] : Fin 1 → IVec S16 32) a x).toNat < S81920.size a := fun v273 k0_hw50 => k0_hw50

def k0_chk51 (v303 : IVec S16 32) : Prop :=
  (∀ a x, ((![v303] : Fin 1 → IVec S16 32) a x).toNat < S3600.size a)
theorem k0_idx50_inb : ∀ (v303 : IVec S16 32) (k0_hw51 : k0_chk51 v303), ∀ a x, ((![v303] : Fin 1 → IVec S16 32) a x).toNat < S3600.size a := fun v303 k0_hw51 => k0_hw51

def k0_chk52 (v306 : IVec S16 32) : Prop :=
  (∀ a x, ((![v306] : Fin 1 → IVec S16 32) a x).toNat < S3600.size a)
theorem k0_idx51_inb : ∀ (v306 : IVec S16 32) (k0_hw52 : k0_chk52 v306), ∀ a x, ((![v306] : Fin 1 → IVec S16 32) a x).toNat < S3600.size a := fun v306 k0_hw52 => k0_hw52

def k0_chk53 (v309 : IVec S16 32) : Prop :=
  (∀ a x, ((![v309] : Fin 1 → IVec S16 32) a x).toNat < S3600.size a)
theorem k0_idx52_inb : ∀ (v309 : IVec S16 32) (k0_hw53 : k0_chk53 v309), ∀ a x, ((![v309] : Fin 1 → IVec S16 32) a x).toNat < S3600.size a := fun v309 k0_hw53 => k0_hw53

def k0_chk54 (v312 : IVec S16 32) : Prop :=
  (∀ a x, ((![v312] : Fin 1 → IVec S16 32) a x).toNat < S3600.size a)
theorem k0_idx53_inb : ∀ (v312 : IVec S16 32) (k0_hw54 : k0_chk54 v312), ∀ a x, ((![v312] : Fin 1 → IVec S16 32) a x).toNat < S3600.size a := fun v312 k0_hw54 => k0_hw54

def k0_chk55 (v332 : IVec S16 32) : Prop :=
  (∀ a x, ((![v332] : Fin 1 → IVec S16 32) a x).toNat < S320.size a)
theorem k0_idx54_inb : ∀ (v332 : IVec S16 32) (k0_hw55 : k0_chk55 v332), ∀ a x, ((![v332] : Fin 1 → IVec S16 32) a x).toNat < S320.size a := fun v332 k0_hw55 => k0_hw55

def k0_chk56 (v333 : IVec S16 32) : Prop :=
  (∀ a x, ((![v333] : Fin 1 → IVec S16 32) a x).toNat < S81920.size a)
theorem k0_idx55_inb : ∀ (v333 : IVec S16 32) (k0_hw56 : k0_chk56 v333), ∀ a x, ((![v333] : Fin 1 → IVec S16 32) a x).toNat < S81920.size a := fun v333 k0_hw56 => k0_hw56

def k0_chk57 (v363 : IVec S16 32) : Prop :=
  (∀ a x, ((![v363] : Fin 1 → IVec S16 32) a x).toNat < S3600.size a)
theorem k0_idx56_inb : ∀ (v363 : IVec S16 32) (k0_hw57 : k0_chk57 v363), ∀ a x, ((![v363] : Fin 1 → IVec S16 32) a x).toNat < S3600.size a := fun v363 k0_hw57 => k0_hw57

def k0_chk58 (v366 : IVec S16 32) : Prop :=
  (∀ a x, ((![v366] : Fin 1 → IVec S16 32) a x).toNat < S3600.size a)
theorem k0_idx57_inb : ∀ (v366 : IVec S16 32) (k0_hw58 : k0_chk58 v366), ∀ a x, ((![v366] : Fin 1 → IVec S16 32) a x).toNat < S3600.size a := fun v366 k0_hw58 => k0_hw58

def k0_chk59 (v369 : IVec S16 32) : Prop :=
  (∀ a x, ((![v369] : Fin 1 → IVec S16 32) a x).toNat < S3600.size a)
theorem k0_idx58_inb : ∀ (v369 : IVec S16 32) (k0_hw59 : k0_chk59 v369), ∀ a x, ((![v369] : Fin 1 → IVec S16 32) a x).toNat < S3600.size a := fun v369 k0_hw59 => k0_hw59

def k0_chk60 (v372 : IVec S16 32) : Prop :=
  (∀ a x, ((![v372] : Fin 1 → IVec S16 32) a x).toNat < S3600.size a)
theorem k0_idx59_inb : ∀ (v372 : IVec S16 32) (k0_hw60 : k0_chk60 v372), ∀ a x, ((![v372] : Fin 1 → IVec S16 32) a x).toNat < S3600.size a := fun v372 k0_hw60 => k0_hw60

def k0_chk61 (v392 : IVec S16 32) : Prop :=
  (∀ a x, ((![v392] : Fin 1 → IVec S16 32) a x).toNat < S320.size a)
theorem k0_idx60_inb : ∀ (v392 : IVec S16 32) (k0_hw61 : k0_chk61 v392), ∀ a x, ((![v392] : Fin 1 → IVec S16 32) a x).toNat < S320.size a := fun v392 k0_hw61 => k0_hw61

def k0_chk62 (v393 : IVec S16 32) : Prop :=
  (∀ a x, ((![v393] : Fin 1 → IVec S16 32) a x).toNat < S81920.size a)
theorem k0_idx61_inb : ∀ (v393 : IVec S16 32) (k0_hw62 : k0_chk62 v393), ∀ a x, ((![v393] : Fin 1 → IVec S16 32) a x).toNat < S81920.size a := fun v393 k0_hw62 => k0_hw62

def k0_chk63 (v423 : IVec S16 32) : Prop :=
  (∀ a x, ((![v423] : Fin 1 → IVec S16 32) a x).toNat < S3600.size a)
theorem k0_idx62_inb : ∀ (v423 : IVec S16 32) (k0_hw63 : k0_chk63 v423), ∀ a x, ((![v423] : Fin 1 → IVec S16 32) a x).toNat < S3600.size a := fun v423 k0_hw63 => k0_hw63

def k0_chk64 (v426 : IVec S16 32) : Prop :=
  (∀ a x, ((![v426] : Fin 1 → IVec S16 32) a x).toNat < S3600.size a)
theorem k0_idx63_inb : ∀ (v426 : IVec S16 32) (k0_hw64 : k0_chk64 v426), ∀ a x, ((![v426] : Fin 1 → IVec S16 32) a x).toNat < S3600.size a := fun v426 k0_hw64 => k0_hw64

def k0_chk65 (v429 : IVec S16 32) : Prop :=
  (∀ a x, ((![v429] : Fin 1 → IVec S16 32) a x).toNat < S3600.size a)
theorem k0_idx64_inb : ∀ (v429 : IVec S16 32) (k0_hw65 : k0_chk65 v429), ∀ a x, ((![v429] : Fin 1 → IVec S16 32) a x).toNat < S3600.size a := fun v429 k0_hw65 => k0_hw65

def k0_chk66 (v432 : IVec S16 32) : Prop :=
  (∀ a x, ((![v432] : Fin 1 → IVec S16 32) a x).toNat < S3600.size a)
theorem k0_idx65_inb : ∀ (v432 : IVec S16 32) (k0_hw66 : k0_chk66 v432), ∀ a x, ((![v432] : Fin 1 → IVec S16 32) a x).toNat < S3600.size a := fun v432 k0_hw66 => k0_hw66

def k0_chk67 (v452 : IVec S16 32) : Prop :=
  (∀ a x, ((![v452] : Fin 1 → IVec S16 32) a x).toNat < S320.size a)
theorem k0_idx66_inb : ∀ (v452 : IVec S16 32) (k0_hw67 : k0_chk67 v452), ∀ a x, ((![v452] : Fin 1 → IVec S16 32) a x).toNat < S320.size a := fun v452 k0_hw67 => k0_hw67

def k0_chk68 (v453 : IVec S16 32) : Prop :=
  (∀ a x, ((![v453] : Fin 1 → IVec S16 32) a x).toNat < S81920.size a)
theorem k0_idx67_inb : ∀ (v453 : IVec S16 32) (k0_hw68 : k0_chk68 v453), ∀ a x, ((![v453] : Fin 1 → IVec S16 32) a x).toNat < S81920.size a := fun v453 k0_hw68 => k0_hw68

def k0_chk69 (v483 : IVec S16 32) : Prop :=
  (∀ a x, ((![v483] : Fin 1 → IVec S16 32) a x).toNat < S3600.size a)
theorem k0_idx68_inb : ∀ (v483 : IVec S16 32) (k0_hw69 : k0_chk69 v483), ∀ a x, ((![v483] : Fin 1 → IVec S16 32) a x).toNat < S3600.size a := fun v483 k0_hw69 => k0_hw69

def k0_chk70 (v486 : IVec S16 32) : Prop :=
  (∀ a x, ((![v486] : Fin 1 → IVec S16 32) a x).toNat < S3600.size a)
theorem k0_idx69_inb : ∀ (v486 : IVec S16 32) (k0_hw70 : k0_chk70 v486), ∀ a x, ((![v486] : Fin 1 → IVec S16 32) a x).toNat < S3600.size a := fun v486 k0_hw70 => k0_hw70

def k0_chk71 (v489 : IVec S16 32) : Prop :=
  (∀ a x, ((![v489] : Fin 1 → IVec S16 32) a x).toNat < S3600.size a)
theorem k0_idx70_inb : ∀ (v489 : IVec S16 32) (k0_hw71 : k0_chk71 v489), ∀ a x, ((![v489] : Fin 1 → IVec S16 32) a x).toNat < S3600.size a := fun v489 k0_hw71 => k0_hw71

def k0_chk72 (v492 : IVec S16 32) : Prop :=
  (∀ a x, ((![v492] : Fin 1 → IVec S16 32) a x).toNat < S3600.size a)
theorem k0_idx71_inb : ∀ (v492 : IVec S16 32) (k0_hw72 : k0_chk72 v492), ∀ a x, ((![v492] : Fin 1 → IVec S16 32) a x).toNat < S3600.size a := fun v492 k0_hw72 => k0_hw72

def k0_chk73 (v512 : IVec S16 32) : Prop :=
  (∀ a x, ((![v512] : Fin 1 → IVec S16 32) a x).toNat < S320.size a)
theorem k0_idx72_inb : ∀ (v512 : IVec S16 32) (k0_hw73 : k0_chk73 v512), ∀ a x, ((![v512] : Fin 1 → IVec S16 32) a x).toNat < S320.size a := fun v512 k0_hw73 => k0_hw73

def k0_chk74 (v513 : IVec S16 32) : Prop :=
  (∀ a x, ((![v513] : Fin 1 → IVec S16 32) a x).toNat < S81920.size a)
theorem k0_idx73_inb : ∀ (v513 : IVec S16 32) (k0_hw74 : k0_chk74 v513), ∀ a x, ((![v513] : Fin 1 → IVec S16 32) a x).toNat < S81920.size a := fun v513 k0_hw74 => k0_hw74

def k0_chk75 (v543 : IVec S16 32) : Prop :=
  (∀ a x, ((![v543] : Fin 1 → IVec S16 32) a x).toNat < S3600.size a)
theorem k0_idx74_inb : ∀ (v543 : IVec S16 32) (k0_hw75 : k0_chk75 v543), ∀ a x, ((![v543] : Fin 1 → IVec S16 32) a x).toNat < S3600.size a := fun v543 k0_hw75 => k0_hw75

def k0_chk76 (v546 : IVec S16 32) : Prop :=
  (∀ a x, ((![v546] : Fin 1 → IVec S16 32) a x).toNat < S3600.size a)
theorem k0_idx75_inb : ∀ (v546 : IVec S16 32) (k0_hw76 : k0_chk76 v546), ∀ a x, ((![v546] : Fin 1 → IVec S16 32) a x).toNat < S3600.size a := fun v546 k0_hw76 => k0_hw76

def k0_chk77 (v549 : IVec S16 32) : Prop :=
  (∀ a x, ((![v549] : Fin 1 → IVec S16 32) a x).toNat < S3600.size a)
theorem k0_idx76_inb : ∀ (v549 : IVec S16 32) (k0_hw77 : k0_chk77 v549), ∀ a x, ((![v549] : Fin 1 → IVec S16 32) a x).toNat < S3600.size a := fun v549 k0_hw77 => k0_hw77

def k0_chk78 (v552 : IVec S16 32) : Prop :=
  (∀ a x, ((![v552] : Fin 1 → IVec S16 32) a x).toNat < S3600.size a)
theorem k0_idx77_inb : ∀ (v552 : IVec S16 32) (k0_hw78 : k0_chk78 v552), ∀ a x, ((![v552] : Fin 1 → IVec S16 32) a x).toNat < S3600.size a := fun v552 k0_hw78 => k0_hw78

def k0_chk79 (v572 : IVec S16 32) : Prop :=
  (∀ a x, ((![v572] : Fin 1 → IVec S16 32) a x).toNat < S320.size a)
theorem k0_idx78_inb : ∀ (v572 : IVec S16 32) (k0_hw79 : k0_chk79 v572), ∀ a x, ((![v572] : Fin 1 → IVec S16 32) a x).toNat < S320.size a := fun v572 k0_hw79 => k0_hw79

def k0_chk80 (v573 : IVec S16 32) : Prop :=
  (∀ a x, ((![v573] : Fin 1 → IVec S16 32) a x).toNat < S81920.size a)
theorem k0_idx79_inb : ∀ (v573 : IVec S16 32) (k0_hw80 : k0_chk80 v573), ∀ a x, ((![v573] : Fin 1 → IVec S16 32) a x).toNat < S81920.size a := fun v573 k0_hw80 => k0_hw80

def k0_chk81 (v603 : IVec S16 32) : Prop :=
  (∀ a x, ((![v603] : Fin 1 → IVec S16 32) a x).toNat < S3600.size a)
theorem k0_idx80_inb : ∀ (v603 : IVec S16 32) (k0_hw81 : k0_chk81 v603), ∀ a x, ((![v603] : Fin 1 → IVec S16 32) a x).toNat < S3600.size a := fun v603 k0_hw81 => k0_hw81

def k0_chk82 (v606 : IVec S16 32) : Prop :=
  (∀ a x, ((![v606] : Fin 1 → IVec S16 32) a x).toNat < S3600.size a)
theorem k0_idx81_inb : ∀ (v606 : IVec S16 32) (k0_hw82 : k0_chk82 v606), ∀ a x, ((![v606] : Fin 1 → IVec S16 32) a x).toNat < S3600.size a := fun v606 k0_hw82 => k0_hw82

def k0_chk83 (v609 : IVec S16 32) : Prop :=
  (∀ a x, ((![v609] : Fin 1 → IVec S16 32) a x).toNat < S3600.size a)
theorem k0_idx82_inb : ∀ (v609 : IVec S16 32) (k0_hw83 : k0_chk83 v609), ∀ a x, ((![v609] : Fin 1 → IVec S16 32) a x).toNat < S3600.size a := fun v609 k0_hw83 => k0_hw83

def k0_chk84 (v612 : IVec S16 32) : Prop :=
  (∀ a x, ((![v612] : Fin 1 → IVec S16 32) a x).toNat < S3600.size a)
theorem k0_idx83_inb : ∀ (v612 : IVec S16 32) (k0_hw84 : k0_chk84 v612), ∀ a x, ((![v612] : Fin 1 → IVec S16 32) a x).toNat < S3600.size a := fun v612 k0_hw84 => k0_hw84

def k0_chk85 (v632 : IVec S16 32) : Prop :=
  (∀ a x, ((![v632] : Fin 1 → IVec S16 32) a x).toNat < S320.size a)
theorem k0_idx84_inb : ∀ (v632 : IVec S16 32) (k0_hw85 : k0_chk85 v632), ∀ a x, ((![v632] : Fin 1 → IVec S16 32) a x).toNat < S320.size a := fun v632 k0_hw85 => k0_hw85

def k0_chk86 (v633 : IVec S16 32) : Prop :=
  (∀ a x, ((![v633] : Fin 1 → IVec S16 32) a x).toNat < S81920.size a)
theorem k0_idx85_inb : ∀ (v633 : IVec S16 32) (k0_hw86 : k0_chk86 v633), ∀ a x, ((![v633] : Fin 1 → IVec S16 32) a x).toNat < S81920.size a := fun v633 k0_hw86 => k0_hw86

def k0_chk87 (v663 : IVec S16 32) : Prop :=
  (∀ a x, ((![v663] : Fin 1 → IVec S16 32) a x).toNat < S3600.size a)
theorem k0_idx86_inb : ∀ (v663 : IVec S16 32) (k0_hw87 : k0_chk87 v663), ∀ a x, ((![v663] : Fin 1 → IVec S16 32) a x).toNat < S3600.size a := fun v663 k0_hw87 => k0_hw87

def k0_chk88 (v666 : IVec S16 32) : Prop :=
  (∀ a x, ((![v666] : Fin 1 → IVec S16 32) a x).toNat < S3600.size a)
theorem k0_idx87_inb : ∀ (v666 : IVec S16 32) (k0_hw88 : k0_chk88 v666), ∀ a x, ((![v666] : Fin 1 → IVec S16 32) a x).toNat < S3600.size a := fun v666 k0_hw88 => k0_hw88

def k0_chk89 (v669 : IVec S16 32) : Prop :=
  (∀ a x, ((![v669] : Fin 1 → IVec S16 32) a x).toNat < S3600.size a)
theorem k0_idx88_inb : ∀ (v669 : IVec S16 32) (k0_hw89 : k0_chk89 v669), ∀ a x, ((![v669] : Fin 1 → IVec S16 32) a x).toNat < S3600.size a := fun v669 k0_hw89 => k0_hw89

def k0_chk90 (v672 : IVec S16 32) : Prop :=
  (∀ a x, ((![v672] : Fin 1 → IVec S16 32) a x).toNat < S3600.size a)
theorem k0_idx89_inb : ∀ (v672 : IVec S16 32) (k0_hw90 : k0_chk90 v672), ∀ a x, ((![v672] : Fin 1 → IVec S16 32) a x).toNat < S3600.size a := fun v672 k0_hw90 => k0_hw90

def k0_chk91 (v692 : IVec S16 32) : Prop :=
  (∀ a x, ((![v692] : Fin 1 → IVec S16 32) a x).toNat < S320.size a)
theorem k0_idx90_inb : ∀ (v692 : IVec S16 32) (k0_hw91 : k0_chk91 v692), ∀ a x, ((![v692] : Fin 1 → IVec S16 32) a x).toNat < S320.size a := fun v692 k0_hw91 => k0_hw91

def k0_chk92 (v693 : IVec S16 32) : Prop :=
  (∀ a x, ((![v693] : Fin 1 → IVec S16 32) a x).toNat < S81920.size a)
theorem k0_idx91_inb : ∀ (v693 : IVec S16 32) (k0_hw92 : k0_chk92 v693), ∀ a x, ((![v693] : Fin 1 → IVec S16 32) a x).toNat < S81920.size a := fun v693 k0_hw92 => k0_hw92

def k0_chk93 (v723 : IVec S16 32) : Prop :=
  (∀ a x, ((![v723] : Fin 1 → IVec S16 32) a x).toNat < S3600.size a)
theorem k0_idx92_inb : ∀ (v723 : IVec S16 32) (k0_hw93 : k0_chk93 v723), ∀ a x, ((![v723] : Fin 1 → IVec S16 32) a x).toNat < S3600.size a := fun v723 k0_hw93 => k0_hw93

def k0_chk94 (v726 : IVec S16 32) : Prop :=
  (∀ a x, ((![v726] : Fin 1 → IVec S16 32) a x).toNat < S3600.size a)
theorem k0_idx93_inb : ∀ (v726 : IVec S16 32) (k0_hw94 : k0_chk94 v726), ∀ a x, ((![v726] : Fin 1 → IVec S16 32) a x).toNat < S3600.size a := fun v726 k0_hw94 => k0_hw94

def k0_chk95 (v729 : IVec S16 32) : Prop :=
  (∀ a x, ((![v729] : Fin 1 → IVec S16 32) a x).toNat < S3600.size a)
theorem k0_idx94_inb : ∀ (v729 : IVec S16 32) (k0_hw95 : k0_chk95 v729), ∀ a x, ((![v729] : Fin 1 → IVec S16 32) a x).toNat < S3600.size a := fun v729 k0_hw95 => k0_hw95

def k0_chk96 (v732 : IVec S16 32) : Prop :=
  (∀ a x, ((![v732] : Fin 1 → IVec S16 32) a x).toNat < S3600.size a)
theorem k0_idx95_inb : ∀ (v732 : IVec S16 32) (k0_hw96 : k0_chk96 v732), ∀ a x, ((![v732] : Fin 1 → IVec S16 32) a x).toNat < S3600.size a := fun v732 k0_hw96 => k0_hw96

def k0_chk97 (v752 : IVec S16 32) : Prop :=
  (∀ a x, ((![v752] : Fin 1 → IVec S16 32) a x).toNat < S320.size a)
theorem k0_idx96_inb : ∀ (v752 : IVec S16 32) (k0_hw97 : k0_chk97 v752), ∀ a x, ((![v752] : Fin 1 → IVec S16 32) a x).toNat < S320.size a := fun v752 k0_hw97 => k0_hw97

def k0_chk98 (v753 : IVec S16 32) : Prop :=
  (∀ a x, ((![v753] : Fin 1 → IVec S16 32) a x).toNat < S81920.size a)
theorem k0_idx97_inb : ∀ (v753 : IVec S16 32) (k0_hw98 : k0_chk98 v753), ∀ a x, ((![v753] : Fin 1 → IVec S16 32) a x).toNat < S81920.size a := fun v753 k0_hw98 => k0_hw98

def k0_chk99 (v783 : IVec S16 32) : Prop :=
  (∀ a x, ((![v783] : Fin 1 → IVec S16 32) a x).toNat < S3600.size a)
theorem k0_idx98_inb : ∀ (v783 : IVec S16 32) (k0_hw99 : k0_chk99 v783), ∀ a x, ((![v783] : Fin 1 → IVec S16 32) a x).toNat < S3600.size a := fun v783 k0_hw99 => k0_hw99

def k0_chk100 (v786 : IVec S16 32) : Prop :=
  (∀ a x, ((![v786] : Fin 1 → IVec S16 32) a x).toNat < S3600.size a)
theorem k0_idx99_inb : ∀ (v786 : IVec S16 32) (k0_hw100 : k0_chk100 v786), ∀ a x, ((![v786] : Fin 1 → IVec S16 32) a x).toNat < S3600.size a := fun v786 k0_hw100 => k0_hw100

def k0_chk101 (v789 : IVec S16 32) : Prop :=
  (∀ a x, ((![v789] : Fin 1 → IVec S16 32) a x).toNat < S3600.size a)
theorem k0_idx100_inb : ∀ (v789 : IVec S16 32) (k0_hw101 : k0_chk101 v789), ∀ a x, ((![v789] : Fin 1 → IVec S16 32) a x).toNat < S3600.size a := fun v789 k0_hw101 => k0_hw101

def k0_chk102 (v792 : IVec S16 32) : Prop :=
  (∀ a x, ((![v792] : Fin 1 → IVec S16 32) a x).toNat < S3600.size a)
theorem k0_idx101_inb : ∀ (v792 : IVec S16 32) (k0_hw102 : k0_chk102 v792), ∀ a x, ((![v792] : Fin 1 → IVec S16 32) a x).toNat < S3600.size a := fun v792 k0_hw102 => k0_hw102

def k0_chk103 (v812 : IVec S16 32) : Prop :=
  (∀ a x, ((![v812] : Fin 1 → IVec S16 32) a x).toNat < S320.size a)
theorem k0_idx102_inb : ∀ (v812 : IVec S16 32) (k0_hw103 : k0_chk103 v812), ∀ a x, ((![v812] : Fin 1 → IVec S16 32) a x).toNat < S320.size a := fun v812 k0_hw103 => k0_hw103

def k0_chk104 (v813 : IVec S16 32) : Prop :=
  (∀ a x, ((![v813] : Fin 1 → IVec S16 32) a x).toNat < S81920.size a)
theorem k0_idx103_inb : ∀ (v813 : IVec S16 32) (k0_hw104 : k0_chk104 v813), ∀ a x, ((![v813] : Fin 1 → IVec S16 32) a x).toNat < S81920.size a := fun v813 k0_hw104 => k0_hw104

def k0_chk105 (v843 : IVec S16 32) : Prop :=
  (∀ a x, ((![v843] : Fin 1 → IVec S16 32) a x).toNat < S3600.size a)
theorem k0_idx104_inb : ∀ (v843 : IVec S16 32) (k0_hw105 : k0_chk105 v843), ∀ a x, ((![v843] : Fin 1 → IVec S16 32) a x).toNat < S3600.size a := fun v843 k0_hw105 => k0_hw105

def k0_chk106 (v846 : IVec S16 32) : Prop :=
  (∀ a x, ((![v846] : Fin 1 → IVec S16 32) a x).toNat < S3600.size a)
theorem k0_idx105_inb : ∀ (v846 : IVec S16 32) (k0_hw106 : k0_chk106 v846), ∀ a x, ((![v846] : Fin 1 → IVec S16 32) a x).toNat < S3600.size a := fun v846 k0_hw106 => k0_hw106

def k0_chk107 (v849 : IVec S16 32) : Prop :=
  (∀ a x, ((![v849] : Fin 1 → IVec S16 32) a x).toNat < S3600.size a)
theorem k0_idx106_inb : ∀ (v849 : IVec S16 32) (k0_hw107 : k0_chk107 v849), ∀ a x, ((![v849] : Fin 1 → IVec S16 32) a x).toNat < S3600.size a := fun v849 k0_hw107 => k0_hw107

def k0_chk108 (v852 : IVec S16 32) : Prop :=
  (∀ a x, ((![v852] : Fin 1 → IVec S16 32) a x).toNat < S3600.size a)
theorem k0_idx107_inb : ∀ (v852 : IVec S16 32) (k0_hw108 : k0_chk108 v852), ∀ a x, ((![v852] : Fin 1 → IVec S16 32) a x).toNat < S3600.size a := fun v852 k0_hw108 => k0_hw108

def k0_chk109 (v872 : IVec S16 32) : Prop :=
  (∀ a x, ((![v872] : Fin 1 → IVec S16 32) a x).toNat < S320.size a)
theorem k0_idx108_inb : ∀ (v872 : IVec S16 32) (k0_hw109 : k0_chk109 v872), ∀ a x, ((![v872] : Fin 1 → IVec S16 32) a x).toNat < S320.size a := fun v872 k0_hw109 => k0_hw109

def k0_chk110 (v873 : IVec S16 32) : Prop :=
  (∀ a x, ((![v873] : Fin 1 → IVec S16 32) a x).toNat < S81920.size a)
theorem k0_idx109_inb : ∀ (v873 : IVec S16 32) (k0_hw110 : k0_chk110 v873), ∀ a x, ((![v873] : Fin 1 → IVec S16 32) a x).toNat < S81920.size a := fun v873 k0_hw110 => k0_hw110

def k0_chk111 (v903 : IVec S16 32) : Prop :=
  (∀ a x, ((![v903] : Fin 1 → IVec S16 32) a x).toNat < S3600.size a)
theorem k0_idx110_inb : ∀ (v903 : IVec S16 32) (k0_hw111 : k0_chk111 v903), ∀ a x, ((![v903] : Fin 1 → IVec S16 32) a x).toNat < S3600.size a := fun v903 k0_hw111 => k0_hw111

def k0_chk112 (v906 : IVec S16 32) : Prop :=
  (∀ a x, ((![v906] : Fin 1 → IVec S16 32) a x).toNat < S3600.size a)
theorem k0_idx111_inb : ∀ (v906 : IVec S16 32) (k0_hw112 : k0_chk112 v906), ∀ a x, ((![v906] : Fin 1 → IVec S16 32) a x).toNat < S3600.size a := fun v906 k0_hw112 => k0_hw112

def k0_chk113 (v909 : IVec S16 32) : Prop :=
  (∀ a x, ((![v909] : Fin 1 → IVec S16 32) a x).toNat < S3600.size a)
theorem k0_idx112_inb : ∀ (v909 : IVec S16 32) (k0_hw113 : k0_chk113 v909), ∀ a x, ((![v909] : Fin 1 → IVec S16 32) a x).toNat < S3600.size a := fun v909 k0_hw113 => k0_hw113

def k0_chk114 (v912 : IVec S16 32) : Prop :=
  (∀ a x, ((![v912] : Fin 1 → IVec S16 32) a x).toNat < S3600.size a)
theorem k0_idx113_inb : ∀ (v912 : IVec S16 32) (k0_hw114 : k0_chk114 v912), ∀ a x, ((![v912] : Fin 1 → IVec S16 32) a x).toNat < S3600.size a := fun v912 k0_hw114 => k0_hw114

def k0_chk115 (v932 : IVec S16 32) : Prop :=
  (∀ a x, ((![v932] : Fin 1 → IVec S16 32) a x).toNat < S320.size a)
theorem k0_idx114_inb : ∀ (v932 : IVec S16 32) (k0_hw115 : k0_chk115 v932), ∀ a x, ((![v932] : Fin 1 → IVec S16 32) a x).toNat < S320.size a := fun v932 k0_hw115 => k0_hw115

def k0_chk116 (v933 : IVec S16 32) : Prop :=
  (∀ a x, ((![v933] : Fin 1 → IVec S16 32) a x).toNat < S81920.size a)
theorem k0_idx115_inb : ∀ (v933 : IVec S16 32) (k0_hw116 : k0_chk116 v933), ∀ a x, ((![v933] : Fin 1 → IVec S16 32) a x).toNat < S81920.size a := fun v933 k0_hw116 => k0_hw116

def k0_chk117 (v963 : IVec S16 32) : Prop :=
  (∀ a x, ((![v963] : Fin 1 → IVec S16 32) a x).toNat < S3600.size a)
theorem k0_idx116_inb : ∀ (v963 : IVec S16 32) (k0_hw117 : k0_chk117 v963), ∀ a x, ((![v963] : Fin 1 → IVec S16 32) a x).toNat < S3600.size a := fun v963 k0_hw117 => k0_hw117

def k0_chk118 (v966 : IVec S16 32) : Prop :=
  (∀ a x, ((![v966] : Fin 1 → IVec S16 32) a x).toNat < S3600.size a)
theorem k0_idx117_inb : ∀ (v966 : IVec S16 32) (k0_hw118 : k0_chk118 v966), ∀ a x, ((![v966] : Fin 1 → IVec S16 32) a x).toNat < S3600.size a := fun v966 k0_hw118 => k0_hw118

def k0_chk119 (v969 : IVec S16 32) : Prop :=
  (∀ a x, ((![v969] : Fin 1 → IVec S16 32) a x).toNat < S3600.size a)
theorem k0_idx118_inb : ∀ (v969 : IVec S16 32) (k0_hw119 : k0_chk119 v969), ∀ a x, ((![v969] : Fin 1 → IVec S16 32) a x).toNat < S3600.size a := fun v969 k0_hw119 => k0_hw119

def k0_chk120 (v972 : IVec S16 32) : Prop :=
  (∀ a x, ((![v972] : Fin 1 → IVec S16 32) a x).toNat < S3600.size a)
theorem k0_idx119_inb : ∀ (v972 : IVec S16 32) (k0_hw120 : k0_chk120 v972), ∀ a x, ((![v972] : Fin 1 → IVec S16 32) a x).toNat < S3600.size a := fun v972 k0_hw120 => k0_hw120

def k0_chk121 (v992 : IVec S16 32) : Prop :=
  (∀ a x, ((![v992] : Fin 1 → IVec S16 32) a x).toNat < S320.size a)
theorem k0_idx120_inb : ∀ (v992 : IVec S16 32) (k0_hw121 : k0_chk121 v992), ∀ a x, ((![v992] : Fin 1 → IVec S16 32) a x).toNat < S320.size a := fun v992 k0_hw121 => k0_hw121

def k0_chk122 (v993 : IVec S16 32) : Prop :=
  (∀ a x, ((![v993] : Fin 1 → IVec S16 32) a x).toNat < S81920.size a)
theorem k0_idx121_inb : ∀ (v993 : IVec S16 32) (k0_hw122 : k0_chk122 v993), ∀ a x, ((![v993] : Fin 1 → IVec S16 32) a x).toNat < S81920.size a := fun v993 k0_hw122 => k0_hw122

def k0_chk123 (v1023 : IVec S16 32) : Prop :=
  (∀ a x, ((![v1023] : Fin 1 → IVec S16 32) a x).toNat < S3600.size a)
theorem k0_idx122_inb : ∀ (v1023 : IVec S16 32) (k0_hw123 : k0_chk123 v1023), ∀ a x, ((![v1023] : Fin 1 → IVec S16 32) a x).toNat < S3600.size a := fun v1023 k0_hw123 => k0_hw123

def k0_chk124 (v1026 : IVec S16 32) : Prop :=
  (∀ a x, ((![v1026] : Fin 1 → IVec S16 32) a x).toNat < S3600.size a)
theorem k0_idx123_inb : ∀ (v1026 : IVec S16 32) (k0_hw124 : k0_chk124 v1026), ∀ a x, ((![v1026] : Fin 1 → IVec S16 32) a x).toNat < S3600.size a := fun v1026 k0_hw124 => k0_hw124

def k0_chk125 (v1029 : IVec S16 32) : Prop :=
  (∀ a x, ((![v1029] : Fin 1 → IVec S16 32) a x).toNat < S3600.size a)
theorem k0_idx124_inb : ∀ (v1029 : IVec S16 32) (k0_hw125 : k0_chk125 v1029), ∀ a x, ((![v1029] : Fin 1 → IVec S16 32) a x).toNat < S3600.size a := fun v1029 k0_hw125 => k0_hw125

def k0_chk126 (v1032 : IVec S16 32) : Prop :=
  (∀ a x, ((![v1032] : Fin 1 → IVec S16 32) a x).toNat < S3600.size a)
theorem k0_idx125_inb : ∀ (v1032 : IVec S16 32) (k0_hw126 : k0_chk126 v1032), ∀ a x, ((![v1032] : Fin 1 → IVec S16 32) a x).toNat < S3600.size a := fun v1032 k0_hw126 => k0_hw126

def k0_chk127 (v1052 : IVec S16 32) : Prop :=
  (∀ a x, ((![v1052] : Fin 1 → IVec S16 32) a x).toNat < S320.size a)
theorem k0_idx126_inb : ∀ (v1052 : IVec S16 32) (k0_hw127 : k0_chk127 v1052), ∀ a x, ((![v1052] : Fin 1 → IVec S16 32) a x).toNat < S320.size a := fun v1052 k0_hw127 => k0_hw127

def k0_chk128 (v1053 : IVec S16 32) : Prop :=
  (∀ a x, ((![v1053] : Fin 1 → IVec S16 32) a x).toNat < S81920.size a)
theorem k0_idx127_inb : ∀ (v1053 : IVec S16 32) (k0_hw128 : k0_chk128 v1053), ∀ a x, ((![v1053] : Fin 1 → IVec S16 32) a x).toNat < S81920.size a := fun v1053 k0_hw128 => k0_hw128

def k0_chk129 (v1083 : IVec S16 32) : Prop :=
  (∀ a x, ((![v1083] : Fin 1 → IVec S16 32) a x).toNat < S3600.size a)
theorem k0_idx128_inb : ∀ (v1083 : IVec S16 32) (k0_hw129 : k0_chk129 v1083), ∀ a x, ((![v1083] : Fin 1 → IVec S16 32) a x).toNat < S3600.size a := fun v1083 k0_hw129 => k0_hw129

def k0_chk130 (v1086 : IVec S16 32) : Prop :=
  (∀ a x, ((![v1086] : Fin 1 → IVec S16 32) a x).toNat < S3600.size a)
theorem k0_idx129_inb : ∀ (v1086 : IVec S16 32) (k0_hw130 : k0_chk130 v1086), ∀ a x, ((![v1086] : Fin 1 → IVec S16 32) a x).toNat < S3600.size a := fun v1086 k0_hw130 => k0_hw130

def k0_chk131 (v1089 : IVec S16 32) : Prop :=
  (∀ a x, ((![v1089] : Fin 1 → IVec S16 32) a x).toNat < S3600.size a)
theorem k0_idx130_inb : ∀ (v1089 : IVec S16 32) (k0_hw131 : k0_chk131 v1089), ∀ a x, ((![v1089] : Fin 1 → IVec S16 32) a x).toNat < S3600.size a := fun v1089 k0_hw131 => k0_hw131

def k0_chk132 (v1092 : IVec S16 32) : Prop :=
  (∀ a x, ((![v1092] : Fin 1 → IVec S16 32) a x).toNat < S3600.size a)
theorem k0_idx131_inb : ∀ (v1092 : IVec S16 32) (k0_hw132 : k0_chk132 v1092), ∀ a x, ((![v1092] : Fin 1 → IVec S16 32) a x).toNat < S3600.size a := fun v1092 k0_hw132 => k0_hw132

def k0_chk133 (v1112 : IVec S16 32) : Prop :=
  (∀ a x, ((![v1112] : Fin 1 → IVec S16 32) a x).toNat < S320.size a)
theorem k0_idx132_inb : ∀ (v1112 : IVec S16 32) (k0_hw133 : k0_chk133 v1112), ∀ a x, ((![v1112] : Fin 1 → IVec S16 32) a x).toNat < S320.size a := fun v1112 k0_hw133 => k0_hw133

def k0_chk134 (v1113 : IVec S16 32) : Prop :=
  (∀ a x, ((![v1113] : Fin 1 → IVec S16 32) a x).toNat < S81920.size a)
theorem k0_idx133_inb : ∀ (v1113 : IVec S16 32) (k0_hw134 : k0_chk134 v1113), ∀ a x, ((![v1113] : Fin 1 → IVec S16 32) a x).toNat < S81920.size a := fun v1113 k0_hw134 => k0_hw134

def k0_chk135 (v1143 : IVec S16 32) : Prop :=
  (∀ a x, ((![v1143] : Fin 1 → IVec S16 32) a x).toNat < S3600.size a)
theorem k0_idx134_inb : ∀ (v1143 : IVec S16 32) (k0_hw135 : k0_chk135 v1143), ∀ a x, ((![v1143] : Fin 1 → IVec S16 32) a x).toNat < S3600.size a := fun v1143 k0_hw135 => k0_hw135

def k0_chk136 (v1146 : IVec S16 32) : Prop :=
  (∀ a x, ((![v1146] : Fin 1 → IVec S16 32) a x).toNat < S3600.size a)
theorem k0_idx135_inb : ∀ (v1146 : IVec S16 32) (k0_hw136 : k0_chk136 v1146), ∀ a x, ((![v1146] : Fin 1 → IVec S16 32) a x).toNat < S3600.size a := fun v1146 k0_hw136 => k0_hw136

def k0_chk137 (v1149 : IVec S16 32) : Prop :=
  (∀ a x, ((![v1149] : Fin 1 → IVec S16 32) a x).toNat < S3600.size a)
theorem k0_idx136_inb : ∀ (v1149 : IVec S16 32) (k0_hw137 : k0_chk137 v1149), ∀ a x, ((![v1149] : Fin 1 → IVec S16 32) a x).toNat < S3600.size a := fun v1149 k0_hw137 => k0_hw137

def k0_chk138 (v1152 : IVec S16 32) : Prop :=
  (∀ a x, ((![v1152] : Fin 1 → IVec S16 32) a x).toNat < S3600.size a)
theorem k0_idx137_inb : ∀ (v1152 : IVec S16 32) (k0_hw138 : k0_chk138 v1152), ∀ a x, ((![v1152] : Fin 1 → IVec S16 32) a x).toNat < S3600.size a := fun v1152 k0_hw138 => k0_hw138

def k0_chk139 (v1172 : IVec S16 32) : Prop :=
  (∀ a x, ((![v1172] : Fin 1 → IVec S16 32) a x).toNat < S320.size a)
theorem k0_idx138_inb : ∀ (v1172 : IVec S16 32) (k0_hw139 : k0_chk139 v1172), ∀ a x, ((![v1172] : Fin 1 → IVec S16 32) a x).toNat < S320.size a := fun v1172 k0_hw139 => k0_hw139

def k0_chk140 (v1173 : IVec S16 32) : Prop :=
  (∀ a x, ((![v1173] : Fin 1 → IVec S16 32) a x).toNat < S81920.size a)
theorem k0_idx139_inb : ∀ (v1173 : IVec S16 32) (k0_hw140 : k0_chk140 v1173), ∀ a x, ((![v1173] : Fin 1 → IVec S16 32) a x).toNat < S81920.size a := fun v1173 k0_hw140 => k0_hw140

def k0_chk141 (v1203 : IVec S16 32) : Prop :=
  (∀ a x, ((![v1203] : Fin 1 → IVec S16 32) a x).toNat < S3600.size a)
theorem k0_idx140_inb : ∀ (v1203 : IVec S16 32) (k0_hw141 : k0_chk141 v1203), ∀ a x, ((![v1203] : Fin 1 → IVec S16 32) a x).toNat < S3600.size a := fun v1203 k0_hw141 => k0_hw141

def k0_chk142 (v1206 : IVec S16 32) : Prop :=
  (∀ a x, ((![v1206] : Fin 1 → IVec S16 32) a x).toNat < S3600.size a)
theorem k0_idx141_inb : ∀ (v1206 : IVec S16 32) (k0_hw142 : k0_chk142 v1206), ∀ a x, ((![v1206] : Fin 1 → IVec S16 32) a x).toNat < S3600.size a := fun v1206 k0_hw142 => k0_hw142

def k0_chk143 (v1209 : IVec S16 32) : Prop :=
  (∀ a x, ((![v1209] : Fin 1 → IVec S16 32) a x).toNat < S3600.size a)
theorem k0_idx142_inb : ∀ (v1209 : IVec S16 32) (k0_hw143 : k0_chk143 v1209), ∀ a x, ((![v1209] : Fin 1 → IVec S16 32) a x).toNat < S3600.size a := fun v1209 k0_hw143 => k0_hw143

def k0_chk144 (v1212 : IVec S16 32) : Prop :=
  (∀ a x, ((![v1212] : Fin 1 → IVec S16 32) a x).toNat < S3600.size a)
theorem k0_idx143_inb : ∀ (v1212 : IVec S16 32) (k0_hw144 : k0_chk144 v1212), ∀ a x, ((![v1212] : Fin 1 → IVec S16 32) a x).toNat < S3600.size a := fun v1212 k0_hw144 => k0_hw144
def k0_off22 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_414_r3 : BitVec 32 := 0#32
  ![v1.toNat, 0]
def k0_off23 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_414_r5 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x81900 : Shape := ⟨2, ![32, 81900]⟩
abbrev S32x900x4 : Shape := ⟨3, ![32, 900, 4]⟩
abbrev S32x2 : Shape := ⟨2, ![32, 2]⟩
abbrev S32x300 : Shape := ⟨2, ![32, 300]⟩
abbrev S_ : Shape := ⟨0, ![]⟩
abbrev S32x900x1 : Shape := ⟨3, ![32, 900, 1]⟩
abbrev S32x300x1 : Shape := ⟨3, ![32, 300, 1]⟩
abbrev S32x300x4 : Shape := ⟨3, ![32, 300, 4]⟩
abbrev S32x1 : Shape := ⟨2, ![32, 1]⟩
abbrev S32 : Shape := ⟨1, ![32]⟩
abbrev S32x4 : Shape := ⟨2, ![32, 4]⟩
abbrev S32x1x4 : Shape := ⟨3, ![32, 1, 4]⟩

abbrev nBuf : Space → Nat
  | .hbm => 89
  | .vmem => 0
  | .smem => 0
  | _ => 0

abbrev bufTy : (tb : Table) → Fin (tcTables nBuf tb) → BufTy
  | .hbm, ⟨0, _⟩ => ⟨S32x81900, .i32⟩
  | .hbm, ⟨1, _⟩ => ⟨S32x900x4, .f32⟩
  | .hbm, ⟨2, _⟩ => ⟨S32x2, .i32⟩
  | .hbm, ⟨3, _⟩ => ⟨S32x300, .i32⟩
  | .hbm, ⟨4, _⟩ => ⟨S32x300, .i32⟩
  | .hbm, ⟨5, _⟩ => ⟨S_, .i32⟩
  | .hbm, ⟨6, _⟩ => ⟨S_, .i32⟩
  | .hbm, ⟨7, _⟩ => ⟨S32x300, .i32⟩
  | .hbm, ⟨8, _⟩ => ⟨S32x300, .i32⟩
  | .hbm, ⟨9, _⟩ => ⟨S32x300, .i32⟩
  | .hbm, ⟨10, _⟩ => ⟨S_, .i32⟩
  | .hbm, ⟨11, _⟩ => ⟨S32x300, .i32⟩
  | .hbm, ⟨12, _⟩ => ⟨S32x300, .i1⟩
  | .hbm, ⟨13, _⟩ => ⟨S32x300, .i32⟩
  | .hbm, ⟨14, _⟩ => ⟨S32x300, .i32⟩
  | .hbm, ⟨15, _⟩ => ⟨S_, .i32⟩
  | .hbm, ⟨16, _⟩ => ⟨S32x300, .i32⟩
  | .hbm, ⟨17, _⟩ => ⟨S32x300, .i1⟩
  | .hbm, ⟨18, _⟩ => ⟨S32x300, .i1⟩
  | .hbm, ⟨19, _⟩ => ⟨S_, .i32⟩
  | .hbm, ⟨20, _⟩ => ⟨S32x300, .i32⟩
  | .hbm, ⟨21, _⟩ => ⟨S32x300, .i32⟩
  | .hbm, ⟨22, _⟩ => ⟨S32x300, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S32x300, .i32⟩
  | .hbm, ⟨30, _⟩ => ⟨S32x300, .i32⟩
  | .hbm, ⟨31, _⟩ => ⟨S_, .i32⟩
  | .hbm, ⟨32, _⟩ => ⟨S32x300, .i32⟩
  | .hbm, ⟨33, _⟩ => ⟨S32x300, .i1⟩
  | .hbm, ⟨34, _⟩ => ⟨S_, .i32⟩
  | .hbm, ⟨35, _⟩ => ⟨S32x300, .i32⟩
  | .hbm, ⟨36, _⟩ => ⟨S32x300, .i1⟩
  | .hbm, ⟨37, _⟩ => ⟨S_, .i32⟩
  | .hbm, ⟨38, _⟩ => ⟨S_, .i1⟩
  | .hbm, ⟨39, _⟩ => ⟨S32x300, .i1⟩
  | .hbm, ⟨40, _⟩ => ⟨S32x300, .i1⟩
  | .hbm, ⟨41, _⟩ => ⟨S32x300, .i1⟩
  | .hbm, ⟨42, _⟩ => ⟨S32x300, .i32⟩
  | .hbm, ⟨43, _⟩ => ⟨S32x300, .i32⟩
  | .hbm, ⟨44, _⟩ => ⟨S32x300, .i32⟩
  | .hbm, ⟨45, _⟩ => ⟨S32x900x1, .f32⟩
  | .hbm, ⟨46, _⟩ => ⟨S32x900x1, .f32⟩
  | .hbm, ⟨47, _⟩ => ⟨S32x900x1, .f32⟩
  | .hbm, ⟨48, _⟩ => ⟨S32x900x1, .f32⟩
  | .hbm, ⟨49, _⟩ => ⟨S_, .f32⟩
  | .hbm, ⟨50, _⟩ => ⟨S32x900x1, .f32⟩
  | .hbm, ⟨51, _⟩ => ⟨S32x900x1, .f32⟩
  | .hbm, ⟨52, _⟩ => ⟨S32x900x1, .f32⟩
  | .hbm, ⟨53, _⟩ => ⟨S_, .f32⟩
  | .hbm, ⟨54, _⟩ => ⟨S32x900x1, .f32⟩
  | .hbm, ⟨55, _⟩ => ⟨S32x900x1, .f32⟩
  | .hbm, ⟨56, _⟩ => ⟨S32x900x1, .f32⟩
  | .hbm, ⟨57, _⟩ => ⟨S_, .f32⟩
  | .hbm, ⟨58, _⟩ => ⟨S32x900x1, .f32⟩
  | .hbm, ⟨59, _⟩ => ⟨S32x900x1, .f32⟩
  | .hbm, ⟨60, _⟩ => ⟨S32x900x1, .f32⟩
  | .hbm, ⟨61, _⟩ => ⟨S_, .f32⟩
  | .hbm, ⟨62, _⟩ => ⟨S32x900x1, .f32⟩
  | .hbm, ⟨63, _⟩ => ⟨S32x900x1, .f32⟩
  | .hbm, ⟨64, _⟩ => ⟨S32x900x1, .f32⟩
  | .hbm, ⟨65, _⟩ => ⟨S32x900x4, .f32⟩
  | .hbm, ⟨66, _⟩ => ⟨S32x300x1, .i32⟩
  | .hbm, ⟨67, _⟩ => ⟨S_, .i32⟩
  | .hbm, ⟨68, _⟩ => ⟨S32x300x1, .i32⟩
  | .hbm, ⟨69, _⟩ => ⟨S32x300x1, .i1⟩
  | .hbm, ⟨70, _⟩ => ⟨S_, .i32⟩
  | .hbm, ⟨71, _⟩ => ⟨S32x300x1, .i32⟩
  | .hbm, ⟨72, _⟩ => ⟨S32x300x1, .i32⟩
  | .hbm, ⟨73, _⟩ => ⟨S32x300x1, .i32⟩
  | .hbm, ⟨74, _⟩ => ⟨S32x300x4, .f32⟩
  | .hbm, ⟨75, _⟩ => ⟨S32x1, .i32⟩
  | .hbm, ⟨76, _⟩ => ⟨S32, .i32⟩
  | .hbm, ⟨77, _⟩ => ⟨S32, .f32⟩
  | .hbm, ⟨78, _⟩ => ⟨S32x1, .i32⟩
  | .hbm, ⟨79, _⟩ => ⟨S32, .i32⟩
  | .hbm, ⟨80, _⟩ => ⟨S32, .f32⟩
  | .hbm, ⟨81, _⟩ => ⟨S32x1, .f32⟩
  | .hbm, ⟨82, _⟩ => ⟨S32x1, .f32⟩
  | .hbm, ⟨83, _⟩ => ⟨S32x1, .f32⟩
  | .hbm, ⟨84, _⟩ => ⟨S32x1, .f32⟩
  | .hbm, ⟨85, _⟩ => ⟨S32x4, .f32⟩
  | .hbm, ⟨86, _⟩ => ⟨S32x1x4, .f32⟩
  | .hbm, ⟨87, _⟩ => ⟨S32x300x4, .f32⟩
  | .hbm, ⟨88, _⟩ => ⟨S32x300x4, .f32⟩
  | _, _ => ⟨S32x81900, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_values : Ref sig .tc := ⟨.hbm, 3, rfl⟩
abbrev main_indices : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v0 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v1 : Ref sig .tc := ⟨.hbm, 44, rfl⟩
abbrev main_v2 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_cst : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_cst_1 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_cst_2 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_cst_3 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩

abbrev nD : Nat := 1
abbrev τ : Topo := Topo.v7x

variable {F : FTy → Type} [FloatOps F]
-- ==== Proof.Rules.lean ====
/-
  The tile's scratch memory as a record of words, and a small program logic over it: `Do T p Φ` says that from
  scratch contents `T` the straight-line program `p` yields a value and new contents satisfying `Φ`, touching
  nothing but the scratch. The kernel's middle part (everything between its copies in and its copies out) is
  proved in this logic.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev UH : Type := URounds (GSem nD τ sig) ℕ
abbrev UU : Type := UH × Counters

local notation "𝕄" => MT nD τ sig (HIx 1) (Elt F) ℕ UU ℕ

abbrev 𝒱₀ : Variants := Variants.none

/-- The twelve scratch buffers of a tile, each as the word it holds at every position. -/
structure St (F : FTy → Type) where
  /-- the image's score words -/
  pv : ℕ → BitVec 32
  /-- its boxes -/
  bx : ℕ → F .f32
  /-- its width (sixteen times) and height (sixteen times) -/
  sc : ℕ → F .f32
  /-- the histogram -/
  hist : ℕ → BitVec 32
  /-- the coarse candidates' words -/
  cu : ℕ → BitVec 32
  /-- and their positions -/
  ci : ℕ → BitVec 32
  /-- the final candidates' words -/
  du : ℕ → BitVec 32
  /-- and their positions -/
  di : ℕ → BitVec 32
  /-- the selected candidates, in order -/
  op : ℕ → BitVec 32
  /-- the results: scores, -/
  so : ℕ → BitVec 32
  /-- labels, -/
  lo : ℕ → BitVec 32
  /-- and boxes -/
  bo : ℕ → F .f32

/-- The names of the scratch buffers. -/
inductive B | pv | bx | sc | hist | cu | ci | du | di | op | so | lo | bo
  deriving DecidableEq

instance : Fintype B :=
  ⟨{.pv, .bx, .sc, .hist, .cu, .ci, .du, .di, .op, .so, .lo, .bo}, fun b => by cases b <;> decide⟩

def B.ref : B → Ref sig .scVector
  | .pv => cc0_scratch0 | .bx => cc0_scratch1 | .sc => cc0_scratch2 | .hist => cc0_scratch3
  | .cu => cc0_scratch4 | .ci => cc0_scratch5 | .du => cc0_scratch6 | .di => cc0_scratch7
  | .op => cc0_scratch8 | .so => cc0_scratch9 | .lo => cc0_scratch10 | .bo => cc0_scratch11

/-- How many elements a buffer has, -/
@[reducible] def B.len : B → ℕ
  | .pv => 81920 | .bx => 3600 | .sc => 32 | .hist => 8192 | .cu => 4128 | .ci => 4128 | .du => 320 | .di => 320
  | .op => 304 | .so => 304 | .lo => 304 | .bo => 1216
/-- of which type, -/
@[reducible] def B.elt : B → EltTy
  | .bx => .f32 | .sc => .f32 | .bo => .f32
  | .pv => .i32 | .hist => .i32 | .cu => .i32 | .ci => .i32 | .du => .i32 | .di => .i32
  | .op => .i32 | .so => .i32 | .lo => .i32
/-- and the memref the kernel's body has of it. -/
def B.mem : (b : B) → Memref sig .scVector .vmem ⟨1, ![b.len]⟩ b.elt
  | .pv => Memref.whole cc0_scratch0 | .bx => Memref.whole cc0_scratch1 | .sc => Memref.whole cc0_scratch2
  | .hist => Memref.whole cc0_scratch3 | .cu => Memref.whole cc0_scratch4 | .ci => Memref.whole cc0_scratch5
  | .du => Memref.whole cc0_scratch6 | .di => Memref.whole cc0_scratch7 | .op => Memref.whole cc0_scratch8
  | .so => Memref.whole cc0_scratch9 | .lo => Memref.whole cc0_scratch10 | .bo => Memref.whole cc0_scratch11

/-- What a buffer holds, by position, -/
@[reducible] def St.get (T : St F) : (b : B) → ℕ → Elt F b.elt
  | .pv => T.pv | .bx => T.bx | .sc => T.sc | .hist => T.hist | .cu => T.cu | .ci => T.ci | .du => T.du | .di => T.di
  | .op => T.op | .so => T.so | .lo => T.lo | .bo => T.bo
/-- and the scratch with one buffer's contents replaced. -/
@[reducible] def St.set (T : St F) : (b : B) → (ℕ → Elt F b.elt) → St F
  | .pv, f => { T with pv := f } | .bx, f => { T with bx := f } | .sc, f => { T with sc := f }
  | .hist, f => { T with hist := f } | .cu, f => { T with cu := f } | .ci, f => { T with ci := f }
  | .du, f => { T with du := f } | .di, f => { T with di := f } | .op, f => { T with op := f }
  | .so, f => { T with so := f } | .lo, f => { T with lo := f } | .bo, f => { T with bo := f }

/-- The contents of scratch buffer `b`. -/
def St.buf (T : St F) (b : B) : b.mem.view.ty.Contents (Elt F) :=
  match b with
  | .pv => (fun i : (⟨1, ![81920]⟩ : Shape).Idx => T.pv (i 0).val)
  | .bx => (fun i : (⟨1, ![3600]⟩ : Shape).Idx => T.bx (i 0).val)
  | .sc => (fun i : (⟨1, ![32]⟩ : Shape).Idx => T.sc (i 0).val)
  | .hist => (fun i : (⟨1, ![8192]⟩ : Shape).Idx => T.hist (i 0).val)
  | .cu => (fun i : (⟨1, ![4128]⟩ : Shape).Idx => T.cu (i 0).val)
  | .ci => (fun i : (⟨1, ![4128]⟩ : Shape).Idx => T.ci (i 0).val)
  | .du => (fun i : (⟨1, ![320]⟩ : Shape).Idx => T.du (i 0).val)
  | .di => (fun i : (⟨1, ![320]⟩ : Shape).Idx => T.di (i 0).val)
  | .op => (fun i : (⟨1, ![304]⟩ : Shape).Idx => T.op (i 0).val)
  | .so => (fun i : (⟨1, ![304]⟩ : Shape).Idx => T.so (i 0).val)
  | .lo => (fun i : (⟨1, ![304]⟩ : Shape).Idx => T.lo (i 0).val)
  | .bo => (fun i : (⟨1, ![1216]⟩ : Shape).Idx => T.bo (i 0).val)

variable (d : Dev nD) (L : grid0.Coords)

abbrev cV (L : grid0.Coords) : Fin τ.nSC := (L 0).castLE hcore0
abbrev jV (L : grid0.Coords) : Fin τ.nSub := (L 1).castLE hsub0

/-- Holding the whole scratch, at contents `T`. -/
def own (T : St F) : sProp 𝕄 :=
  bigSep Finset.univ fun b : B => b.mem.view.loc (V d (cV L) (jV L)) ↦{fullShare} T.buf b

/-- One buffer taken out of the scratch, to be put back rewritten. -/
theorem own_take (b : B) (T T' : St F) (h : ∀ b', b' ≠ b → T'.buf b' = T.buf b') :
    (own d L T : sProp 𝕄) ⊢ iprop((b.mem.view.loc (V d (cV L) (jV L)) ↦{fullShare} T.buf b)
      ∗ ((b.mem.view.loc (V d (cV L) (jV L)) ↦{fullShare} T'.buf b) -∗ own d L T')) := by
  have e1 : (own d L T : sProp 𝕄) = iprop((b.mem.view.loc (V d (cV L) (jV L)) ↦{fullShare} T.buf b)
      ∗ bigSep (Finset.univ.erase b) fun b : B => b.mem.view.loc (V d (cV L) (jV L)) ↦{fullShare} T.buf b) :=
    SparseCore.bigSep_erase' (Finset.mem_univ b)
  have e2 : (own d L T' : sProp 𝕄) = iprop((b.mem.view.loc (V d (cV L) (jV L)) ↦{fullShare} T'.buf b)
      ∗ bigSep (Finset.univ.erase b) fun b : B => b.mem.view.loc (V d (cV L) (jV L)) ↦{fullShare} T'.buf b) :=
    SparseCore.bigSep_erase' (Finset.mem_univ b)
  have e3 : (bigSep (Finset.univ.erase b) fun b : B => b.mem.view.loc (V d (cV L) (jV L)) ↦{fullShare} T'.buf b : sProp 𝕄)
      = bigSep (Finset.univ.erase b) fun b : B => b.mem.view.loc (V d (cV L) (jV L)) ↦{fullShare} T.buf b :=
    bigSep_congr fun b' hb' => by rw [h b' (Finset.ne_of_mem_erase hb')]
  rw [e1, e2, e3]
  iintro ⟨H, HR⟩
  isplitl [H]; · iexact H
  iintro H
  isplitl [H] <;> iassumption

variable [FloatOps F]

/-- Programs of the tile. -/
abbrev Tprog (F : FTy → Type) (L : grid0.Coords) (α : Type) : Type _ :=
  Prog (TpuEff nD τ sig (Elt F) Λ₀ (.scVector (cV L) (jV L))) α

/-- From scratch contents `T`, the program yields a value and contents satisfying `Φ`. -/
def Do {α : Type} (T : St F) (p : Tprog F L α) (Φ : α → St F → Prop) : Prop :=
  ∃ (a : α) (T' : St F), Φ a T' ∧ ∀ (β : Type) (k : α → Tprog F L β) (Q : β → sProp 𝕄),
    (own d L T : sProp 𝕄) ⊢ iprop((own d L T' -∗ wp frame (wpE (defs₀ (F := F)) 𝒱₀ (V d (cV L) (jV L)) none) Set.univ (k a) Q)
      -∗ wp frame (wpE (defs₀ (F := F)) 𝒱₀ (V d (cV L) (jV L)) none) Set.univ (p >>= k) Q)

variable {d L}
variable {α β : Type} {T : St F}

theorem Do.ret {a : α} {Φ : α → St F → Prop} (h : Φ a T) : Do d L T (Prog.ret a) Φ :=
  ⟨a, T, h, fun β k Q => by
    iintro H Hk
    iapply Hk; iexact H⟩

theorem Do.mono {p : Tprog F L α} {Φ Ψ : α → St F → Prop} (h : Do d L T p Φ) (hi : ∀ a T', Φ a T' → Ψ a T') : Do d L T p Ψ := by
  obtain ⟨a, T', h, hp⟩ := h
  exact ⟨a, T', hi _ _ h, hp⟩

theorem Do.bind {p : Tprog F L α} {f : α → Tprog F L β} {Φ : β → St F → Prop}
    (h : Do d L T p fun a T' => Do d L T' (f a) Φ) : Do d L T (p >>= f) Φ := by
  obtain ⟨a, T', ⟨b, T'', hΦ, hf⟩, hp⟩ := h
  refine ⟨b, T'', hΦ, fun γ k Q => ?_⟩
  have e : (p >>= f) >>= k = p >>= fun a => f a >>= k := Prog.bind_assoc p f k
  rw [e]
  iintro H Hk
  iapply (hp γ (fun a => f a >>= k) Q) $$ H
  iintro H
  iapply (hf γ k Q) $$ H
  iexact Hk

/-- The common form of the memory rules: a one-buffer step. -/
theorem Do.step (b : B) {p : Tprog F L α} {a : α} {T' : St F} {Φ : α → St F → Prop} (hΦ : Φ a T')
    (h : ∀ b', b' ≠ b → T'.buf b' = T.buf b')
    (hp : ∀ (β : Type) (k : α → Tprog F L β) (Q : β → sProp 𝕄),
      (b.mem.view.loc (V d (cV L) (jV L)) ↦{fullShare} T.buf b : sProp 𝕄)
        ⊢ iprop(((b.mem.view.loc (V d (cV L) (jV L)) ↦{fullShare} T'.buf b)
            -∗ wp frame (wpE (defs₀ (F := F)) 𝒱₀ (V d (cV L) (jV L)) none) Set.univ (k a) Q)
          -∗ wp frame (wpE (defs₀ (F := F)) 𝒱₀ (V d (cV L) (jV L)) none) Set.univ (p >>= k) Q)) : Do d L T p Φ := by
  refine ⟨a, T', hΦ, fun β k Q => ?_⟩
  iintro H Hk
  ihave H' := (own_take d L b T T' h) $$ H
  icases H' with ⟨H, Hc⟩
  iapply (hp β k Q) $$ H
  iintro H
  iapply Hk
  iapply Hc; iexact H

/-! ## The rules, on operations as they stand at the head of a program -/

theorem Do.assume {P : Prop} {dP : Decidable P} {k : PLift P → Tprog F L α} {Φ : α → St F → Prop} (hP : P)
    (h : Do d L T (k ⟨hP⟩) Φ) : Do d L T (Prog.op (TpuEff.assume P dP) k) Φ := by
  obtain ⟨a, T', hΦ, hp⟩ := h
  refine ⟨a, T', hΦ, fun β k' Q => ?_⟩
  have e : (Prog.op (TpuEff.assume P dP) k : Tprog F L α) >>= k' = Prog.op (TpuEff.assume P dP) fun x => k x >>= k' := rfl
  rw [e]
  exact (hp β k' Q).trans (wand_mono_right (wp_assume 𝒱₀ (V d (cV L) (jV L)) none Set.univ (k := fun x => k x >>= k') hP))

omit [FloatOps F] in
theorem St.set_others (b : B) (f : ℕ → Elt F b.elt) : ∀ b', b' ≠ b → (T.set b f).buf b' = T.buf b' := by
  intro b' h
  cases b <;> cases b' <;> first | rfl | exact absurd rfl h

/-- Lane `k` of sixteen. -/
abbrev lane (k : ℕ) (h : k < 16) : S16.Idx := fun a => ⟨k, by rw [Fin.eq_zero a]; exact h⟩

theorem lane_eq (x : S16.Idx) (h : (x 0).val < 16) : lane (x 0).val h = x := by
  funext a; obtain rfl := Fin.eq_zero a; rfl

/-- `f` with the sixteen words `v` written from position `off` on. -/
def upd {A : Type} (f : ℕ → A) (off : ℕ) (v : S16.Idx → A) : ℕ → A :=
  fun n => if h : off ≤ n ∧ n < off + 16 then v (lane (n - off) (by omega)) else f n

/-- What a buffer is read as through its memref, -/
theorem read_buf (T : St F) (b : B) : b.mem.view.read (Elt F) (T.buf b) = fun i => T.get b (i 0).val := by
  cases b <;> exact rfl

theorem full_buf (b : B) (i : b.mem.view.ty.Idx) : ∃ x, b.mem.view.emb x = i := by cases b <;> exact ⟨i, rfl⟩

/-- and two contents read alike are one. -/
theorem eq_buf (b : B) {f g : b.mem.view.ty.Contents (Elt F)} (h : b.mem.view.read (Elt F) f = b.mem.view.read (Elt F) g) : f = g := by
  funext i
  obtain ⟨x, rfl⟩ := full_buf b i
  have := congrFun h x
  rw [View.read_apply, View.read_apply] at this
  have h2 := congrArg (_root_.cast (congrArg (Elt F) b.mem.view.elt_eq.symm)) this
  rwa [cast_cast, cast_cast, cast_eq, cast_eq] at h2

theorem set_buf (b : B) : b.mem.view.set = Finset.univ := by
  ext i
  simp only [Finset.mem_univ, iff_true]
  obtain ⟨x, rfl⟩ := full_buf b i
  exact b.mem.view.emb_mem_set x

/-- The rectangle of the sixteen elements from `off 0` on. -/
abbrev r16 {n : ℕ} (off : Fin 1 → ℕ) (inb : ∀ a, off a + S16.size a ≤ (⟨1, ![n]⟩ : Shape).size a) : Rect ⟨1, ![n]⟩ :=
  Rect.unit (s := ⟨1, ![n]⟩) off S16.size inb

theorem r16_idx {n : ℕ} (off : Fin 1 → ℕ) (inb : ∀ a, off a + S16.size a ≤ (⟨1, ![n]⟩ : Shape).size a)
    (x : (r16 off inb).shape.Idx) : (((r16 off inb).idx x) 0).val = off 0 + (x 0).val := by
  show off 0 + 1 * (x 0).val = _
  omega

theorem upd_in {A : Type} {n : ℕ} (off : Fin 1 → ℕ) (inb : ∀ a, off a + S16.size a ≤ (⟨1, ![n]⟩ : Shape).size a)
    (f : ℕ → A) (w : S16.Idx → A) (x : S16.Idx) :
    upd f (off 0) w (((r16 off inb).idx x) 0).val = w x := by
  have hx : (x 0).val < 16 := (x 0).isLt
  have e := r16_idx off inb x
  unfold upd
  rw [dif_pos (by omega)]
  congr 1
  funext a
  obtain rfl := Fin.eq_zero a
  apply Fin.ext
  show ((r16 off inb).idx x 0).val - off 0 = (x 0).val
  omega

theorem upd_out {A : Type} {n : ℕ} (off : Fin 1 → ℕ) (inb : ∀ a, off a + S16.size a ≤ (⟨1, ![n]⟩ : Shape).size a)
    (f : ℕ → A) (w : S16.Idx → A) (i : (⟨1, ![n]⟩ : Shape).Idx) (h : ∀ x, (r16 off inb).idx x ≠ i) :
    upd f (off 0) w (i 0).val = f (i 0).val := by
  unfold upd
  rw [dif_neg]
  intro hi
  refine h (lane ((i 0).val - off 0) (by omega)) ?_
  funext a
  obtain rfl := Fin.eq_zero a
  apply Fin.ext
  rw [r16_idx]
  show off 0 + ((i 0).val - off 0) = _
  omega

/-- A load, its value named. -/
theorem wp_load_to {s : Shape} {e : EltTy} {m : Memref sig .scVector .vmem s e} {r : Rect s} {hl : m.view.LoadsAt r}
    {k : (r.shape.Idx → Elt F e) → Tprog F L β} {Q : β → sProp 𝕄} (f : Buf (Elt F) ((m.access r).loc (V d (cV L) (jV L))))
    (v : r.shape.Idx → Elt F e) (hv : (m.access r).read (Elt F) f = v) :
    ((m.access r).loc (V d (cV L) (jV L)) ↦{fullShare} f : sProp 𝕄)
      ⊢ iprop((((m.access r).loc (V d (cV L) (jV L)) ↦{fullShare} f)
          -∗ wp frame (wpE (defs₀ (F := F)) 𝒱₀ (V d (cV L) (jV L)) none) Set.univ (k v) Q)
        -∗ wp frame (wpE (defs₀ (F := F)) 𝒱₀ (V d (cV L) (jV L)) none) Set.univ (.op (.load m r hl) k) Q) := by
  subst hv
  exact wp_load_rect (defs := defs₀ (F := F)) 𝒱₀ (V d (cV L) (jV L)) none Set.univ (k := k) (Finset.subset_univ _)

/-- A store, what it leaves named. -/
theorem wp_store_to {s : Shape} {e : EltTy} {m : Memref sig .scVector .vmem s e} {r : Rect s} {w : r.shape.Idx → Elt F e}
    {hx : (m.access r).Stores Finset.univ} {hm : (Finset.univ : Finset r.shape.Idx) = Finset.univ ∨ ∀ a, r.stride a = 1}
    {k : PUnit → Tprog F L β} {Q : β → sProp 𝕄} (f g : Buf (Elt F) ((m.access r).loc (V d (cV L) (jV L))))
    (hv : (m.access r).write (Elt F) f w Finset.univ = g) :
    ((m.access r).loc (V d (cV L) (jV L)) ↦{fullShare} f : sProp 𝕄)
      ⊢ iprop((((m.access r).loc (V d (cV L) (jV L)) ↦{fullShare} g)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (.op (.store m r w Finset.univ hx hm) k) Q) := by
  subst hv
  exact wp_store (defs := defs₀ (F := F)) 𝒱₀ (V d (cV L) (jV L)) none Set.univ (k := k) (S := Finset.univ) (Finset.subset_univ _)

end Cert.Proof.Tile

end
-- ==== Proof.Ops.lean ====
module

public import proofs.«01_k».proof.Proof.Rules

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {d : Dev nD} {L : grid0.Coords}
variable {α β : Type} {T : St F}
local notation "𝕄" => MT nD τ sig (HIx 1) (Elt F) ℕ UU ℕ

theorem op_bind (f : TpuEff nD τ sig (Elt F) Λ₀ (.scVector (cV L) (jV L)) β) (k : β → Tprog F L α) :
    (Prog.op f k : Tprog F L α) = (Prog.op f Prog.ret) >>= k := by
  rw [Prog.bind_op]; rfl

theorem read_r16 (b : B) {off : Fin 1 → ℕ} {inb : ∀ a, off a + S16.size a ≤ (⟨1, ![b.len]⟩ : Shape).size a} :
    (b.mem.access (r16 off inb)).read (Elt F) (T.buf b) = fun x => T.get b (off 0 + (x 0).val) := by
  funext x
  show b.mem.view.read (Elt F) (T.buf b) ((r16 off inb).idx x) = _
  rw [read_buf]
  exact congrArg _ (r16_idx off inb x)

theorem wp_load_b (b : B) {off : Fin 1 → ℕ} {inb : ∀ a, off a + S16.size a ≤ (⟨1, ![b.len]⟩ : Shape).size a}
    {hl : b.mem.view.LoadsAt (r16 off inb).toLoadRect} {k : (S16.Idx → Elt F b.elt) → Tprog F L α} {Q : α → sProp 𝕄} :
    (b.mem.view.loc (V d (cV L) (jV L)) ↦{fullShare} T.buf b : sProp 𝕄)
      ⊢ iprop(((b.mem.view.loc (V d (cV L) (jV L)) ↦{fullShare} T.buf b)
          -∗ wp frame (wpE (defs₀ (F := F)) 𝒱₀ (V d (cV L) (jV L)) none) Set.univ (k fun x => T.get b (off 0 + (x 0).val)) Q)
        -∗ wp frame (wpE (defs₀ (F := F)) 𝒱₀ (V d (cV L) (jV L)) none) Set.univ (Prog.op (TpuEff.load b.mem (r16 off inb).toLoadRect hl) k) Q) :=
  wp_load_to (m := b.mem) (r := r16 off inb) (k := k) (T.buf b) _ (read_r16 b)

/-- A load of sixteen elements. -/
theorem Do.load (b : B) {off : Fin 1 → ℕ} {inb : ∀ a, off a + S16.size a ≤ (⟨1, ![b.len]⟩ : Shape).size a}
    {hl : b.mem.view.LoadsAt (r16 off inb).toLoadRect} {k : (S16.Idx → Elt F b.elt) → Tprog F L α} {Φ : α → St F → Prop}
    (h : Do d L T (k fun x => T.get b (off 0 + (x 0).val)) Φ) :
    Do d L T (Prog.op (TpuEff.load b.mem (r16 off inb).toLoadRect hl) k) Φ := by
  rw [op_bind]
  apply Do.bind
  apply Do.step b (a := fun x : S16.Idx => T.get b (off 0 + (x 0).val)) (T' := T) h (fun _ _ => rfl)
  intro β k' Q
  exact wp_load_b b

omit [FloatOps F] in
theorem get_set (b : B) (f : ℕ → Elt F b.elt) : (T.set b f).get b = f := by cases b <;> rfl

theorem write_r16 (b : B) {off : Fin 1 → ℕ} {inb : ∀ a, off a + S16.size a ≤ (⟨1, ![b.len]⟩ : Shape).size a} (w : S16.Idx → Elt F b.elt) :
    (b.mem.access (r16 off inb)).write (Elt F) (T.buf b) w Finset.univ = (T.set b (upd (T.get b) (off 0) w)).buf b := by
  apply eq_buf
  rw [read_buf, get_set]
  funext i
  by_cases hi : i ∈ Finset.univ.map (r16 off inb).emb
  · obtain ⟨x, -, rfl⟩ := Finset.mem_map.mp hi
    rw [View.read_slice_write_emb _ _ _ (Finset.mem_univ x)]
    exact (upd_in off inb _ _ x).symm
  · rw [View.read_slice_write_of_not_mem _ _ _ _ hi, read_buf]
    exact (upd_out off inb _ _ i fun x e => hi (Finset.mem_map.mpr ⟨x, Finset.mem_univ x, e⟩)).symm

theorem wp_store_b (b : B) {off : Fin 1 → ℕ} {inb : ∀ a, off a + S16.size a ≤ (⟨1, ![b.len]⟩ : Shape).size a}
    {w : S16.Idx → Elt F b.elt} {hx : (b.mem.access (r16 off inb)).Stores Finset.univ}
    {hm : (Finset.univ : Finset (r16 off inb).shape.Idx) = Finset.univ ∨ ∀ a, (r16 off inb).stride a = 1}
    {k : PUnit → Tprog F L α} {Q : α → sProp 𝕄} :
    (b.mem.view.loc (V d (cV L) (jV L)) ↦{fullShare} T.buf b : sProp 𝕄)
      ⊢ iprop(((b.mem.view.loc (V d (cV L) (jV L)) ↦{fullShare} (T.set b (upd (T.get b) (off 0) w)).buf b)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (Prog.op (TpuEff.store b.mem (r16 off inb) w Finset.univ hx hm) k) Q) :=
  wp_store_to (m := b.mem) (r := r16 off inb) (k := k) (T.buf b) _ (write_r16 b w)

/-- A store of sixteen elements. -/
theorem Do.store (b : B) {off : Fin 1 → ℕ} {inb : ∀ a, off a + S16.size a ≤ (⟨1, ![b.len]⟩ : Shape).size a}
    {w : S16.Idx → Elt F b.elt} {hx : (b.mem.access (r16 off inb)).Stores Finset.univ}
    {hm : (Finset.univ : Finset (r16 off inb).shape.Idx) = Finset.univ ∨ ∀ a, (r16 off inb).stride a = 1}
    {k : PUnit → Tprog F L α} {Φ : α → St F → Prop}
    (h : Do d L (T.set b (upd (T.get b) (off 0) w)) (k ⟨⟩) Φ) :
    Do d L T (Prog.op (TpuEff.store b.mem (r16 off inb) w Finset.univ hx hm) k) Φ := by
  rw [op_bind]
  apply Do.bind
  apply Do.step b (a := ⟨⟩) (T' := T.set b (upd (T.get b) (off 0) w)) h (St.set_others b _)
  intro β k' Q
  exact wp_store_b b

theorem read_whole_buf (b : B) (f : b.mem.view.ty.Contents (Elt F)) :
    (b.mem.access (Rect.whole _)).read (Elt F) f = b.mem.view.read (Elt F) f := by
  funext x
  show b.mem.view.read (Elt F) f ((Rect.whole _).idx x) = _
  congr 1
  funext a
  apply Fin.ext
  show 0 + 1 * (x a).val = (x a).val
  omega

theorem read_whole_get (b : B) : (b.mem.access (Rect.whole _)).read (Elt F) (T.buf b) = fun i => T.get b (i 0).val :=
  (read_whole_buf b _).trans (read_buf T b)

theorem wp_gather_b (b : B) {v : IVec S16 32} {inb : ∀ a x, ((![v] : Fin 1 → IVec S16 32) a x).toNat < (⟨1, ![b.len]⟩ : Shape).size a}
    {hl : b.mem.view.Loads} {k : (S16.Idx → Elt F b.elt) → Tprog F L α} {Q : α → sProp 𝕄} :
    (b.mem.view.loc (V d (cV L) (jV L)) ↦{fullShare} T.buf b : sProp 𝕄)
      ⊢ iprop(((b.mem.view.loc (V d (cV L) (jV L)) ↦{fullShare} T.buf b)
          -∗ wp frame (wpE (defs₀ (F := F)) 𝒱₀ (V d (cV L) (jV L)) none) Set.univ (k fun x => T.get b (v x).toNat) Q)
        -∗ wp frame (wpE (defs₀ (F := F)) 𝒱₀ (V d (cV L) (jV L)) none) Set.univ (SparseCore.vectorLoadIdx b.mem ![v] inb hl >>= k) Q) := by
  rw [SparseCore.vectorLoadIdx_bind (c := V d (cV L) (jV L))]
  exact wp_load_to (m := b.mem) (r := Rect.whole _) (hl := View.loadsAt_whole hl) (k := fun f => k (loadIdx f ![v] inb)) (T.buf b) (fun i => T.get b (i 0).val) (read_whole_get b)

/-- An indexed load. -/
theorem Do.gather (b : B) {v : IVec S16 32} {inb : ∀ a x, ((![v] : Fin 1 → IVec S16 32) a x).toNat < (⟨1, ![b.len]⟩ : Shape).size a}
    {hl : b.mem.view.Loads} {k : (S16.Idx → Elt F b.elt) → Tprog F L α} {Φ : α → St F → Prop}
    (h : Do d L T (k fun x => T.get b (v x).toNat) Φ) :
    Do d L T (SparseCore.vectorLoadIdx b.mem ![v] inb hl >>= k) Φ := by
  apply Do.bind
  apply Do.step b (a := fun x : S16.Idx => T.get b (v x).toNat) (T' := T) h (fun _ _ => rfl)
  intro β k' Q
  exact wp_gather_b b

/-- What an indexed store leaves: lane by lane, lowest first, each set lane written at its index (`add` false) or added there. -/
def scat {A : Type} (op : A → A → A) (f : ℕ → A) (v : IVec S16 32) (w : S16.Idx → A) (m : IVec S16 1) : ℕ → A :=
  (List.finRange 16).foldl (fun g k =>
    if m (lane k.val k.isLt) = 1 then fun j => if j = (v (lane k.val k.isLt)).toNat then op (g j) (w (lane k.val k.isLt)) else g j else g) f

/-- The addition of an indexed store, or its overwriting. -/
abbrev idxOp (b : B) (add : Bool) : Elt F b.elt → Elt F b.elt → Elt F b.elt := fun o x => if add then Elt.idxAdd b.elt o x else x

theorem storeIdx_eq (b : B) (f : ℕ → Elt F b.elt) (v : IVec S16 32) (w : S16.Idx → Elt F b.elt) (m : IVec S16 1) (add : Bool)
    (h : ∀ a x, ((![v] : Fin 1 → IVec S16 32) a x).toNat < (⟨1, ![b.len]⟩ : Shape).size a) :
    (storeIdx (s := ⟨1, ![b.len]⟩) (d := ![16]) (fun i => f (i 0).val) ![v] w m add h) = fun i => scat (idxOp b add) f v w m (i 0).val := by
  unfold storeIdx scat
  show List.foldl (β := Fin 16) _ _ (List.finRange 16) = _
  generalize hl : List.finRange 16 = l
  clear hl
  induction l generalizing f with
  | nil => exact rfl
  | cons k l ih =>
    refine (?_ : List.foldl (β := Fin 16) _ _ (k :: l) = _)
    refine Eq.trans ?_ (ih _)
    refine congrArg (fun g => List.foldl (β := Fin 16) _ g l) ?_
    have e : (Shape.ofLane (d := ![16]) k : S16.Idx) = lane k.val k.isLt := by
      funext a; obtain rfl := Fin.eq_zero a; rfl
    change _ = fun i : (⟨1, ![b.len]⟩ : Shape).Idx => (if m (lane k.val k.isLt) = 1 then
      (fun j => if j = (v (lane k.val k.isLt)).toNat then idxOp b add (f j) (w (lane k.val k.isLt)) else f j) else f) (i 0).val
    by_cases hm : m (lane k.val k.isLt) = 1
    · have hm' : m (Shape.ofLane (d := ![16]) k) = 1 := by rw [e]; exact hm
      rw [if_pos hm]
      refine Eq.trans (if_pos hm') ?_
      funext j
      by_cases hj : (j 0).val = (v (lane k.val k.isLt)).toNat
      · refine (if_pos ?_).trans (Eq.trans ?_ (if_pos hj).symm)
        · intro a; obtain rfl := Fin.eq_zero a
          show _ = (v (Shape.ofLane (d := ![16]) k)).toNat
          rw [e]; exact hj
        · show (if add then Elt.idxAdd b.elt (f (v (Shape.ofLane (d := ![16]) k)).toNat) (w (Shape.ofLane (d := ![16]) k)) else w (Shape.ofLane (d := ![16]) k)) = _
          rw [e, hj]
      · refine (if_neg ?_).trans (if_neg hj).symm
        intro h'; refine hj ?_
        have := h' 0
        rw [← e]; exact this
    · have hm' : ¬ m (Shape.ofLane (d := ![16]) k) = 1 := by rw [e]; exact hm
      rw [if_neg hm]
      exact if_neg hm'

theorem write_scat (b : B) (v : IVec S16 32) (w : S16.Idx → Elt F b.elt) (m : IVec S16 1) (add : Bool)
    (inb : ∀ a x, ((![v] : Fin 1 → IVec S16 32) a x).toNat < (⟨1, ![b.len]⟩ : Shape).size a) :
    (b.mem.access (Rect.whole _)).write (Elt F) (T.buf b) (storeIdx (s := ⟨1, ![b.len]⟩) (d := ![16]) (fun i => T.get b (i 0).val) ![v] w m add inb) Finset.univ
      = (T.set b (scat (idxOp b add) (T.get b) v w m)).buf b := by
  apply eq_buf
  rw [read_buf, get_set, ← read_whole_buf]
  exact (funext fun x => View.read_write_of_mem _ _ (Finset.mem_univ x)).trans (storeIdx_eq b _ v w m add inb)

theorem wp_scatter_b (b : B) {v : IVec S16 32} {w : S16.Idx → Elt F b.elt} {m : IVec S16 1} {add : Bool}
    {inb : ∀ a x, ((![v] : Fin 1 → IVec S16 32) a x).toNat < (⟨1, ![b.len]⟩ : Shape).size a}
    {hs : (b.mem.access (.whole _)).Stores Finset.univ} {k : PUnit → Tprog F L α} {Q : α → sProp 𝕄} :
    (b.mem.view.loc (V d (cV L) (jV L)) ↦{fullShare} T.buf b : sProp 𝕄)
      ⊢ iprop(((b.mem.view.loc (V d (cV L) (jV L)) ↦{fullShare} (T.set b (scat (idxOp b add) (T.get b) v w m)).buf b)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (d := ![16]) b.mem ![v] w m add inb hs >>= k) Q) := by
  rw [SparseCore.vectorStoreIdx_bind (c := V d (cV L) (jV L))]
  iintro H Hk
  iapply (wp_load_to (m := b.mem) (k := fun f => .op (.store b.mem (.whole _) (storeIdx (d := ![16]) f ![v] w m add inb) Finset.univ hs (.inl rfl)) k)
    (T.buf b) (fun i => T.get b (i 0).val) (read_whole_get b)) $$ H
  iintro H
  iapply (wp_store_to (m := b.mem) (T.buf b) ((T.set b (scat (idxOp b add) (T.get b) v w m)).buf b) (write_scat b v w m add inb)) $$ H
  iexact Hk

/-- An indexed store. -/
theorem Do.scatter (b : B) {v : IVec S16 32} {w : S16.Idx → Elt F b.elt} {m : IVec S16 1} {add : Bool}
    {inb : ∀ a x, ((![v] : Fin 1 → IVec S16 32) a x).toNat < (⟨1, ![b.len]⟩ : Shape).size a}
    {hs : (b.mem.access (.whole _)).Stores Finset.univ} {k : PUnit → Tprog F L α} {Φ : α → St F → Prop}
    (h : Do d L (T.set b (scat (idxOp b add) (T.get b) v w m)) (k ⟨⟩) Φ) :
    Do d L T (SparseCore.vectorStoreIdx (d := ![16]) b.mem ![v] w m add inb hs >>= k) Φ := by
  apply Do.bind
  apply Do.step b (a := ⟨⟩) (T' := T.set b (scat (idxOp b add) (T.get b) v w m)) h (St.set_others b _)
  intro β k' Q
  exact wp_scatter_b b

/-- A loop, from an invariant on its trips. -/
theorem Do.for {σ : Type} {w : ℕ} {lb ub st : BitVec w} {hok : Scf.OK lb ub st} {init : σ}
    {body : Fin (Scf.trips lb ub st) → σ → Tprog F L σ} (I : ℕ → σ → St F → Prop) {Φ : σ → St F → Prop}
    (h0 : I 0 init T)
    (hs : ∀ (k : Fin (Scf.trips lb ub st)) a T', I k.val a T' → Do d L T' (body k a) (I (k.val + 1)))
    (hΦ : ∀ a T', I (Scf.trips lb ub st) a T' → Φ a T') : Do d L T (Scf.for lb ub st hok init body) Φ := by
  rw [Scf.for_eq]
  refine Do.mono ?_ hΦ
  generalize Scf.trips lb ub st = n at *
  have key : ∀ m k a T, m + k = n → I k a T → Do d L T (Scf.forFrom body ((List.finRange n).drop k) a) (I n) := by
    intro m
    induction m with
    | zero =>
      intro k a T hk hI
      obtain rfl : k = n := by omega
      rw [List.drop_eq_nil_of_le (by simp)]
      exact Do.ret hI
    | succ m ih =>
      intro k a T hk hI
      have hlt : k < n := by omega
      rw [List.drop_eq_getElem_cons (by simpa using hlt), Scf.forFrom_cons]
      refine Do.bind (Do.mono (hs _ a T ?_) fun a' T' h => ih (k + 1) a' T' (by omega) ?_)
      · simpa using hI
      · simpa using h
  exact key n 0 init T (by omega) h0

theorem Do.bind' {p : Tprog F L α} {f : α → Tprog F L β} {Φ : β → St F → Prop} (Ψ : α → St F → Prop)
    (h : Do d L T p Ψ) (hf : ∀ a T', Ψ a T' → Do d L T' (f a) Φ) : Do d L T (p >>= f) Φ :=
  Do.bind (h.mono hf)

end Cert.Proof.Tile

end
-- ==== Proof.Vec.lean ====
/-
  The vector operations of the tile read as arithmetic: running sums as counts, running minima and maxima, the
  compressing store and the counting store.
-/
module

public import proofs.«01_k».proof.Proof.Ops

@[expose] public section

noncomputable section

namespace Cert.Proof.Tile

open Cert.KernelIdeal Cert.KernelIdeal.Gen
open Idealize.ShloMosaic
open Idealize.ShloMosaic.SparseCore (S V T)

variable {F : FTy → Type} [FloatOps F] {A : Type}

/-! ## Lanes -/

/-- Lane `k` (below sixteen). -/
def ln (k : ℕ) : S16.Idx := fun a => ⟨k % 16, by obtain rfl := Fin.eq_zero a; exact Nat.mod_lt _ (by decide)⟩

theorem lane_ln (k : ℕ) (h : k < 16) : lane k h = ln k := by
  funext a; obtain rfl := Fin.eq_zero a; exact Fin.ext (Nat.mod_eq_of_lt h).symm

theorem lt16 (x : S16.Idx) : (x 0).val < 16 := (x 0).isLt

theorem ln_self (x : S16.Idx) : ln (x 0).val = x := by
  rw [← lane_ln _ (lt16 x)]; exact lane_eq x _

theorem ln_val (k : ℕ) (h : k < 16) : ((ln k) 0).val = k := Nat.mod_eq_of_lt h

theorem upd_at (f : ℕ → A) (off : ℕ) (v : S16.Idx → A) (k : ℕ) (h : k < 16) : upd f off v (off + k) = v (ln k) := by
  unfold upd
  rw [dif_pos (by omega), lane_ln]
  congr 2; omega

theorem upd_off (f : ℕ → A) (off : ℕ) (v : S16.Idx → A) (n : ℕ) (h : n < off ∨ off + 16 ≤ n) : upd f off v n = f n := by
  unfold upd
  rw [dif_neg (by omega)]

theorem bit_ne {b : BitVec 1} (h : ¬ b = 1) : b = 0 := by
  revert h; revert b; decide

theorem bit_iff {p : Bool} : BitVec.ofBool p = (1 : BitVec 1) ↔ p = true := by cases p <;> decide

/-! ## Scans -/

/-- The running value of a scan. -/
def run (kind : ScanKind) (f : ℕ → BitVec 32) : ℕ → BitVec 32
  | 0 => f 0
  | n + 1 => kind.step (run kind f n) (f (n + 1))

theorem foldl_run (kind : ScanKind) (f : ℕ → BitVec 32) (n : ℕ) :
    (List.range n).foldl (fun r k => kind.step r (f (k + 1))) (f 0) = run kind f n := by
  induction n with
  | zero => rfl
  | succ n ih => rw [List.range_succ, List.foldl_append, ih]; rfl

theorem filter_range (j : Fin 16) : (List.finRange 16).filter (fun k => decide (0 < k.val ∧ k.val ≤ j.val))
    = (List.range j.val).map fun k => (⟨(k + 1) % 16, Nat.mod_lt _ (by decide)⟩ : Fin 16) := by
  revert j; decide

theorem scan_run (kind : ScanKind) (v : IVec S16 32) (k : ℕ) (h : k < 16) :
    scan kind v (ln k) = run kind (fun i => v (ln i)) k := by
  have e0 : (Shape.ofLane (d := ![16]) ⟨0, by decide⟩ : S16.Idx) = ln 0 := by
    funext a; obtain rfl := Fin.eq_zero a; rfl
  have e : scan kind v (ln k) = ((List.finRange 16).filter (fun i => decide (0 < i.val ∧ i.val ≤ (⟨k, h⟩ : Fin 16).val))).foldl
      (fun r i => kind.step r (v (lane i.val i.isLt))) (v (ln 0)) := by
    unfold scan
    show List.foldl (α := BitVec 32) (β := Fin 16) _ _ _ = _
    have hk : ((ln k) 0).val = k := ln_val k h
    congr 1
    congr 1
    funext i
    rw [hk]
  rw [e, filter_range, List.foldl_map, ← foldl_run]
  refine List.foldl_ext _ _ _ fun r i hi => ?_
  have : i < k := List.mem_range.mp hi
  rw [lane_ln]
  congr 2
  show ln ((i + 1) % 16) = _
  rw [Nat.mod_eq_of_lt (by omega)]

theorem last_eq (v : IVec S16 32) (h : ∀ a, (![15] : Fin 1 → ℕ) a < S16.size a) : extractAt (s := S16) ![15] v h = v (ln 15) := by
  unfold extractAt
  congr 1
  funext a; obtain rfl := Fin.eq_zero a; rfl

theorem run_min (f : ℕ → BitVec 32) (n : ℕ) :
    (∃ i ≤ n, run .min f n = f i) ∧ ∀ i ≤ n, (run .min f n).toNat ≤ (f i).toNat := by
  induction n with
  | zero => exact ⟨⟨0, le_refl _, rfl⟩, fun i hi => by rw [Nat.le_zero.mp hi]; exact le_refl _⟩
  | succ n ih =>
    obtain ⟨⟨i, hi, e⟩, hl⟩ := ih
    show (∃ i ≤ n + 1, IntOp.minui _ _ = f i) ∧ ∀ i ≤ n + 1, (IntOp.minui (run .min f n) (f (n + 1))).toNat ≤ _
    unfold IntOp.minui
    by_cases h : (run .min f n).ult (f (n + 1))
    · rw [if_pos h]
      have h' : (run .min f n).toNat < (f (n + 1)).toNat := by simpa [BitVec.ult] using h
      refine ⟨⟨i, by omega, e⟩, fun j hj => ?_⟩
      by_cases hj' : j = n + 1
      · subst hj'; omega
      · exact hl j (by omega)
    · rw [if_neg h]
      have h' : (f (n + 1)).toNat ≤ (run .min f n).toNat := by simpa [BitVec.ult] using h
      refine ⟨⟨n + 1, le_refl _, rfl⟩, fun j hj => ?_⟩
      by_cases hj' : j = n + 1
      · subst hj'; exact le_refl _
      · exact h'.trans (hl j (by omega))

theorem run_max (f : ℕ → BitVec 32) (n : ℕ) :
    (∃ i ≤ n, run .max f n = f i) ∧ ∀ i ≤ n, (f i).toNat ≤ (run .max f n).toNat := by
  induction n with
  | zero => exact ⟨⟨0, le_refl _, rfl⟩, fun i hi => by rw [Nat.le_zero.mp hi]; exact le_refl _⟩
  | succ n ih =>
    obtain ⟨⟨i, hi, e⟩, hl⟩ := ih
    show (∃ i ≤ n + 1, IntOp.maxui _ _ = f i) ∧ ∀ i ≤ n + 1, _ ≤ (IntOp.maxui (run .max f n) (f (n + 1))).toNat
    unfold IntOp.maxui
    by_cases h : (f (n + 1)).ult (run .max f n)
    · rw [if_pos h]
      have h' : (f (n + 1)).toNat < (run .max f n).toNat := by simpa [BitVec.ult] using h
      refine ⟨⟨i, by omega, e⟩, fun j hj => ?_⟩
      by_cases hj' : j = n + 1
      · subst hj'; omega
      · exact hl j (by omega)
    · rw [if_neg h]
      have h' : (run .max f n).toNat ≤ (f (n + 1)).toNat := by simpa [BitVec.ult] using h
      refine ⟨⟨n + 1, le_refl _, rfl⟩, fun j hj => ?_⟩
      by_cases hj' : j = n + 1
      · subst hj'; exact le_refl _
      · exact (hl j (by omega)).trans h'

theorem flip_low (b : BitVec 32) (h : b.toNat < 2 ^ 31) : b ^^^ 2147483648#32 = b + 2147483648#32 := by
  apply BitVec.eq_of_toNat_eq
  rw [BitVec.toNat_xor, BitVec.toNat_add, Nat.mod_eq_of_lt (by simp only [BitVec.toNat_ofNat]; omega)]
  show b.toNat ^^^ 2 ^ 31 = b.toNat + 2 ^ 31
  rw [Nat.add_comm, ← Nat.mul_one (2 ^ 31), Nat.two_pow_add_eq_or_of_lt h, Nat.mul_one]
  apply Nat.eq_of_testBit_eq
  intro i
  rw [Nat.testBit_xor, Nat.testBit_or, Nat.testBit_two_pow]
  by_cases hi : 31 = i
  · subst hi
    rw [Nat.testBit_lt_two_pow h]; rfl
  · simp [hi]

/-- Flipping the sign bit moves the words from the signed order to the unsigned one. -/
theorem flip_toNat (a : BitVec 32) : ((a ^^^ 2147483648#32).toNat : ℤ) = a.toInt + 2147483648 := by
  have e : a ^^^ 2147483648#32 = a + 2147483648#32 := by
    by_cases h : a.toNat < 2 ^ 31
    · exact flip_low a h
    · have hb : (a - 2147483648#32).toNat < 2 ^ 31 := by
        have := a.isLt
        rw [BitVec.toNat_sub]
        simp only [BitVec.toNat_ofNat]
        omega
      have h1 := flip_low _ hb
      rw [BitVec.sub_add_cancel] at h1
      have h2 : a ^^^ 2147483648#32 = a - 2147483648#32 := by
        rw [← h1, BitVec.xor_assoc, BitVec.xor_self, BitVec.xor_zero, h1]
      rw [h2]
      apply BitVec.eq_of_toNat_eq
      rw [BitVec.toNat_sub, BitVec.toNat_add]
      simp only [BitVec.toNat_ofNat]
      omega
  rw [e, BitVec.toNat_add, BitVec.toInt_eq_toNat_cond]
  have := a.isLt
  simp only [BitVec.toNat_ofNat]
  split <;> omega

theorem flip_flip (a : BitVec 32) : (a ^^^ 2147483648#32) ^^^ 2147483648#32 = a := by
  rw [BitVec.xor_assoc, BitVec.xor_self, BitVec.xor_zero]

/-- The last lane of the running signed minimum is the smallest lane. -/
theorem flip_min (v : IVec S16 32) : ∃ k < 16, xori (scan .min (xori v (broadcast S16 2147483648#32))) (broadcast S16 2147483648#32) (ln 15) = v (ln k)
    ∧ ∀ i < 16, (v (ln k)).toInt ≤ (v (ln i)).toInt := by
  obtain ⟨⟨k, hk, e⟩, hl⟩ := run_min (fun i => v (ln i) ^^^ 2147483648#32) 15
  have es := scan_run .min (xori v (broadcast S16 2147483648#32)) 15 (by omega)
  refine ⟨k, by omega, ?_, fun i hi => ?_⟩
  · show scan .min (xori v (broadcast S16 2147483648#32)) (ln 15) ^^^ 2147483648#32 = _
    rw [es]
    show run .min (fun i => v (ln i) ^^^ 2147483648#32) 15 ^^^ _ = _
    rw [e]
    exact flip_flip _
  · have h := hl i (by omega)
    rw [e] at h
    have h1 := flip_toNat (v (ln k))
    have h2 := flip_toNat (v (ln i))
    omega

/-- The last lane of the running signed maximum is the greatest lane. -/
theorem flip_max (v : IVec S16 32) : ∃ k < 16, xori (scan .max (xori v (broadcast S16 2147483648#32))) (broadcast S16 2147483648#32) (ln 15) = v (ln k)
    ∧ ∀ i < 16, (v (ln i)).toInt ≤ (v (ln k)).toInt := by
  obtain ⟨⟨k, hk, e⟩, hl⟩ := run_max (fun i => v (ln i) ^^^ 2147483648#32) 15
  have es := scan_run .max (xori v (broadcast S16 2147483648#32)) 15 (by omega)
  refine ⟨k, by omega, ?_, fun i hi => ?_⟩
  · show scan .max (xori v (broadcast S16 2147483648#32)) (ln 15) ^^^ 2147483648#32 = _
    rw [es]
    show run .max (fun i => v (ln i) ^^^ 2147483648#32) 15 ^^^ _ = _
    rw [e]
    exact flip_flip _
  · have h := hl i (by omega)
    rw [e] at h
    have h1 := flip_toNat (v (ln k))
    have h2 := flip_toNat (v (ln i))
    omega

/-! ## Sums and counts -/

theorem run_sum (f : ℕ → BitVec 32) (g : ℕ → ℕ) (n : ℕ) (h : ∀ i ≤ n, f i = BitVec.ofNat 32 (g i)) :
    run .sum f n = BitVec.ofNat 32 (∑ i ∈ Finset.range (n + 1), g i) := by
  induction n with
  | zero => simp [run, h 0 (le_refl _)]
  | succ n ih =>
    show IntOp.addi (run .sum f n) (f (n + 1)) = _
    rw [ih fun i hi => h i (by omega), h (n + 1) (le_refl _), Finset.sum_range_succ _ (n + 1)]
    exact (BitVec.ofNat_add _ _).symm

/-- How many of the first `n` lanes are set. -/
def cnt (m : IVec S16 1) (n : ℕ) : ℕ := Nat.count (fun k => m (ln k) = 1) n

theorem cnt_succ (m : IVec S16 1) (n : ℕ) : cnt m (n + 1) = cnt m n + if m (ln n) = 1 then 1 else 0 := Nat.count_succ _ _

theorem cnt_le (m : IVec S16 1) (n : ℕ) : cnt m n ≤ n := Nat.count_le _

theorem cnt_mono (m : IVec S16 1) {a b : ℕ} (h : a ≤ b) : cnt m a ≤ cnt m b := Nat.count_monotone _ h

/-- The lanes' bits as words. -/
abbrev ones (m : IVec S16 1) : IVec S16 32 := select m (broadcast S16 1#32) (broadcast S16 0#32)

theorem ones_eq (m : IVec S16 1) (x : S16.Idx) : ones m x = BitVec.ofNat 32 (if m x = 1 then 1 else 0) := by
  show (if m x = 1 then (1#32) else 0#32) = _
  split <;> rfl

theorem scan_ones (m : IVec S16 1) (k : ℕ) (h : k < 16) : scan .sum (ones m) (ln k) = BitVec.ofNat 32 (cnt m (k + 1)) := by
  rw [scan_run _ _ _ h, run_sum _ (fun i => if m (ln i) = 1 then 1 else 0) k fun i _ => ones_eq m (ln i)]
  congr 1
  generalize k + 1 = n
  induction n with
  | zero => rfl
  | succ n ih => rw [Finset.sum_range_succ, cnt_succ, ih]

/-- The positions a masked compress writes its lanes at: the first free one plus the number of set lanes before. -/
abbrev cpos (off : BitVec 32) (m : IVec S16 1) : IVec S16 32 := subi (addi (broadcast S16 off) (scan .sum (ones m))) (ones m)

theorem cpos_eq (off : BitVec 32) (m : IVec S16 1) (k : ℕ) (h : k < 16) (ho : off.toNat + 16 < 2 ^ 32) :
    (cpos off m (ln k)).toNat = off.toNat + cnt m k := by
  show (off + scan .sum (ones m) (ln k) - ones m (ln k)).toNat = _
  have hc := cnt_le m k
  rw [scan_ones m k h, ones_eq, cnt_succ]
  generalize (if m (ln k) = 1 then 1 else 0) = b
  rw [show off + BitVec.ofNat 32 (cnt m k + b) - BitVec.ofNat 32 b = off + BitVec.ofNat 32 (cnt m k) by
    rw [BitVec.ofNat_add, ← BitVec.add_assoc, BitVec.add_sub_cancel]]
  rw [BitVec.toNat_add, BitVec.toNat_ofNat]
  omega

/-! ## Indexed stores -/

/-- The indexed store's contents after its first `n` lanes. -/
def sct (op : A → A → A) (f : ℕ → A) (v : IVec S16 32) (w : S16.Idx → A) (m : IVec S16 1) : ℕ → ℕ → A
  | 0 => f
  | n + 1 => if m (ln n) = 1 then fun j => if j = (v (ln n)).toNat then op (sct op f v w m n j) (w (ln n)) else sct op f v w m n j
      else sct op f v w m n

theorem scat_sct (op : A → A → A) (f : ℕ → A) (v : IVec S16 32) (w : S16.Idx → A) (m : IVec S16 1) :
    scat op f v w m = sct op f v w m 16 := by
  have key : ∀ n (h : n ≤ 16), ((List.range n).foldl (fun g k =>
      if m (ln k) = 1 then fun j => if j = (v (ln k)).toNat then op (g j) (w (ln k)) else g j else g) f) = sct op f v w m n := by
    intro n h
    induction n with
    | zero => rfl
    | succ n ih => rw [List.range_succ, List.foldl_append, ih (by omega)]; rfl
  rw [← key 16 (le_refl _)]
  unfold scat
  have e : List.range 16 = (List.finRange 16).map fun k => k.val := by decide
  rw [e, List.foldl_map]
  refine List.foldl_ext _ _ _ fun g k _ => ?_
  simp only [lane_ln]

/-- An adding store adds at each position the number of set lanes naming it. -/
theorem scat_add (f : ℕ → BitVec 32) (v : IVec S16 32) (w : IVec S16 32) (m : IVec S16 1) (hw : ∀ x, w x = 1#32)
    (op : BitVec 32 → BitVec 32 → BitVec 32) (hop : ∀ a b, op a b = a + b) (j : ℕ) :
    scat op f v w m j = f j + BitVec.ofNat 32 (Nat.count (fun k => m (ln k) = 1 ∧ (v (ln k)).toNat = j) 16) := by
  rw [scat_sct]
  generalize 16 = n
  induction n with
  | zero => simp [sct]
  | succ n ih =>
    rw [Nat.count_succ, sct]
    by_cases hm : m (ln n) = 1
    · rw [if_pos hm]
      by_cases hj : j = (v (ln n)).toNat
      · simp only [← hj, hm, and_self, if_true]
        rw [hop, ih, hw, BitVec.ofNat_add, BitVec.add_assoc]
      · rw [if_neg hj, ih, if_neg (by tauto)]; rfl
    · rw [if_neg hm, ih, if_neg (by tauto)]; rfl

section
variable (op : A → A → A) (hop : ∀ a b, op a b = b) (f : ℕ → A) (v : IVec S16 32) (w : S16.Idx → A) (m : IVec S16 1)

/-- An overwriting store leaves alone what no set lane names, -/
theorem scat_out (j : ℕ) (h : ∀ k < 16, m (ln k) = 1 → (v (ln k)).toNat ≠ j) : scat op f v w m j = f j := by
  rw [scat_sct]
  have key : ∀ n ≤ 16, sct op f v w m n j = f j := by
    intro n hn
    induction n with
    | zero => rfl
    | succ n ih =>
      rw [sct]
      by_cases hm : m (ln n) = 1
      · rw [if_pos hm, if_neg fun e => h n (by omega) hm e.symm]
        exact ih (by omega)
      · rw [if_neg hm]
        exact ih (by omega)
  exact key 16 (le_refl _)

include hop in
/-- and, where the set lanes name different positions, writes each of them. -/
theorem scat_in (k : ℕ) (hk : k < 16) (hm : m (ln k) = 1)
    (h : ∀ i, k < i → i < 16 → m (ln i) = 1 → (v (ln i)).toNat ≠ (v (ln k)).toNat) : scat op f v w m (v (ln k)).toNat = w (ln k) := by
  rw [scat_sct]
  have key : ∀ n, k < n → n ≤ 16 → sct op f v w m n (v (ln k)).toNat = w (ln k) := by
    intro n hn hn'
    induction n with
    | zero => omega
    | succ n ih =>
      rw [sct]
      by_cases e : k = n
      · subst e
        rw [if_pos hm, if_pos rfl, hop]
      · by_cases hmn : m (ln n) = 1
        · rw [if_pos hmn, if_neg fun e' => h n (by omega) (by omega) hmn e'.symm]
          exact ih (by omega) (by omega)
        · rw [if_neg hmn]
          exact ih (by omega) (by omega)
  exact key 16 hk (le_refl _)

end

theorem cnt_lt {m : IVec S16 1} {i k : ℕ} (h : i < k) (hm : m (ln i) = 1) : cnt m i < cnt m k := by
  have h1 := cnt_mono m (show i + 1 ≤ k from h)
  rw [cnt_succ, if_pos hm] at h1
  omega

/-- A compressing store: set lane `k` lands at the first free position plus the number of set lanes before it. -/
theorem comp_in (op : A → A → A) (hop : ∀ a b, op a b = b) (f : ℕ → A) (off : BitVec 32) (w : S16.Idx → A) (m : IVec S16 1)
    (ho : off.toNat + 16 < 2 ^ 32) (k : ℕ) (hk : k < 16) (hm : m (ln k) = 1) :
    scat op f (cpos off m) w m (off.toNat + cnt m k) = w (ln k) := by
  rw [← cpos_eq off m k hk ho]
  refine scat_in op hop f _ w m k hk hm fun i hi hi' hmi => ?_
  rw [cpos_eq off m k hk ho, cpos_eq off m i hi' ho]
  have := cnt_lt hi hm
  omega

theorem comp_out (op : A → A → A) (f : ℕ → A) (off : BitVec 32) (w : S16.Idx → A) (m : IVec S16 1)
    (ho : off.toNat + 16 < 2 ^ 32) (j : ℕ) (hj : j < off.toNat ∨ off.toNat + cnt m 16 ≤ j) :
    scat op f (cpos off m) w m j = f j := by
  refine scat_out op f _ w m j fun k hk hm => ?_
  rw [cpos_eq off m k hk ho]
  have := cnt_lt hk hm
  omega

end Cert.Proof.Tile

end
-- ==== Proof.Radix.lean ====
/-
  The scan of a histogram from its top bin down to the one where a wanted count is reached, and the sixteen-word steps
  of counting and of compressing.
-/
module

public import proofs.«01_k».proof.Proof.Vec

@[expose] public section

noncomputable section

namespace Cert.Proof.Tile

open Cert.KernelIdeal Cert.KernelIdeal.Gen
open Idealize.ShloMosaic
open Idealize.ShloMosaic.SparseCore (S V T)

variable {F : FTy → Type} [FloatOps F] {A : Type}

/-! ## Small words -/

theorem nat_of (n : ℕ) (h : n < 2 ^ 32) : (BitVec.ofNat 32 n).toNat = n := by
  rw [BitVec.toNat_ofNat]; exact Nat.mod_eq_of_lt h

theorem int_of (n : ℕ) (h : n < 2 ^ 31) : (BitVec.ofNat 32 n).toInt = (n : ℤ) := by
  rw [BitVec.toInt_eq_toNat_cond, nat_of n (by omega), if_pos (by omega)]

theorem ofNat_inj {a b : ℕ} (ha : a < 2 ^ 32) (hb : b < 2 ^ 32) (h : BitVec.ofNat 32 a = BitVec.ofNat 32 b) : a = b := by
  have := congrArg BitVec.toNat h
  rwa [nat_of a ha, nat_of b hb] at this

theorem int_nat (a : BitVec 32) (h : a.toNat < 2 ^ 31) : a.toInt = (a.toNat : ℤ) := by
  rw [BitVec.toInt_eq_toNat_cond, if_pos (by omega)]

theorem ofNat_sub {a b : ℕ} (h : b ≤ a) : BitVec.ofNat 32 a - BitVec.ofNat 32 b = BitVec.ofNat 32 (a - b) := by
  conv_lhs => rw [show a = (a - b) + b by omega, BitVec.ofNat_add, BitVec.add_sub_cancel]

/-- The lanes' numbers. -/
abbrev lanes : IVec S16 32 := iota .scVector S16 32 [0] iota_S16_d0_w32_scVector

theorem lanes_eq (k : ℕ) (h : k < 16) : lanes (ln k) = BitVec.ofNat 32 k := by
  show BitVec.ofNat 32 (0 * S16.size 0 + ((ln k) 0).val) = _
  rw [ln_val k h, Nat.zero_mul, Nat.zero_add]

theorem cmp_sge (a b : BitVec 32) : IntOp.cmpi .sge a b = 1 ↔ b.toInt ≤ a.toInt := by
  rw [← BitVec.sle_iff_toInt_le]; exact bit_iff
theorem cmp_sgt (a b : BitVec 32) : IntOp.cmpi .sgt a b = 1 ↔ b.toInt < a.toInt := by
  rw [← BitVec.slt_iff_toInt_lt]; exact bit_iff
theorem cmp_slt (a b : BitVec 32) : IntOp.cmpi .slt a b = 1 ↔ a.toInt < b.toInt := by
  rw [← BitVec.slt_iff_toInt_lt]; exact bit_iff
theorem cmp_eq (a b : BitVec 32) : IntOp.cmpi .eq a b = 1 ↔ a = b := by
  refine bit_iff.trans ?_
  simp

/-! ## The threshold scan of a histogram -/

/-- What is counted from bin `x` up. -/
def above (c : ℕ → ℕ) (N x : ℕ) : ℕ := ∑ y ∈ Finset.Ico x N, c y

theorem above_cons (c : ℕ → ℕ) {N x : ℕ} (h : x < N) : above c N x = c x + above c N (x + 1) :=
  Finset.sum_eq_sum_Ico_succ_bot h c

theorem above_anti (c : ℕ → ℕ) (N : ℕ) {x y : ℕ} (h : x ≤ y) : above c N y ≤ above c N x :=
  Finset.sum_le_sum_of_subset (Finset.Ico_subset_Ico_left h)

/-- The first lane at which the running count reaches `need`, or 16. -/
abbrev firstLane (need rn : BitVec 32) (v : IVec S16 32) : IVec S16 32 :=
  xori (scan .min (xori (select (cmpi .sge (addi (scan .sum v) (broadcast S16 rn)) (broadcast S16 need)) lanes (broadcast S16 16#32))
    (broadcast S16 2147483648#32))) (broadcast S16 2147483648#32)

/-- The word of lane `r`, if `r` is a lane. -/
abbrev atLane (r : BitVec 32) (v : IVec S16 32) : IVec S16 32 :=
  xori (scan .max (xori (select (cmpi .eq lanes (broadcast S16 r)) v (broadcast S16 0#32)) (broadcast S16 2147483648#32)))
    (broadcast S16 2147483648#32)

theorem firstLane_eq (need : ℕ) (rn : BitVec 32) (v : IVec S16 32) (g : ℕ → ℕ) (hn : need < 2 ^ 31) (hg : ∀ l < 16, g l < 2 ^ 31)
    (hv : ∀ l < 16, scan .sum v (ln l) + rn = BitVec.ofNat 32 (g l)) :
    ∃ r ≤ 16, firstLane (BitVec.ofNat 32 need) rn v (ln 15) = BitVec.ofNat 32 r ∧ (∀ l < r, g l < need) ∧ (r < 16 → need ≤ g r) := by
  have hsel : ∀ l < 16, (select (cmpi .sge (addi (scan .sum v) (broadcast S16 rn)) (broadcast S16 (BitVec.ofNat 32 need))) lanes
      (broadcast S16 16#32) : IVec S16 32) (ln l) = BitVec.ofNat 32 (if need ≤ g l then l else 16) := by
    intro l hl
    show (if IntOp.cmpi .sge (scan .sum v (ln l) + rn) (BitVec.ofNat 32 need) = 1 then lanes (ln l) else 16#32) = _
    have hc := cmp_sge (BitVec.ofNat 32 (g l)) (BitVec.ofNat 32 need)
    rw [int_of _ hn, int_of _ (hg l hl)] at hc
    rw [hv l hl, lanes_eq l hl]
    by_cases h : need ≤ g l
    · rw [if_pos (hc.mpr (by exact_mod_cast h)), if_pos h]
    · rw [if_neg (fun e => h (by exact_mod_cast hc.mp e)), if_neg h]
  obtain ⟨k, hk, e, hl⟩ := flip_min (select (cmpi .sge (addi (scan .sum v) (broadcast S16 rn)) (broadcast S16 (BitVec.ofNat 32 need))) lanes
      (broadcast S16 16#32) : IVec S16 32)
  have hr : (if need ≤ g k then k else 16) ≤ 16 := by split <;> omega
  refine ⟨if need ≤ g k then k else 16, hr, e.trans (hsel k hk), fun l hlr => ?_, fun h => ?_⟩
  · by_contra hc
    have := hl l (by omega)
    rw [hsel k hk, hsel l (by omega), int_of _ (by omega), if_pos (by omega : need ≤ g l), int_of _ (by omega)] at this
    omega
  · by_cases h' : need ≤ g k
    · rw [if_pos h'] at h ⊢; exact h'
    · rw [if_neg h'] at h; omega

theorem atLane_eq (r : ℕ) (hr : r < 16) (v : IVec S16 32) (g : ℕ) (hg : g < 2 ^ 31) (hv : v (ln r) = BitVec.ofNat 32 g) :
    atLane (BitVec.ofNat 32 r) v (ln 15) = BitVec.ofNat 32 g := by
  have hsel : ∀ l < 16, (select (cmpi .eq lanes (broadcast S16 (BitVec.ofNat 32 r))) v (broadcast S16 0#32) : IVec S16 32) (ln l)
      = BitVec.ofNat 32 (if l = r then g else 0) := by
    intro l hl
    show (if IntOp.cmpi .eq (lanes (ln l)) (BitVec.ofNat 32 r) = 1 then v (ln l) else 0#32) = _
    have hc := cmp_eq (lanes (ln l)) (BitVec.ofNat 32 r)
    rw [lanes_eq l hl] at hc
    rw [lanes_eq l hl]
    by_cases h : l = r
    · rw [if_pos (hc.mpr (by rw [h])), if_pos h, h, hv]
    · rw [if_neg (fun e => h (ofNat_inj (by omega) (by omega) (hc.mp e))), if_neg h]
  obtain ⟨k, hk, e, hl⟩ := flip_max (select (cmpi .eq lanes (broadcast S16 (BitVec.ofNat 32 r))) v (broadcast S16 0#32) : IVec S16 32)
  refine e.trans ?_
  have := hl r hr
  rw [hsel k hk, hsel r hr, if_pos rfl, int_of g hg] at this
  rw [hsel k hk]
  by_cases hkr : k = r
  · rw [if_pos hkr]
  · rw [if_neg hkr] at this ⊢
    rw [int_of 0 (by omega)] at this
    congr 1; omega

/-- One chunk of the scan: the running count, whether `need` has been reached, the bin where it was, what is above that bin. -/
abbrev sstep (need ch : BitVec 32) (v : IVec S16 32) (rn : BitVec 32) (f : BitVec 1) (b s : BitVec 32) : BitVec 32 × BitVec 1 × BitVec 32 × BitVec 32 :=
  let r := extractAt (s := S16) ![15] (firstLane need rn v) inpos_S16_p15
  let ok := Scalar.andi (Scalar.xori f 1#1) (Scalar.cmpi .slt r 16#32)
  (Scalar.addi rn (extractAt (s := S16) ![15] (xori (scan .max (xori (scan .sum v) (broadcast S16 2147483648#32))) (broadcast S16 2147483648#32)) inpos_S16_p15),
   Scalar.ori f (Scalar.cmpi .slt r 16#32),
   Scalar.select ok (Scalar.subi (Scalar.addi (Scalar.muli ch 16#32) 15#32) r) b,
   Scalar.select ok (Scalar.subi (extractAt (s := S16) ![15] (atLane r (addi (scan .sum v) (broadcast S16 rn))) inpos_S16_p15)
     (extractAt (s := S16) ![15] (atLane r v) inpos_S16_p15)) s)

/-- After the bins from `x` up: the running count; and, once it has reached `need`, the bin it did so at and what is above it. -/
def ScanInv (c : ℕ → ℕ) (N need x : ℕ) (σ : BitVec 32 × BitVec 1 × BitVec 32 × BitVec 32) : Prop :=
  σ.1 = BitVec.ofNat 32 (above c N x) ∧
  ((σ.2.1 = 1#1 ∧ ∃ b, x ≤ b ∧ b < N ∧ σ.2.2.1 = BitVec.ofNat 32 b ∧ σ.2.2.2 = BitVec.ofNat 32 (above c N (b + 1))
      ∧ above c N (b + 1) < need ∧ need ≤ above c N b)
    ∨ (σ.2.1 = 0#1 ∧ above c N x < need))

/-- The step's effect, its four vector results named. -/
theorem sstep_core (c : ℕ → ℕ) (N need q r : ℕ) (hN : 16 * q + 16 ≤ N) (hr : r ≤ 16)
    (hlo : ∀ l < r, above c N (16 * q + 15 - l) < need) (hhi : r < 16 → need ≤ above c N (16 * q + 15 - r))
    (rn tot sa ca : BitVec 32) (f : BitVec 1) (b s : BitVec 32) (h : ScanInv c N need (16 * q + 16) (rn, f, b, s))
    (ht : rn + tot = BitVec.ofNat 32 (above c N (16 * q)))
    (hs : r < 16 → sa - ca = BitVec.ofNat 32 (above c N (16 * q + 15 - r + 1))) :
    ScanInv c N need (16 * q) (rn + tot, Scalar.ori f (Scalar.cmpi .slt (BitVec.ofNat 32 r) 16#32),
      Scalar.select (Scalar.andi (Scalar.xori f 1#1) (Scalar.cmpi .slt (BitVec.ofNat 32 r) 16#32))
        (Scalar.subi (Scalar.addi (Scalar.muli (BitVec.ofNat 32 q) 16#32) 15#32) (BitVec.ofNat 32 r)) b,
      Scalar.select (Scalar.andi (Scalar.xori f 1#1) (Scalar.cmpi .slt (BitVec.ofNat 32 r) 16#32)) (sa - ca) s) := by
  obtain ⟨h1, h2⟩ := h
  dsimp only at h1 h2
  have hslt : Scalar.cmpi .slt (BitVec.ofNat 32 r) 16#32 = 1#1 ↔ r < 16 := by
    refine (cmp_slt _ _).trans ?_
    rw [int_of r (by omega), show (16#32).toInt = (16 : ℤ) from rfl]
    omega
  refine ⟨ht, ?_⟩
  dsimp only
  rcases h2 with ⟨hf, b', hb1, hb2, hb3, hb4, hb5, hb6⟩ | ⟨hf, hlt⟩
  · left
    subst hf
    have hok : ∀ z : BitVec 1, Scalar.andi (Scalar.xori 1#1 1#1) z = 0#1 := by decide
    have hor : ∀ z : BitVec 1, Scalar.ori 1#1 z = 1#1 := by decide
    rw [hok, hor]
    exact ⟨rfl, b', by omega, hb2, hb3, hb4, hb5, hb6⟩
  · subst hf
    by_cases hr16 : r < 16
    · left
      rw [hslt.mpr hr16]
      have hb : above c N (16 * q + 15 - r + 1) < need := by
        by_cases h0 : r = 0
        · subst h0; exact hlt
        · have := hlo (r - 1) (by omega)
          rwa [show 16 * q + 15 - (r - 1) = 16 * q + 15 - r + 1 by omega] at this
      refine ⟨rfl, 16 * q + 15 - r, by omega, by omega, ?_, hs hr16, hb, hhi hr16⟩
      show BitVec.ofNat 32 q * BitVec.ofNat 32 16 + BitVec.ofNat 32 15 - BitVec.ofNat 32 r = _
      rw [← BitVec.ofNat_mul, ← BitVec.ofNat_add, ofNat_sub (by omega)]
      congr 1; omega
    · right
      obtain rfl : r = 16 := by omega
      have := hlo 15 (by omega)
      rw [show 16 * q + 15 - 15 = 16 * q by omega] at this
      exact ⟨by decide, this⟩

theorem sstep_inv (c : ℕ → ℕ) (N need q : ℕ) (hN : 16 * q + 16 ≤ N) (hN' : N < 2 ^ 20) (hneed : need < 2 ^ 31) (htot : above c N 0 < 2 ^ 31)
    (v : IVec S16 32) (hv : ∀ l < 16, v (ln l) = BitVec.ofNat 32 (c (16 * q + 15 - l)))
    (rn : BitVec 32) (f : BitVec 1) (b s : BitVec 32) (h : ScanInv c N need (16 * q + 16) (rn, f, b, s)) :
    ScanInv c N need (16 * q) (sstep (BitVec.ofNat 32 need) (BitVec.ofNat 32 q) v rn f b s) := by
  have h1 := h.1
  dsimp only at h1
  have hab : ∀ x, above c N x < 2 ^ 31 := fun x => lt_of_le_of_lt (above_anti c N (Nat.zero_le x)) htot
  have hsum : ∀ l < 16, (∑ i ∈ Finset.range (l + 1), c (16 * q + 15 - i)) + above c N (16 * q + 16) = above c N (16 * q + 15 - l) := by
    intro l hl
    induction l with
    | zero => rw [Finset.sum_range_one, above_cons c (show 16 * q + 15 - 0 < N by omega)]; congr 1
    | succ l ih =>
      rw [Finset.sum_range_succ, above_cons c (show 16 * q + 15 - (l + 1) < N by omega),
        show 16 * q + 15 - (l + 1) + 1 = 16 * q + 15 - l by omega, ← ih (by omega)]
      omega
  have hscan : ∀ l < 16, scan .sum v (ln l) = BitVec.ofNat 32 (∑ i ∈ Finset.range (l + 1), c (16 * q + 15 - i)) := by
    intro l hl
    rw [scan_run _ _ _ hl, run_sum _ (fun i => c (16 * q + 15 - i)) l fun i hi => hv i (by omega)]
  have hcum : ∀ l < 16, scan .sum v (ln l) + rn = BitVec.ofNat 32 (above c N (16 * q + 15 - l)) := by
    intro l hl
    rw [hscan l hl, h1, ← BitVec.ofNat_add, hsum l hl]
  have hsl : ∀ l < 16, (∑ i ∈ Finset.range (l + 1), c (16 * q + 15 - i)) < 2 ^ 31 := fun l hl => by
    have := hsum l hl; have := hab (16 * q + 15 - l); omega
  obtain ⟨r, hr, er, hlo, hhi⟩ := firstLane_eq need rn v (fun l => above c N (16 * q + 15 - l)) hneed (fun l _ => hab _) hcum
  have htotal : (xori (scan .max (xori (scan .sum v) (broadcast S16 2147483648#32))) (broadcast S16 2147483648#32) : IVec S16 32) (ln 15)
      = BitVec.ofNat 32 (∑ i ∈ Finset.range (15 + 1), c (16 * q + 15 - i)) := by
    obtain ⟨k, hk, e, hl⟩ := flip_max (scan .sum v)
    refine e.trans ?_
    have h15 := hl 15 (by omega)
    rw [hscan k hk, hscan 15 (by omega), int_of _ (hsl k hk), int_of _ (hsl 15 (by omega))] at h15
    have hle : (∑ i ∈ Finset.range (k + 1), c (16 * q + 15 - i)) ≤ ∑ i ∈ Finset.range (15 + 1), c (16 * q + 15 - i) :=
      Finset.sum_le_sum_of_subset (Finset.range_mono (by omega))
    rw [hscan k hk]
    congr 1
    have : (∑ i ∈ Finset.range (15 + 1), c (16 * q + 15 - i)) ≤ ∑ i ∈ Finset.range (k + 1), c (16 * q + 15 - i) := by exact_mod_cast h15
    exact le_antisymm hle this
  have hx := hsum 15 (by omega)
  rw [show 16 * q + 15 - 15 = 16 * q by omega] at hx
  have es : sstep (BitVec.ofNat 32 need) (BitVec.ofNat 32 q) v rn f b s = (rn + BitVec.ofNat 32 (∑ i ∈ Finset.range (15 + 1), c (16 * q + 15 - i)),
      Scalar.ori f (Scalar.cmpi .slt (BitVec.ofNat 32 r) 16#32),
      Scalar.select (Scalar.andi (Scalar.xori f 1#1) (Scalar.cmpi .slt (BitVec.ofNat 32 r) 16#32))
        (Scalar.subi (Scalar.addi (Scalar.muli (BitVec.ofNat 32 q) 16#32) 15#32) (BitVec.ofNat 32 r)) b,
      Scalar.select (Scalar.andi (Scalar.xori f 1#1) (Scalar.cmpi .slt (BitVec.ofNat 32 r) 16#32))
        (atLane (BitVec.ofNat 32 r) (addi (scan .sum v) (broadcast S16 rn)) (ln 15) - atLane (BitVec.ofNat 32 r) v (ln 15)) s) := by
    simp only [sstep, last_eq, er, htotal]
    rfl
  rw [es]
  refine sstep_core c N need q r hN hr hlo hhi _ _ _ _ f b s h ?_ fun hr16 => ?_
  · have e : above c N (16 * q + 16) + (∑ i ∈ Finset.range (15 + 1), c (16 * q + 15 - i)) = above c N (16 * q) := by omega
    exact (congrArg (· + BitVec.ofNat 32 (∑ i ∈ Finset.range (15 + 1), c (16 * q + 15 - i))) h1).trans
      ((BitVec.ofNat_add _ _).symm.trans (congrArg (BitVec.ofNat 32) e))
  · have hcons := above_cons c (show 16 * q + 15 - r < N by omega)
    have hab' := hab (16 * q + 15 - r)
    rw [atLane_eq r hr16 _ _ hab' (hcum r hr16), atLane_eq r hr16 v _ (by omega) (hv r hr16), ofNat_sub (by omega)]
    congr 1; omega

/-! ## Counting into a histogram, sixteen words at a time -/

theorem count_more (p : ℕ → Prop) [DecidablePred p] (n k : ℕ) (m : IVec S16 1) (hk : k ≤ 16) (hm : ∀ i < 16, m (ln i) = 1 ↔ p (n + i)) :
    Nat.count p (n + k) = Nat.count p n + cnt m k := by
  induction k with
  | zero => simp [cnt]
  | succ k ih =>
    rw [← Nat.add_assoc, Nat.count_succ, ih (by omega), cnt_succ, Nat.add_assoc]
    congr 2
    simp only [hm k (by omega)]

theorem hist_step (q : ℕ → ℕ → Prop) [∀ b, DecidablePred (q b)] (f : ℕ → BitVec 32) (n b : ℕ) (v w : IVec S16 32) (m : IVec S16 1)
    (hw : ∀ x, w x = 1#32) (op : BitVec 32 → BitVec 32 → BitVec 32) (hop : ∀ a b, op a b = a + b)
    (hq : ∀ k < 16, (m (ln k) = 1 ∧ (v (ln k)).toNat = b) ↔ q b (n + k)) (hf : f b = BitVec.ofNat 32 (Nat.count (q b) n)) :
    scat op f v w m b = BitVec.ofNat 32 (Nat.count (q b) (n + 16)) := by
  rw [scat_add f v w m hw op hop, hf, ← BitVec.ofNat_add, Nat.count_add]
  congr 2
  have : ∀ k ≤ 16, Nat.count (fun k => m (ln k) = 1 ∧ (v (ln k)).toNat = b) k = Nat.count (fun k => q b (n + k)) k := by
    intro k hk
    induction k with
    | zero => rfl
    | succ k ih =>
      rw [Nat.count_succ, Nat.count_succ, ih (by omega)]
      simp only [hq k (by omega)]
  exact this 16 (le_refl _)

/-! ## Compressing, sixteen words at a time -/

theorem comp_step (p : ℕ → Prop) [DecidablePred p] (f : ℕ → A) (g : ℕ → A) (o n : ℕ) (off : BitVec 32) (w : S16.Idx → A) (m : IVec S16 1)
    (op : A → A → A) (hop : ∀ a b, op a b = b)
    (ho : off.toNat = o + Nat.count p n) (ho' : off.toNat + 16 < 2 ^ 32) (hm : ∀ i < 16, m (ln i) = 1 ↔ p (n + i)) (hw : ∀ i < 16, w (ln i) = g (n + i))
    (hf : ∀ i < n, p i → f (o + Nat.count p i) = g i) :
    ∀ i < n + 16, p i → scat op f (cpos off m) w m (o + Nat.count p i) = g i := by
  intro i hi hp
  by_cases h : i < n
  · have h1 : Nat.count p i < Nat.count p n := Nat.count_strict_mono hp h
    rw [comp_out op f off w m ho' _ (Or.inl (by omega))]
    exact hf i h hp
  · obtain ⟨k, rfl⟩ : ∃ k, i = n + k := ⟨i - n, by omega⟩
    have hk : k < 16 := by omega
    rw [count_more p n k m (by omega) hm, ← Nat.add_assoc, ← ho, comp_in op hop f off w m ho' k hk ((hm k hk).mpr hp)]
    exact hw k hk

end Cert.Proof.Tile

end
-- ==== Proof.Steps.lean ====
/-
  The steps of the tile's programs, the pieces of the kernel's body as programs of a tile, and the loops that clear the
  histogram.
-/
module

public import proofs.«01_k».proof.Proof.Radix
public import proofs.«01_k».proof.Proof.Gen.KernelIdeal.Skeleton

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

theorem Do.loads (b : B) {off : Fin 1 → ℕ} {inb : ∀ a, off a + S16.size a ≤ (⟨1, ![b.len]⟩ : Shape).size a}
    {hl : b.mem.view.LoadsAt (r16 off inb).toLoadRect} {k : (S16.Idx → Elt F b.elt) → Tprog F L α} {Φ : α → St F → Prop}
    (h : Do d L T (k fun x => T.get b (off 0 + (x 0).val)) Φ) :
    Do d L T (Prog.lift (TpuEff.load b.mem (r16 off inb).toLoadRect hl) >>= k) Φ :=
  Do.load b (k := k) h

theorem Do.stores (b : B) {off : Fin 1 → ℕ} {inb : ∀ a, off a + S16.size a ≤ (⟨1, ![b.len]⟩ : Shape).size a}
    {w : S16.Idx → Elt F b.elt} {hx : (b.mem.access (r16 off inb)).Stores Finset.univ}
    {hm : (Finset.univ : Finset (r16 off inb).shape.Idx) = Finset.univ ∨ ∀ a, (r16 off inb).stride a = 1}
    {k : PUnit → Tprog F L α} {Φ : α → St F → Prop}
    (h : Do d L (T.set b (upd (T.get b) (off 0) w)) (k ⟨⟩) Φ) :
    Do d L T (Prog.lift (TpuEff.store b.mem (r16 off inb) w Finset.univ hx hm) >>= k) Φ :=
  Do.store b (k := k) h

theorem Do.asm {P : Prop} {dP : Decidable P} {k : PLift P → Tprog F L α} {Φ : α → St F → Prop} (hP : P)
    (h : Do d L T (k ⟨hP⟩) Φ) : Do d L T (Prog.lift (TpuEff.assume P dP) >>= k) Φ :=
  Do.assume (k := k) hP h

theorem Do.pure {a : α} {Φ : α → St F → Prop} (h : Φ a T) : Do d L T (Pure.pure a) Φ := Do.ret h

/-- The kernel's memory references other than its scratch, and its copies' semaphores. -/
structure Args where
  a2 : Memref sig .scVector .hbm S32x81920 .i32
  h2 : a2.IsWhole
  a3 : Memref sig .scVector .hbm S32x3600 .f32
  h3 : a3.IsWhole
  a4 : Memref sig .scVector .hbm S32x32 .f32
  h4 : a4.IsWhole
  a5 : Memref sig .scVector .hbm S32x304 .i32
  h5 : a5.IsWhole
  a6 : Memref sig .scVector .hbm S32x304 .i32
  h6 : a6.IsWhole
  a7 : Memref sig .scVector .hbm S32x1216 .f32
  h7 : a7.IsWhole
  h8 : (B.mem .pv).IsWhole
  h9 : (B.mem .bx).IsWhole
  h10 : (B.mem .sc).IsWhole
  h11 : (B.mem .hist).IsWhole
  h12 : (B.mem .cu).IsWhole
  h13 : (B.mem .ci).IsWhole
  h14 : (B.mem .du).IsWhole
  h15 : (B.mem .di).IsWhole
  h16 : (B.mem .op).IsWhole
  h17 : (B.mem .so).IsWhole
  h18 : (B.mem .lo).IsWhole
  h19 : (B.mem .bo).IsWhole
  r0 : DmaSems sig S_
  r1 : DmaSems sig S_
  r2 : DmaSems sig S_
  r3 : DmaSems sig S_
  r4 : DmaSems sig S_
  r5 : DmaSems sig S_

/-- A piece of the kernel's body at these and at tile `L`. -/
abbrev Args.ap (A : Args) (L : grid0.Coords) {X : grid0.Coords → Type _}
    (f : ∀ (i : grid0.Coords) (arg2 : Memref sig .scVector .hbm S32x81920 .i32) (harg2 : arg2.IsWhole) (arg3 : Memref sig .scVector .hbm S32x3600 .f32) (harg3 : arg3.IsWhole) (arg4 : Memref sig .scVector .hbm S32x32 .f32) (harg4 : arg4.IsWhole) (arg5 : Memref sig .scVector .hbm S32x304 .i32) (harg5 : arg5.IsWhole) (arg6 : Memref sig .scVector .hbm S32x304 .i32) (harg6 : arg6.IsWhole) (arg7 : Memref sig .scVector .hbm S32x1216 .f32) (harg7 : arg7.IsWhole) (arg8 : Memref sig .scVector .vmem S81920 .i32) (harg8 : arg8.IsWhole) (arg9 : Memref sig .scVector .vmem S3600 .f32) (harg9 : arg9.IsWhole) (arg10 : Memref sig .scVector .vmem S32 .f32) (harg10 : arg10.IsWhole) (arg11 : Memref sig .scVector .vmem S8192 .i32) (harg11 : arg11.IsWhole) (arg12 : Memref sig .scVector .vmem S4128 .i32) (harg12 : arg12.IsWhole) (arg13 : Memref sig .scVector .vmem S4128 .i32) (harg13 : arg13.IsWhole) (arg14 : Memref sig .scVector .vmem S320 .i32) (harg14 : arg14.IsWhole) (arg15 : Memref sig .scVector .vmem S320 .i32) (harg15 : arg15.IsWhole) (arg16 : Memref sig .scVector .vmem S304 .i32) (harg16 : arg16.IsWhole) (arg17 : Memref sig .scVector .vmem S304 .i32) (harg17 : arg17.IsWhole) (arg18 : Memref sig .scVector .vmem S304 .i32) (harg18 : arg18.IsWhole) (arg19 : Memref sig .scVector .vmem S1216 .f32) (harg19 : arg19.IsWhole) (r0 r1 r2 r3 r4 r5 : DmaSems sig S_), X i) : X L :=
  f L A.a2 A.h2 A.a3 A.h3 A.a4 A.h4 A.a5 A.h5 A.a6 A.h6 A.a7 A.h7 (B.mem .pv) A.h8 (B.mem .bx) A.h9 (B.mem .sc) A.h10 (B.mem .hist) A.h11 (B.mem .cu) A.h12 (B.mem .ci) A.h13 (B.mem .du) A.h14 (B.mem .di) A.h15 (B.mem .op) A.h16 (B.mem .so) A.h17 (B.mem .lo) A.h18 (B.mem .bo) A.h19 A.r0 A.r1 A.r2 A.r3 A.r4 A.r5

/-! ## Words of the loops -/

theorem iv_nat (n : ℕ) (h : n < 2 ^ 32) : (0#32 + BitVec.ofNat 32 n * 1#32) = BitVec.ofNat 32 n := by
  rw [BitVec.mul_one, BitVec.zero_add]

theorem iv_eq {n : ℕ} (k : Fin n) : (Scf.iv 0#32 1#32 k : BitVec 32) = BitVec.ofNat 32 k.val := by
  show 0#32 + BitVec.ofNat 32 k.val * 1#32 = _
  rw [BitVec.mul_one, BitVec.zero_add]

theorem off16 (a : ℕ) (h : a < 2 ^ 20) : (BitVec.ofNat 32 a * 16#32).toNat = 16 * a := by
  show (BitVec.ofNat 32 a * BitVec.ofNat 32 16).toNat = _
  rw [← BitVec.ofNat_mul, nat_of _ (by omega), Nat.mul_comm]

theorem shr_nat (s : ℕ) (hs : s < 32) (w : BitVec 32) (h : w.toNat < 2 ^ 31) : (IntOp.shrsi .vector w (BitVec.ofNat 32 s)).toNat = w.toNat / 2 ^ s := by
  unfold IntOp.shrsi
  rw [nat_of s (by omega), if_pos hs]
  show (w.sshiftRight (BitVec.ofNat 32 s).toNat).toNat = _
  rw [nat_of s (by omega), BitVec.sshiftRight_eq_of_msb_false (by rw [BitVec.msb_eq_decide]; simpa using h), BitVec.toNat_ushiftRight, Nat.shiftRight_eq_div_pow]

/-! ## The loops that clear the histogram -/

theorem zero_step (f : ℕ → BitVec 32) (n k : ℕ) (hn : n = 16 * k) (w : S16.Idx → BitVec 32) (hw : ∀ x, w x = 0#32)
    (h : ∀ x < 16 * k, f x = 0#32) : ∀ x < 16 * (k + 1), upd f n w x = 0#32 := by
  intro x hx
  by_cases hlt : x < 16 * k
  · rw [upd_off _ _ _ _ (by omega)]; exact h x hlt
  · obtain ⟨j, rfl⟩ : ∃ j, x = n + j := ⟨x - n, by omega⟩
    rw [upd_at _ _ _ _ (by omega), hw]

theorem zero1 (A : Args)  : Do d L T (Scf.Loop.for k0_t1_loop k0_t1_ok 0#32 (A.ap L (k0_t1_body (F := F))))
    fun _ T' => ∃ f, T' = { T with hist := f } ∧ ∀ x < 8192, f x = 0#32 := by
  refine Do.for (fun n _ T' => ∃ f, T' = { T with hist := f } ∧ ∀ x < 16 * n, f x = 0#32) ⟨T.hist, rfl, fun x h => by omega⟩ ?_ ?_
  · rintro k a _ ⟨f, rfl, hf⟩
    refine Do.loads .hist ?_
    refine Do.stores .hist ?_
    refine Do.pure ⟨_, rfl, zero_step f _ k.val ?_ _ (fun _ => rfl) hf⟩
    show ((Scf.iv 0#32 1#32 k : BitVec 32) * 16#32).toNat = _
    rw [iv_eq]; exact off16 _ (lt_trans k.isLt (by decide))
  · rintro a _ ⟨f, rfl, hf⟩
    exact ⟨f, rfl, hf⟩

theorem zero5 (A : Args) {v2 v3 : IVec S16 32} {c0 : BitVec 32} : Do d L T (Scf.Loop.for k0_t5_loop k0_t5_ok 0#32 (A.ap L (k0_t5_body (F := F)) v2 v3 c0))
    fun _ T' => ∃ f, T' = { T with hist := f } ∧ ∀ x < 512, f x = 0#32 := by
  refine Do.for (fun n _ T' => ∃ f, T' = { T with hist := f } ∧ ∀ x < 16 * n, f x = 0#32) ⟨T.hist, rfl, fun x h => by omega⟩ ?_ ?_
  · rintro k a _ ⟨f, rfl, hf⟩
    refine Do.loads .hist ?_
    refine Do.stores .hist ?_
    refine Do.pure ⟨_, rfl, zero_step f _ k.val ?_ _ (fun _ => rfl) hf⟩
    show ((Scf.iv 0#32 1#32 k : BitVec 32) * 16#32).toNat = _
    rw [iv_eq]; exact off16 _ (lt_trans k.isLt (by decide))
  · rintro a _ ⟨f, rfl, hf⟩
    exact ⟨f, rfl, hf⟩

theorem zero9 (A : Args) {v3 v13 : IVec S16 32} {a b v15 e f g h c1 : BitVec 32} {hw : k0_chk14 v15} : Do d L T (Scf.Loop.for k0_t9_loop k0_t9_ok 0#32 (A.ap L (k0_t9_body (F := F)) v3 a b v13 v15 hw e f g h c1))
    fun _ T' => ∃ f, T' = { T with hist := f } ∧ ∀ x < 256, f x = 0#32 := by
  refine Do.for (fun n _ T' => ∃ f, T' = { T with hist := f } ∧ ∀ x < 16 * n, f x = 0#32) ⟨T.hist, rfl, fun x h => by omega⟩ ?_ ?_
  · rintro k a _ ⟨f, rfl, hf⟩
    refine Do.loads .hist ?_
    refine Do.stores .hist ?_
    refine Do.pure ⟨_, rfl, zero_step f _ k.val ?_ _ (fun _ => rfl) hf⟩
    show ((Scf.iv 0#32 1#32 k : BitVec 32) * 16#32).toNat = _
    rw [iv_eq]; exact off16 _ (lt_trans k.isLt (by decide))
  · rintro a _ ⟨f, rfl, hf⟩
    exact ⟨f, rfl, hf⟩

end Cert.Proof.Tile

end
-- ==== Proof.Hist.lean ====
/-
  The histogram of the words' top bits, and the scans of the three histograms, as programs of a tile.
-/
module

public import proofs.«01_k».proof.Proof.Steps

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

theorem chk_of {n : ℕ} (v : IVec S16 32) (h : ∀ x, (v x).toNat < n) :
    ∀ a x, ((![v] : Fin 1 → IVec S16 32) a x).toNat < (⟨1, ![n]⟩ : Shape).size a := by
  intro a x
  obtain rfl := Fin.eq_zero a
  exact h x

/-! ## The histogram of the words' top bits -/

theorem hist17 (p : ℕ → BitVec 32) (hp : ∀ i < 81920, (p i).toNat < 2 ^ 30) (f : ℕ → BitVec 32) (n off : ℕ) (hoff : off = n) (hn : n + 16 ≤ 81920)
    (h : ∀ b < 8192, f b = BitVec.ofNat 32 (Nat.count (fun i => (p i).toNat / 2 ^ 17 = b) n)) :
    ∀ b < 8192, scat (idxOp (F := F) .hist true) f (shrsi (fun x => p (off + (x 0).val)) (broadcast S16 17#32)) k0_pay89 (fun _ => 1#1) b
      = BitVec.ofNat 32 (Nat.count (fun i => (p i).toNat / 2 ^ 17 = b) (n + 16)) := by
  intro b hb
  subst hoff
  refine hist_step (fun b i => (p i).toNat / 2 ^ 17 = b) f off b _ _ _ (fun _ => rfl) _ (fun _ _ => rfl) (fun k hk => ?_) (h b hb)
  show (1#1 = 1 ∧ (IntOp.shrsi .vector (p (off + ((ln k) 0).val)) (BitVec.ofNat 32 17)).toNat = b) ↔ _
  rw [ln_val k hk, shr_nat 17 (by omega) _ (lt_trans (hp _ (by omega)) (by norm_num))]
  simp

theorem hist17' (p : ℕ → BitVec 32) (hp : ∀ i < 81920, (p i).toNat < 2 ^ 30) (f : ℕ → BitVec 32) (n off : ℕ) (hoff : off = n) (hn : n + 16 ≤ 81920)
    (h : ∀ b < 8192, f b = BitVec.ofNat 32 (Nat.count (fun i => (p i).toNat / 2 ^ 17 = b) n)) :
    ∃ g, scat (idxOp (F := F) .hist true) f (shrsi (fun x => p (off + (x 0).val)) (broadcast S16 17#32)) k0_pay89 (fun _ => 1#1) = g ∧
      ∀ b < 8192, g b = BitVec.ofNat 32 (Nat.count (fun i => (p i).toNat / 2 ^ 17 = b) (n + 16)) :=
  ⟨_, rfl, hist17 p hp f n off hoff hn h⟩

theorem Do.scatter_hist {v : IVec S16 32} {w : S16.Idx → BitVec 32} {m : IVec S16 1} {add : Bool}
    {inb : ∀ a x, ((![v] : Fin 1 → IVec S16 32) a x).toNat < (⟨1, ![8192]⟩ : Shape).size a}
    {hs : ((B.mem .hist).access (.whole _)).Stores Finset.univ} {k : PUnit → Tprog F L α} {Φ : α → St F → Prop} {f g : ℕ → BitVec 32}
    (e : scat (idxOp (F := F) .hist add) f v w m = g)
    (h : Do d L { T with hist := g } (k ⟨⟩) Φ) :
    Do d L { T with hist := f } (SparseCore.vectorStoreIdx (d := ![16]) (B.mem .hist) ![v] w m add inb hs >>= k) Φ := by
  subst e
  exact Do.scatter .hist h

theorem chk17 (p : ℕ → BitVec 32) (hp : ∀ i < 81920, (p i).toNat < 2 ^ 30) (off : ℕ) (hn : off + 16 ≤ 81920) :
    ∀ a x, ((![shrsi (fun x : S16.Idx => p (off + (x 0).val)) (broadcast S16 17#32)] : Fin 1 → IVec S16 32) a x).toNat < S8192.size a := by
  refine chk_of _ fun x => ?_
  have hx := lt16 x
  show (IntOp.shrsi .vector (p (off + (x 0).val)) (BitVec.ofNat 32 17)).toNat < _
  have := hp (off + (x 0).val) (by omega)
  rw [shr_nat 17 (by omega) _ (by omega)]
  omega

theorem off64 (n c : ℕ) (hn : n < 2 ^ 11) (hc : c < 4) (k : BitVec 32) (hk : k = BitVec.ofNat 32 n) :
    ((k * 4#32 + BitVec.ofNat 32 c) * 16#32).toNat = 64 * n + 16 * c := by
  subst hk
  show ((BitVec.ofNat 32 n * BitVec.ofNat 32 4 + BitVec.ofNat 32 c) * BitVec.ofNat 32 16).toNat = _
  rw [← BitVec.ofNat_mul, ← BitVec.ofNat_add, ← BitVec.ofNat_mul, nat_of _ (by omega)]
  omega

theorem hist2 (A : Args) {v2 : IVec S16 32} {c0 : BitVec 32} (hp : ∀ i < 81920, (T.pv i).toNat < 2 ^ 30) (h0 : ∀ b < 8192, T.hist b = 0#32) :
    Do d L T (Scf.Loop.for k0_t2_loop k0_t2_ok c0 (A.ap L (k0_t2_body (F := F)) v2 k0_pay89 c0))
    fun _ T' => ∃ f, T' = { T with hist := f } ∧ ∀ b < 8192, f b = BitVec.ofNat 32 (Nat.count (fun i => (T.pv i).toNat / 2 ^ 17 = b) 81920) := by
  refine Do.for (fun n _ T' => ∃ f, T' = { T with hist := f } ∧
    ∀ b < 8192, f b = BitVec.ofNat 32 (Nat.count (fun i => (T.pv i).toNat / 2 ^ 17 = b) (64 * n))) ⟨T.hist, rfl, fun b h => by rw [h0 b h]; rfl⟩ ?_ ?_
  · rintro k a _ ⟨f, rfl, hf⟩
    have hk : k.val < 1280 := lt_of_lt_of_eq k.isLt (by decide)
    have ho : ∀ c < 4, ((Scf.iv 0#32 1#32 k * 4#32 + BitVec.ofNat 32 c) * 16#32 : BitVec 32).toNat = 64 * k.val + 16 * c :=
      fun c hc => off64 k.val c (by omega) hc _ (iv_eq k)
    have hi : ∀ c < 4, ((Scf.iv 0#32 1#32 k * 4#32 + BitVec.ofNat 32 c) * 16#32 : BitVec 32).toNat + 16 ≤ 81920 := fun c hc => by rw [ho c hc]; omega
    have hs := fun c hc f => hist17' (F := F) T.pv hp f (64 * k.val + 16 * c) _ (ho c hc) (by omega)
    obtain ⟨g1, e1, f1⟩ := hs 0 (by omega) f hf
    obtain ⟨g2, e2, f2⟩ := hs 1 (by omega) g1 f1
    obtain ⟨g3, e3, f3⟩ := hs 2 (by omega) g2 f2
    obtain ⟨g4, e4, f4⟩ := hs 3 (by omega) g3 f3
    refine Do.loads .pv ?_
    refine Do.asm (chk17 T.pv hp _ (hi 0 (by omega))) ?_
    refine Do.scatter_hist e1 ?_
    refine Do.loads .pv ?_
    refine Do.asm (chk17 T.pv hp _ (hi 1 (by omega))) ?_
    refine Do.scatter_hist e2 ?_
    refine Do.loads .pv ?_
    refine Do.asm (chk17 T.pv hp _ (hi 2 (by omega))) ?_
    refine Do.scatter_hist e3 ?_
    refine Do.loads .pv ?_
    refine Do.asm (chk17 T.pv hp _ (hi 3 (by omega))) ?_
    refine Do.scatter_hist e4 ?_
    exact Do.pure ⟨g4, rfl, f4⟩
  · rintro a _ ⟨f, rfl, hf⟩
    exact ⟨f, rfl, hf⟩

/-! ## The three scans -/

theorem chunk_idx (N q : ℕ) (hN : N < 2 ^ 20) (hq : q < N) (l : ℕ) (hl : l < 16) (c : BitVec 32) (hc : c = BitVec.ofNat 32 q) :
    (subi (broadcast S16 (c * 16#32 + 15#32)) lanes (ln l)).toNat = 16 * q + 15 - l := by
  subst hc
  show (BitVec.ofNat 32 q * BitVec.ofNat 32 16 + BitVec.ofNat 32 15 - lanes (ln l)).toNat = _
  rw [lanes_eq l hl, ← BitVec.ofNat_mul, ← BitVec.ofNat_add, ofNat_sub (by omega), nat_of _ (by omega)]
  omega

theorem chunk_at {n : ℕ} (k : Fin n) (M : ℕ) (h : k.val ≤ M) : (BitVec.ofNat 32 M - Scf.iv 0#32 1#32 k : BitVec 32) = BitVec.ofNat 32 (M - k.val) := by
  rw [iv_eq, ofNat_sub h]

theorem chunk_chk (q : ℕ) (hq : q < 512) (c : BitVec 32) (hc : c = BitVec.ofNat 32 q) :
    ∀ a x, ((![subi (broadcast S16 (c * 16#32 + 15#32)) lanes] : Fin 1 → IVec S16 32) a x).toNat < S8192.size a := by
  refine chk_of _ fun x => ?_
  have e := chunk_idx 512 q (by omega) hq _ (lt16 x) c hc
  rw [ln_self] at e
  rw [e]; omega

/-- The sixteen bins of chunk `ch`, from its top bin down. -/
abbrev chunk (f : ℕ → BitVec 32) (ch : BitVec 32) : IVec S16 32 := fun x => f (subi (broadcast S16 (ch * 16#32 + 15#32)) lanes x).toNat

theorem chunk_val (f : ℕ → BitVec 32) (c : ℕ → ℕ) (N q : ℕ) (hN : N ≤ 512) (hq : q < N) (hf : ∀ b < 16 * N, f b = BitVec.ofNat 32 (c b))
    (ch : BitVec 32) (hc : ch = BitVec.ofNat 32 q) :
    ∀ l < 16, chunk f ch (ln l) = BitVec.ofNat 32 (c (16 * q + 15 - l)) := by
  intro l hl
  show f (subi (broadcast S16 (ch * 16#32 + 15#32)) lanes (ln l)).toNat = _
  rw [chunk_idx N q (by omega) hq l hl ch hc]
  exact hf _ (by omega)

theorem scan_init (c : ℕ → ℕ) (N need : ℕ) (h : 0 < need) : ScanInv c N need N (0#32, 0#1, 0#32, 0#32) := by
  have e : above c N N = 0 := by unfold above; simp
  exact ⟨by rw [e], Or.inr ⟨rfl, by rw [e]; exact h⟩⟩

theorem scan3 (A : Args) {v2 v3 : IVec S16 32} {c0 : BitVec 32} (c : ℕ → ℕ) (hc : ∀ b < 8192, T.hist b = BitVec.ofNat 32 (c b))
    (htot : above c 8192 0 < 2 ^ 31) :
    Do d L T (Scf.Loop.for k0_t3_loop k0_t3_ok (0#32, 0#1, 0#32, 0#32) (A.ap L (k0_t3_body (F := F)) v2 v3 c0 lanes))
    fun σ T' => T' = T ∧ ScanInv c 8192 300 0 σ := by
  refine Do.for (fun n σ T' => T' = T ∧ ScanInv c 8192 300 (8192 - 16 * n) σ)
    ⟨rfl, scan_init c 8192 _ (by omega)⟩ ?_ ?_
  · rintro k ⟨rn, f, b, s⟩ T' ⟨hT, h⟩
    subst T'
    have hk : k.val < 512 := lt_of_lt_of_eq k.isLt (by decide)
    have ec := chunk_at k 511 (by omega)
    have hs := sstep_inv c 8192 300 (511 - k.val) (by omega) (by omega) (by omega) htot (chunk T.hist (511#32 - Scf.iv 0#32 1#32 k))
      (chunk_val T.hist c 512 _ (by omega) (by omega) hc _ ec) rn f b s (by rwa [show 16 * (511 - k.val) + 16 = 8192 - 16 * k.val by omega])
    rw [show 16 * (511 - k.val) = 8192 - 16 * (k.val + 1) by omega, ← ec] at hs
    refine Do.bind ?_
    show Do d L _ (A.ap L (k0_part1 (F := F)) lanes 0#32 1#32 k rn f) _
    rw [k0_part1_eq_skeleton]
    refine Do.asm (chunk_chk (511 - k.val) (by omega) _ ec) ?_
    refine Do.gather .hist ?_
    refine Do.pure ?_
    refine Do.pure ⟨rfl, ?_⟩
    exact hs
  · rintro σ _ ⟨rfl, h⟩
    exact ⟨rfl, h⟩

theorem scan8 (A : Args) {v3 v13 : IVec S16 32} {a b v15 e f g h c1 : BitVec 32} {hw : k0_chk14 v15} (need : ℕ) (hn : need < 2 ^ 31) (hn' : 0 < need) (c : ℕ → ℕ) (hc : ∀ b < 512, T.hist b = BitVec.ofNat 32 (c b))
    (htot : above c 512 0 < 2 ^ 31) :
    Do d L T (Scf.Loop.for k0_t8_loop k0_t8_ok (0#32, 0#1, 0#32, 0#32) (A.ap L (k0_t8_body (F := F)) v3 a b v13 v15 hw e (BitVec.ofNat 32 need) g h c1 lanes))
    fun σ T' => T' = T ∧ ScanInv c 512 need 0 σ := by
  refine Do.for (fun n σ T' => T' = T ∧ ScanInv c 512 need (512 - 16 * n) σ)
    ⟨rfl, scan_init c 512 _ hn'⟩ ?_ ?_
  · rintro k ⟨rn, f, b, s⟩ T' ⟨hT, h⟩
    subst T'
    have hk : k.val < 32 := lt_of_lt_of_eq k.isLt (by decide)
    have ec := chunk_at k 31 (by omega)
    have hs := sstep_inv c 512 need (31 - k.val) (by omega) (by omega) (by omega) htot (chunk T.hist (31#32 - Scf.iv 0#32 1#32 k))
      (chunk_val T.hist c 32 _ (by omega) (by omega) hc _ ec) rn f b s (by rwa [show 16 * (31 - k.val) + 16 = 512 - 16 * k.val by omega])
    rw [show 16 * (31 - k.val) = 512 - 16 * (k.val + 1) by omega, ← ec] at hs
    refine Do.bind ?_
    show Do d L _ (A.ap L (k0_part5 (F := F)) (BitVec.ofNat 32 need) lanes 0#32 1#32 k rn f) _
    rw [k0_part5_eq_skeleton]
    refine Do.asm (chunk_chk (31 - k.val) (by omega) _ ec) ?_
    refine Do.gather .hist ?_
    refine Do.pure ?_
    refine Do.pure ⟨rfl, ?_⟩
    exact hs
  · rintro σ _ ⟨rfl, h⟩
    exact ⟨rfl, h⟩

theorem scan12 (A : Args) {v3 v13 : IVec S16 32} {a b v15 e f g h i c1 : BitVec 32} {hw : k0_chk14 v15} (need : ℕ) (hn : need < 2 ^ 31) (hn' : 0 < need) (c : ℕ → ℕ) (hc : ∀ b < 256, T.hist b = BitVec.ofNat 32 (c b))
    (htot : above c 256 0 < 2 ^ 31) :
    Do d L T (Scf.Loop.for k0_t12_loop k0_t12_ok (0#32, 0#1, 0#32, 0#32) (A.ap L (k0_t12_body (F := F)) v3 a b v13 v15 hw e f g h c1 (BitVec.ofNat 32 need) lanes))
    fun σ T' => T' = T ∧ ScanInv c 256 need 0 σ := by
  refine Do.for (fun n σ T' => T' = T ∧ ScanInv c 256 need (256 - 16 * n) σ)
    ⟨rfl, scan_init c 256 _ hn'⟩ ?_ ?_
  · rintro k ⟨rn, f, b, s⟩ T' ⟨hT, h⟩
    subst T'
    have hk : k.val < 16 := lt_of_lt_of_eq k.isLt (by decide)
    have ec := chunk_at k 15 (by omega)
    have hs := sstep_inv c 256 need (15 - k.val) (by omega) (by omega) (by omega) htot (chunk T.hist (15#32 - Scf.iv 0#32 1#32 k))
      (chunk_val T.hist c 16 _ (by omega) (by omega) hc _ ec) rn f b s (by rwa [show 16 * (15 - k.val) + 16 = 256 - 16 * k.val by omega])
    rw [show 16 * (15 - k.val) = 256 - 16 * (k.val + 1) by omega, ← ec] at hs
    refine Do.bind ?_
    show Do d L _ (A.ap L (k0_part6 (F := F)) (BitVec.ofNat 32 need) lanes 0#32 1#32 k rn f) _
    rw [k0_part6_eq_skeleton]
    refine Do.asm (chunk_chk (15 - k.val) (by omega) _ ec) ?_
    refine Do.gather .hist ?_
    refine Do.pure ?_
    refine Do.pure ⟨rfl, ?_⟩
    exact hs
  · rintro σ _ ⟨rfl, h⟩
    exact ⟨rfl, h⟩

end Cert.Proof.Tile

end
-- ==== Proof.Comp.lean ====
/-
  The compressing loop: the words at or above a threshold, and their positions, in order.
-/
module

public import proofs.«01_k».proof.Proof.Hist

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

theorem Do.scatter_cu {v : IVec S16 32} {w : S16.Idx → BitVec 32} {m : IVec S16 1} {add : Bool}
    {inb : ∀ a x, ((![v] : Fin 1 → IVec S16 32) a x).toNat < (⟨1, ![4128]⟩ : Shape).size a}
    {hs : ((B.mem .cu).access (.whole _)).Stores Finset.univ} {k : PUnit → Tprog F L α} {Φ : α → St F → Prop} {f g h : ℕ → BitVec 32}
    (e : scat (idxOp (F := F) .cu add) f v w m = g)
    (H : Do d L { T with cu := g, ci := h } (k ⟨⟩) Φ) :
    Do d L { T with cu := f, ci := h } (SparseCore.vectorStoreIdx (d := ![16]) (B.mem .cu) ![v] w m add inb hs >>= k) Φ := by
  subst e
  exact Do.scatter .cu H

theorem Do.scatter_ci {v : IVec S16 32} {w : S16.Idx → BitVec 32} {m : IVec S16 1} {add : Bool}
    {inb : ∀ a x, ((![v] : Fin 1 → IVec S16 32) a x).toNat < (⟨1, ![4128]⟩ : Shape).size a}
    {hs : ((B.mem .ci).access (.whole _)).Stores Finset.univ} {k : PUnit → Tprog F L α} {Φ : α → St F → Prop} {f g h : ℕ → BitVec 32}
    (e : scat (idxOp (F := F) .ci add) f v w m = g)
    (H : Do d L { T with cu := h, ci := g } (k ⟨⟩) Φ) :
    Do d L { T with cu := h, ci := f } (SparseCore.vectorStoreIdx (d := ![16]) (B.mem .ci) ![v] w m add inb hs >>= k) Φ := by
  subst e
  exact Do.scatter .ci H

theorem cpos_le (off : BitVec 32) (m : IVec S16 1) (ho : off.toNat + 16 < 2 ^ 32) (x : S16.Idx) : (cpos off m x).toNat ≤ off.toNat + 15 := by
  have hx := lt16 x
  have e := cpos_eq off m (x 0).val hx ho
  rw [ln_self] at e
  have := cnt_le m (x 0).val
  omega

theorem mins_eq (a : BitVec 32) (M : ℕ) (hM : M < 2 ^ 31) (h : a.toNat ≤ M) : Scalar.minsi a (BitVec.ofNat 32 M) = a := by
  show (if a.slt (BitVec.ofNat 32 M) then a else BitVec.ofNat 32 M) = a
  by_cases hc : a.slt (BitVec.ofNat 32 M)
  · rw [if_pos hc]
  · rw [if_neg hc]
    rw [BitVec.slt_iff_toInt_lt, int_of M hM, int_nat a (by omega)] at hc
    apply BitVec.eq_of_toNat_eq
    rw [nat_of M (by omega)]
    omega

theorem cnt_next (a : BitVec 32) (m : IVec S16 1) (n c : ℕ) (ha : a = BitVec.ofNat 32 n) (hc : cnt m 16 = c) :
    Scalar.addi a (extractAt (s := S16) ![15] (scan .sum (ones m)) inpos_S16_p15) = BitVec.ofNat 32 (n + c) := by
  subst ha hc
  rw [last_eq, scan_ones m 15 (by omega)]
  exact (BitVec.ofNat_add _ _).symm

/-! ## The coarse candidates -/

/-- The words of one step at or above `t`. -/
abbrev geMask (p : ℕ → BitVec 32) (ch t : BitVec 32) : IVec S16 1 := cmpi .sge (fun x : S16.Idx => p (ch.toNat + (x 0).val)) (broadcast S16 t)

theorem comp4 (p : ℕ → BitVec 32) (hp : ∀ i < 81920, (p i).toNat < 2 ^ 30) (t : BitVec 32) (ht : t.toNat < 2 ^ 31) (hcnt : Nat.count (fun i => t.toNat ≤ (p i).toNat) 81920 ≤ 4096)
    (n : ℕ) (hn : n + 16 ≤ 81920) (a ch : BitVec 32) (ha : a = BitVec.ofNat 32 (Nat.count (fun i => t.toNat ≤ (p i).toNat) n)) (hch : ch.toNat = n)
    (f g : ℕ → BitVec 32) (hf : ∀ i < n, t.toNat ≤ (p i).toNat → f (Nat.count (fun i => t.toNat ≤ (p i).toNat) i) = p i)
    (hg : ∀ i < n, t.toNat ≤ (p i).toNat → g (Nat.count (fun i => t.toNat ≤ (p i).toNat) i) = BitVec.ofNat 32 i) :
    (∀ b x, ((![cpos (Scalar.minsi a 4096#32) (geMask p ch t)] : Fin 1 → IVec S16 32) b x).toNat < S4128.size b) ∧
    (∃ f', scat (idxOp (F := F) .cu false) f (cpos (Scalar.minsi a 4096#32) (geMask p ch t)) (fun x => p (ch.toNat + (x 0).val)) (geMask p ch t) = f' ∧
      ∀ i < n + 16, t.toNat ≤ (p i).toNat → f' (Nat.count (fun i => t.toNat ≤ (p i).toNat) i) = p i) ∧
    (∃ g', scat (idxOp (F := F) .ci false) g (cpos (Scalar.minsi a 4096#32) (geMask p ch t)) (addi lanes (broadcast S16 ch)) (geMask p ch t) = g' ∧
      ∀ i < n + 16, t.toNat ≤ (p i).toNat → g' (Nat.count (fun i => t.toNat ≤ (p i).toNat) i) = BitVec.ofNat 32 i) ∧
    Scalar.addi a (extractAt (s := S16) ![15] (scan .sum (ones (geMask p ch t))) inpos_S16_p15)
      = BitVec.ofNat 32 (Nat.count (fun i => t.toNat ≤ (p i).toNat) (n + 16)) := by
  have hm : ∀ i < 16, geMask p ch t (ln i) = 1 ↔ t.toNat ≤ (p (n + i)).toNat := by
    intro i hi
    refine (cmp_sge _ _).trans ?_
    show t.toInt ≤ (p (ch.toNat + ((ln i) 0).val)).toInt ↔ _
    rw [ln_val i hi, hch, int_nat t ht, int_nat _ (lt_trans (hp _ (by omega)) (by norm_num))]
    omega
  have hle : Nat.count (fun i => t.toNat ≤ (p i).toNat) n ≤ 4096 := le_trans (Nat.count_monotone _ (by omega)) hcnt
  have han : a.toNat = Nat.count (fun i => t.toNat ≤ (p i).toNat) n := by rw [ha, nat_of _ (by omega)]
  have hmin : Scalar.minsi a 4096#32 = a := mins_eq a 4096 (by omega) (by omega)
  rw [hmin]
  refine ⟨chk_of _ fun x => ?_, ⟨_, rfl, ?_⟩, ⟨_, rfl, ?_⟩, ?_⟩
  · have := cpos_le a (geMask p ch t) (by omega) x
    omega
  · have h := comp_step (fun i => t.toNat ≤ (p i).toNat) f p 0 n a (fun x => p (ch.toNat + (x 0).val)) (geMask p ch t) (idxOp (F := F) .cu false)
      (fun _ _ => rfl) (by omega) (by omega) hm (fun i hi => by show p (ch.toNat + ((ln i) 0).val) = _; rw [ln_val i hi, hch])
      (by simpa only [Nat.zero_add] using hf)
    simpa only [Nat.zero_add] using h
  · have h := comp_step (fun i => t.toNat ≤ (p i).toNat) g (BitVec.ofNat 32) 0 n a (addi lanes (broadcast S16 ch)) (geMask p ch t) (idxOp (F := F) .ci false)
      (fun _ _ => rfl) (by omega) (by omega) hm (fun i hi => by
        show lanes (ln i) + ch = _
        rw [lanes_eq i hi, show ch = BitVec.ofNat 32 n by rw [← hch, BitVec.ofNat_toNat, BitVec.setWidth_eq], ← BitVec.ofNat_add, Nat.add_comm])
      (by simpa only [Nat.zero_add] using hg)
    simpa only [Nat.zero_add] using h
  · rw [cnt_next a _ _ _ ha rfl, ← count_more (fun i => t.toNat ≤ (p i).toNat) n 16 _ (le_refl _) hm]

theorem coarse4 (A : Args) {v3 : IVec S16 32} {c0 : BitVec 32} (t : BitVec 32) (hp : ∀ i < 81920, (T.pv i).toNat < 2 ^ 30) (ht : t.toNat < 2 ^ 31)
    (hcnt : Nat.count (fun i => t.toNat ≤ (T.pv i).toNat) 81920 ≤ 4096) :
    Do d L T (Scf.Loop.for k0_t4_loop k0_t4_ok 0#32 (A.ap L (k0_t4_body (F := F)) lanes v3 c0 t))
    fun a T' => a = BitVec.ofNat 32 (Nat.count (fun i => t.toNat ≤ (T.pv i).toNat) 81920) ∧ ∃ f g, T' = { T with cu := f, ci := g } ∧
      (∀ i < 81920, t.toNat ≤ (T.pv i).toNat → f (Nat.count (fun i => t.toNat ≤ (T.pv i).toNat) i) = T.pv i) ∧
      (∀ i < 81920, t.toNat ≤ (T.pv i).toNat → g (Nat.count (fun i => t.toNat ≤ (T.pv i).toNat) i) = BitVec.ofNat 32 i) := by
  refine Do.for (fun n a T' => a = BitVec.ofNat 32 (Nat.count (fun i => t.toNat ≤ (T.pv i).toNat) (64 * n)) ∧ ∃ f g, T' = { T with cu := f, ci := g } ∧
      (∀ i < 64 * n, t.toNat ≤ (T.pv i).toNat → f (Nat.count (fun i => t.toNat ≤ (T.pv i).toNat) i) = T.pv i) ∧
      (∀ i < 64 * n, t.toNat ≤ (T.pv i).toNat → g (Nat.count (fun i => t.toNat ≤ (T.pv i).toNat) i) = BitVec.ofNat 32 i))
    ⟨rfl, T.cu, T.ci, rfl, fun i h => by omega, fun i h => by omega⟩ ?_ ?_
  · rintro k a _ ⟨ha, f, g, rfl, hf, hg⟩
    have hk : k.val < 1280 := lt_of_lt_of_eq k.isLt (by decide)
    have ho : ∀ c < 4, ((Scf.iv 0#32 1#32 k * 4#32 + BitVec.ofNat 32 c) * 16#32 : BitVec 32).toNat = 64 * k.val + 16 * c :=
      fun c hc => off64 k.val c (by omega) hc _ (iv_eq k)
    have hs := fun c hc a ha f g hf hg => comp4 (F := F) T.pv hp t ht hcnt (64 * k.val + 16 * c) (by omega) a _ ha (ho c hc) f g hf hg
    obtain ⟨k0, ⟨f1, ef0, hf1⟩, ⟨g1, eg0, hg1⟩, ha1⟩ := hs 0 (by omega) a ha f g hf hg
    obtain ⟨k1, ⟨f2, ef1, hf2⟩, ⟨g2, eg1, hg2⟩, ha2⟩ := hs 1 (by omega) _ ha1 f1 g1 hf1 hg1
    obtain ⟨k2, ⟨f3, ef2, hf3⟩, ⟨g3, eg2, hg3⟩, ha3⟩ := hs 2 (by omega) _ ha2 f2 g2 hf2 hg2
    obtain ⟨k3, ⟨f4, ef3, hf4⟩, ⟨g4, eg3, hg4⟩, ha4⟩ := hs 3 (by omega) _ ha3 f3 g3 hf3 hg3
    refine Do.bind ?_
    show Do d L _ (A.ap L (k0_part2 (F := F)) lanes t 0#32 1#32 k a) _
    rw [k0_part2_eq_skeleton]
    refine Do.loads .pv ?_
    refine Do.asm k0 ?_
    refine Do.scatter_cu ef0 ?_
    refine Do.asm k0 ?_
    refine Do.scatter_ci eg0 ?_
    refine Do.loads .pv ?_
    refine Do.pure ?_
    refine Do.bind ?_
    show Do d L _ (A.ap L (k0_part3 (F := F)) lanes t k (Scf.iv 0#32 1#32 k) _ _ _ _) _
    rw [k0_part3_eq_skeleton]
    refine Do.asm k1 ?_
    refine Do.scatter_cu ef1 ?_
    refine Do.asm k1 ?_
    refine Do.scatter_ci eg1 ?_
    refine Do.loads .pv ?_
    refine Do.pure ?_
    refine Do.bind ?_
    show Do d L _ (A.ap L (k0_part4 (F := F)) lanes t k (Scf.iv 0#32 1#32 k) _ _ _ _ _ _) _
    rw [k0_part4_eq_skeleton]
    refine Do.asm k2 ?_
    refine Do.scatter_cu ef2 ?_
    refine Do.asm k2 ?_
    refine Do.scatter_ci eg2 ?_
    refine Do.loads .pv ?_
    refine Do.asm k3 ?_
    refine Do.scatter_cu ef3 ?_
    refine Do.pure ?_
    refine Do.asm k3 ?_
    refine Do.scatter_ci eg3 ?_
    exact Do.pure ⟨ha4, f4, g4, rfl, hf4, hg4⟩
  · rintro a _ ⟨ha, f, g, rfl, hf, hg⟩
    exact ⟨ha, f, g, rfl, hf, hg⟩

end Cert.Proof.Tile

end
-- ==== Proof.Mask.lean ====
/-
  The loops over the coarse candidates: their bounds, and the two histograms of the candidates' lower bits.
-/
module

public import proofs.«01_k».proof.Proof.Comp

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

/-! ## The candidates' loops' bounds -/

theorem shr_s (s : ℕ) (hs : s < 32) (w : BitVec 32) (h : w.toNat < 2 ^ 31) : (Scalar.shrsi w (BitVec.ofNat 32 s)).toNat = w.toNat / 2 ^ s := by
  show (IntOp.shrsi .scalar w (BitVec.ofNat 32 s)).toNat = _
  unfold IntOp.shrsi
  rw [nat_of s (by omega), if_pos hs]
  show (w.sshiftRight (BitVec.ofNat 32 s).toNat).toNat = _
  rw [nat_of s (by omega), BitVec.sshiftRight_eq_of_msb_false (by rw [BitVec.msb_eq_decide]; simpa using h), BitVec.toNat_ushiftRight, Nat.shiftRight_eq_div_pow]

/-- How many sixteens hold `c` candidates. -/
abbrev nv (c : ℕ) : ℕ := (c + 15) / 16

theorem nv_le (c : ℕ) (h : c ≤ 4096) : nv c ≤ 256 := by unfold nv; omega
theorem nv_ge (c : ℕ) : c ≤ 16 * nv c ∧ 16 * nv c ≤ c + 15 := by unfold nv; omega

theorem nv_word (c : ℕ) (h : c ≤ 4096) :
    Scalar.shrsi (Scalar.addi (Scalar.minsi (BitVec.ofNat 32 c) 4096#32) 15#32) 4#32 = BitVec.ofNat 32 (nv c) := by
  rw [mins_eq (BitVec.ofNat 32 c) 4096 (by omega) (by rw [nat_of c (by omega)]; exact h)]
  have e : Scalar.addi (BitVec.ofNat 32 c) 15#32 = BitVec.ofNat 32 (c + 15) := (BitVec.ofNat_add c 15).symm
  rw [e]
  apply BitVec.eq_of_toNat_eq
  rw [shr_s 4 (by omega) _ (by rw [nat_of _ (by omega)]; omega), nat_of _ (by omega), nat_of _ (by have := nv_le c h; omega)]
  norm_num

theorem div_one (x : BitVec 32) (h : x.toNat < 2 ^ 31) : Scalar.addi 0#32 (Scalar.muli (Scalar.divsi (Scalar.subi x 0#32) 1#32) 1#32) = x := by
  show 0#32 + (IntOp.divsi .scalar (x - 0#32) 1#32) * 1#32 = x
  rw [BitVec.zero_add, BitVec.mul_one, BitVec.sub_zero]
  unfold IntOp.divsi
  rw [if_neg (show ¬ IntOp.SDivCorner x 1#32 by rintro (h | ⟨-, h⟩) <;> revert h <;> decide)]
  exact BitVec.sdiv_one

theorem sub_add (x : BitVec 32) : Scalar.addi 0#32 (Scalar.subi x 0#32) = x := by
  show 0#32 + (x - 0#32) = x
  rw [BitVec.zero_add, BitVec.sub_zero]

theorem trips_up (n : ℕ) (h : n < 2 ^ 20) : Scf.trips 0#32 (BitVec.ofNat 32 n) 1#32 = n := by
  unfold Scf.trips
  rw [int_of n (by omega), show (0#32).toInt = 0 from rfl, show (1#32).toInt = 1 from rfl]
  omega

theorem trips_none (x : BitVec 32) : Scf.trips x x 1#32 = 0 := by
  unfold Scf.trips
  rw [show (1#32).toInt = 1 from rfl]
  omega

theorem t6_trips (c : ℕ) (h : c ≤ 4096) : (k0_t6_loop (BitVec.ofNat 32 c)).trips = nv c := by
  have hn := nv_le c h
  have e : (k0_t6_loop (BitVec.ofNat 32 c)).ub = BitVec.ofNat 32 (nv c) := by
    refine Eq.trans ?_ (div_one (BitVec.ofNat 32 (nv c)) (by rw [nat_of _ (by omega)]; omega))
    rw [← nv_word c h]
  show Scf.trips 0#32 (k0_t6_loop (BitVec.ofNat 32 c)).ub 1#32 = _
  rw [e]
  exact trips_up _ (by omega)

theorem t10_trips (c : ℕ) (h : c ≤ 4096) : (k0_t10_loop (BitVec.ofNat 32 c)).trips = nv c := by
  have hn := nv_le c h
  have e : (k0_t10_loop (BitVec.ofNat 32 c)).ub = BitVec.ofNat 32 (nv c) := by
    refine Eq.trans ?_ (div_one (BitVec.ofNat 32 (nv c)) (by rw [nat_of _ (by omega)]; omega))
    rw [← nv_word c h]
  show Scf.trips 0#32 (k0_t10_loop (BitVec.ofNat 32 c)).ub 1#32 = _
  rw [e]
  exact trips_up _ (by omega)

theorem t13_trips (c : ℕ) (h : c ≤ 4096) : (k0_t13_loop (BitVec.ofNat 32 c)).trips = nv c := by
  have hn := nv_le c h
  have e : (k0_t13_loop (BitVec.ofNat 32 c)).ub = BitVec.ofNat 32 (nv c) := by
    refine Eq.trans ?_ (div_one (BitVec.ofNat 32 (nv c)) (by rw [nat_of _ (by omega)]; omega))
    rw [← nv_word c h]
  show Scf.trips 0#32 (k0_t13_loop (BitVec.ofNat 32 c)).ub 1#32 = _
  rw [e]
  exact trips_up _ (by omega)

theorem t7_trips (c : ℕ) (h : c ≤ 4096) : (k0_t7_loop (BitVec.ofNat 32 c)).trips = 0 := by
  have hn := nv_le c h
  have e : (k0_t7_loop (BitVec.ofNat 32 c)).lb = BitVec.ofNat 32 (nv c) := by
    refine Eq.trans ?_ (div_one (BitVec.ofNat 32 (nv c)) (by rw [nat_of _ (by omega)]; omega))
    rw [← nv_word c h]
  have e' : (k0_t7_loop (BitVec.ofNat 32 c)).ub = BitVec.ofNat 32 (nv c) := by
    refine Eq.trans ?_ (sub_add (BitVec.ofNat 32 (nv c)))
    rw [← nv_word c h]
  show Scf.trips (k0_t7_loop (BitVec.ofNat 32 c)).lb (k0_t7_loop (BitVec.ofNat 32 c)).ub 1#32 = _
  rw [e, e']
  exact trips_none _

theorem t7_lb (c : ℕ) (h : c ≤ 4096) : (k0_t7_loop (BitVec.ofNat 32 c)).lb.toInt < 2 ^ 20 := by
  have hn := nv_le c h
  have e : (k0_t7_loop (BitVec.ofNat 32 c)).lb = BitVec.ofNat 32 (nv c) := by
    refine Eq.trans ?_ (div_one (BitVec.ofNat 32 (nv c)) (by rw [nat_of _ (by omega)]; omega))
    rw [← nv_word c h]
  rw [e, int_of _ (by omega)]
  omega

theorem t11_trips (c : ℕ) (h : c ≤ 4096) : (k0_t11_loop (BitVec.ofNat 32 c)).trips = 0 := by
  have hn := nv_le c h
  have e : (k0_t11_loop (BitVec.ofNat 32 c)).lb = BitVec.ofNat 32 (nv c) := by
    refine Eq.trans ?_ (div_one (BitVec.ofNat 32 (nv c)) (by rw [nat_of _ (by omega)]; omega))
    rw [← nv_word c h]
  have e' : (k0_t11_loop (BitVec.ofNat 32 c)).ub = BitVec.ofNat 32 (nv c) := by
    refine Eq.trans ?_ (sub_add (BitVec.ofNat 32 (nv c)))
    rw [← nv_word c h]
  show Scf.trips (k0_t11_loop (BitVec.ofNat 32 c)).lb (k0_t11_loop (BitVec.ofNat 32 c)).ub 1#32 = _
  rw [e, e']
  exact trips_none _

theorem t11_lb (c : ℕ) (h : c ≤ 4096) : (k0_t11_loop (BitVec.ofNat 32 c)).lb.toInt < 2 ^ 20 := by
  have hn := nv_le c h
  have e : (k0_t11_loop (BitVec.ofNat 32 c)).lb = BitVec.ofNat 32 (nv c) := by
    refine Eq.trans ?_ (div_one (BitVec.ofNat 32 (nv c)) (by rw [nat_of _ (by omega)]; omega))
    rw [← nv_word c h]
  rw [e, int_of _ (by omega)]
  omega

theorem t14_trips (c : ℕ) (h : c ≤ 4096) : (k0_t14_loop (BitVec.ofNat 32 c)).trips = 0 := by
  have hn := nv_le c h
  have e : (k0_t14_loop (BitVec.ofNat 32 c)).lb = BitVec.ofNat 32 (nv c) := by
    refine Eq.trans ?_ (div_one (BitVec.ofNat 32 (nv c)) (by rw [nat_of _ (by omega)]; omega))
    rw [← nv_word c h]
  have e' : (k0_t14_loop (BitVec.ofNat 32 c)).ub = BitVec.ofNat 32 (nv c) := by
    refine Eq.trans ?_ (sub_add (BitVec.ofNat 32 (nv c)))
    rw [← nv_word c h]
  show Scf.trips (k0_t14_loop (BitVec.ofNat 32 c)).lb (k0_t14_loop (BitVec.ofNat 32 c)).ub 1#32 = _
  rw [e, e']
  exact trips_none _

theorem t14_lb (c : ℕ) (h : c ≤ 4096) : (k0_t14_loop (BitVec.ofNat 32 c)).lb.toInt < 2 ^ 20 := by
  have hn := nv_le c h
  have e : (k0_t14_loop (BitVec.ofNat 32 c)).lb = BitVec.ofNat 32 (nv c) := by
    refine Eq.trans ?_ (div_one (BitVec.ofNat 32 (nv c)) (by rw [nat_of _ (by omega)]; omega))
    rw [← nv_word c h]
  rw [e, int_of _ (by omega)]
  omega

theorem off_k {n : ℕ} (k : Fin n) (h : n ≤ 256) : (Scf.iv 0#32 1#32 k * 16#32 : BitVec 32).toNat = 16 * k.val := by
  rw [iv_eq]; exact off16 _ (by have := k.isLt; omega)

theorem ok_up {l : Scf.Loop 32} (n : ℕ) (h1 : l.lb.toInt = 0) (h2 : l.st = 1#32) (ht : l.trips = n) (hn : n ≤ 256) : l.OK := by
  unfold Scf.Loop.OK Scf.OK
  unfold Scf.Loop.trips at ht
  rw [ht, h1, h2, show (1#32).toInt = 1 from rfl]
  constructor
  · omega
  · have : ((n : ℕ) : ℤ) ≤ 256 := by exact_mod_cast hn
    norm_num; omega

theorem ok_none {l : Scf.Loop 32} (h1 : l.lb.toInt < 2 ^ 20) (h2 : l.st = 1#32) (ht : l.trips = 0) : l.OK := by
  unfold Scf.Loop.OK Scf.OK
  unfold Scf.Loop.trips at ht
  rw [ht, h2, show (1#32).toInt = 1 from rfl]
  constructor
  · omega
  · norm_num; omega

theorem room {n : ℕ} (k : Fin n) (h : n ≤ 256) (a : Fin 1) : (![(Scf.iv 0#32 1#32 k * 16#32 : BitVec 32).toNat] : Fin 1 → ℕ) a + S16.size a ≤ S4128.size a := by
  obtain rfl := Fin.eq_zero a
  show (Scf.iv 0#32 1#32 k * 16#32 : BitVec 32).toNat + 16 ≤ 4128
  rw [off_k k h]
  have := k.isLt
  omega

theorem off13_eq (c : ℕ) (h : c ≤ 4096) : k0_off13 (BitVec.ofNat 32 c) 0 = c := by
  show (Scalar.minsi (BitVec.ofNat 32 c) 4096#32).toNat = c
  rw [mins_eq (BitVec.ofNat 32 c) 4096 (by omega) (by rw [nat_of c (by omega)]; exact h), nat_of c (by omega)]

theorem chk14 (c : ℕ) (h : c ≤ 4096) : k0_chk14 (BitVec.ofNat 32 c) := by
  have hn := nv_le c h
  unfold k0_chk14
  refine ⟨fun a => ?_, ok_up _ rfl rfl (t6_trips c h) hn, fun k a => room k ((t6_trips c h).trans_le hn) a,
    ok_none (t7_lb c h) rfl (t7_trips c h), fun k => (Nat.not_lt_zero _ (lt_of_lt_of_eq k.isLt (t7_trips c h))).elim,
    ok_up _ rfl rfl (t10_trips c h) hn, fun k a => room k ((t10_trips c h).trans_le hn) a,
    ok_none (t11_lb c h) rfl (t11_trips c h), fun k => (Nat.not_lt_zero _ (lt_of_lt_of_eq k.isLt (t11_trips c h))).elim,
    ok_up _ rfl rfl (t13_trips c h) hn, fun k a => room k ((t13_trips c h).trans_le hn) a,
    ok_none (t14_lb c h) rfl (t14_trips c h), fun k => (Nat.not_lt_zero _ (lt_of_lt_of_eq k.isLt (t14_trips c h))).elim⟩
  obtain rfl := Fin.eq_zero a
  rw [off13_eq c h]
  show c + 16 ≤ 4128
  omega

/-- A loop without trips. -/
theorem Do.skip {σ : Type} {w : ℕ} {lb ub st : BitVec w} {hok : Scf.OK lb ub st} {init : σ}
    {body : Fin (Scf.trips lb ub st) → σ → Tprog F L σ} (h : Scf.trips lb ub st = 0) {Φ : σ → St F → Prop} (hΦ : Φ init T) :
    Do d L T (Scf.for lb ub st hok init body) Φ := by
  refine Do.for (fun _ a T' => a = init ∧ T' = T) ⟨rfl, rfl⟩ (fun k => (Nat.not_lt_zero _ (lt_of_lt_of_eq k.isLt h)).elim) ?_
  rintro a _ ⟨rfl, rfl⟩
  exact hΦ

/-! ## The histograms of the candidates' lower bits -/

/-- A word in bin `y` of the second histogram, -/
abbrev Q6 (b : BitVec 32) (y : ℕ) (u : BitVec 32) : Prop := IntOp.shrsi .vector u 17#32 = b ∧ (IntOp.shrsi .vector u 8#32 &&& 511#32).toNat = y
/-- and in bin `y` of the third. -/
abbrev Q10 (b : BitVec 32) (y : ℕ) (u : BitVec 32) : Prop := IntOp.shrsi .vector u 8#32 = b ∧ (u &&& 255#32).toNat = y

theorem and_le (u : BitVec 32) (m : ℕ) (h : m < 2 ^ 32) : (u &&& BitVec.ofNat 32 m).toNat ≤ m := by
  rw [BitVec.toNat_and, nat_of m h]
  exact Nat.and_le_right

theorem hist6_step (f u : ℕ → BitVec 32) (b : BitVec 32) (n off : ℕ) (hoff : off = n)
    (hf : ∀ y < 512, f y = BitVec.ofNat 32 (Nat.count (fun j => Q6 b y (u j)) n)) :
    ∃ g, scat (idxOp (F := F) .hist true) f (k0_pay101 (F := F) fun x => u (off + (x 0).val)) k0_pay89 (k0_pay100 b (F := F) fun x => u (off + (x 0).val)) = g ∧
      ∀ y < 512, g y = BitVec.ofNat 32 (Nat.count (fun j => Q6 b y (u j)) (n + 16)) := by
  subst hoff
  refine ⟨_, rfl, fun y hy => hist_step (fun y j => Q6 b y (u j)) f off y _ _ _ (fun _ => rfl) _ (fun _ _ => rfl) (fun k hk => ?_) (hf y hy)⟩
  have e : off + ((ln k) 0).val = off + k := by rw [ln_val k hk]
  have hc := cmp_eq (IntOp.shrsi .vector (u (off + ((ln k) 0).val)) 17#32) b
  rw [e] at hc
  refine (and_congr (?_ : _ ↔ IntOp.shrsi .vector (u (off + k)) 17#32 = b) ?_)
  · refine Iff.trans ?_ hc
    show IntOp.cmpi .eq (IntOp.shrsi .vector (u (off + ((ln k) 0).val)) 17#32) b = 1 ↔ _
    rw [e]
  · show (IntOp.shrsi .vector (u (off + ((ln k) 0).val)) 8#32 &&& 511#32).toNat = y ↔ _
    rw [e]

theorem hist6 (A : Args) {v2 : IVec S16 32} {c0 b : BitVec 32} (c : ℕ) (hc : c ≤ 4096) {hw : k0_chk14 (BitVec.ofNat 32 c)}
    (h0 : ∀ y < 512, T.hist y = 0#32) :
    Do d L T (Scf.Loop.for (k0_t6_loop (BitVec.ofNat 32 c)) (k0_t6_ok _ hw) 0#32 (A.ap L (k0_t6_body (F := F)) v2 k0_pay89 c0 b (BitVec.ofNat 32 c) hw))
    fun _ T' => ∃ r, T' = { T with hist := r } ∧ ∀ y < 512, r y = BitVec.ofNat 32 (Nat.count (fun j => Q6 b y (T.cu j)) (16 * nv c)) := by
  have ht := t6_trips c hc
  have hn := nv_le c hc
  refine Do.for (fun n _ T' => ∃ r, T' = { T with hist := r } ∧ ∀ y < 512, r y = BitVec.ofNat 32 (Nat.count (fun j => Q6 b y (T.cu j)) (16 * n)))
    ⟨T.hist, rfl, fun y hy => by rw [h0 y hy]; rfl⟩ ?_ ?_
  · rintro k _ _ ⟨r, rfl, hr⟩
    obtain ⟨r', e, hr'⟩ := hist6_step (F := F) r T.cu b (16 * k.val) _ (off_k k (ht.trans_le hn)) hr
    refine Do.loads .cu ?_
    refine Do.asm (chk_of _ fun x => ?_) ?_
    · exact lt_of_le_of_lt (and_le _ 511 (by omega)) (by decide)
    refine Do.scatter_hist e ?_
    exact Do.pure ⟨r', rfl, hr'⟩
  · rintro _ _ ⟨r, rfl, hr⟩
    refine ⟨r, rfl, ?_⟩
    rw [← ht]
    exact hr

theorem hist10_step (f u : ℕ → BitVec 32) (a b : BitVec 32) (n off : ℕ) (hoff : off = n)
    (hf : ∀ y < 256, f y = BitVec.ofNat 32 (Nat.count (fun j => Q10 (Scalar.ori (Scalar.shli a 9#32) b) y (u j)) n)) :
    ∃ g, scat (idxOp (F := F) .hist true) f (k0_pay107 (F := F) fun x => u (off + (x 0).val)) k0_pay89 (k0_pay106 a b (F := F) fun x => u (off + (x 0).val)) = g ∧
      ∀ y < 256, g y = BitVec.ofNat 32 (Nat.count (fun j => Q10 (Scalar.ori (Scalar.shli a 9#32) b) y (u j)) (n + 16)) := by
  subst hoff
  refine ⟨_, rfl, fun y hy => hist_step (fun y j => Q10 (Scalar.ori (Scalar.shli a 9#32) b) y (u j)) f off y _ _ _ (fun _ => rfl) _ (fun _ _ => rfl) (fun k hk => ?_) (hf y hy)⟩
  have e : off + ((ln k) 0).val = off + k := by rw [ln_val k hk]
  have hc := cmp_eq (IntOp.shrsi .vector (u (off + ((ln k) 0).val)) 8#32) (Scalar.ori (Scalar.shli a 9#32) b)
  rw [e] at hc
  refine (and_congr (?_ : _ ↔ IntOp.shrsi .vector (u (off + k)) 8#32 = (Scalar.ori (Scalar.shli a 9#32) b)) ?_)
  · refine Iff.trans ?_ hc
    show IntOp.cmpi .eq (IntOp.shrsi .vector (u (off + ((ln k) 0).val)) 8#32) (Scalar.ori (Scalar.shli a 9#32) b) = 1 ↔ _
    rw [e]
  · show (u (off + ((ln k) 0).val) &&& 255#32).toNat = y ↔ _
    rw [e]

theorem hist10 (A : Args) {v13 : IVec S16 32} {a a3 b e f g h c1 : BitVec 32} (c : ℕ) (hc : c ≤ 4096) {hw : k0_chk14 (BitVec.ofNat 32 c)}
    (h0 : ∀ y < 256, T.hist y = 0#32) :
    Do d L T (Scf.Loop.for (k0_t10_loop (BitVec.ofNat 32 c)) (k0_t10_ok _ hw) 0#32 (A.ap L (k0_t10_body (F := F)) k0_pay89 a a3 v13 (BitVec.ofNat 32 c) hw e f g h c1 b))
    fun _ T' => ∃ r, T' = { T with hist := r } ∧ ∀ y < 256, r y = BitVec.ofNat 32 (Nat.count (fun j => Q10 (Scalar.ori (Scalar.shli a 9#32) b) y (T.cu j)) (16 * nv c)) := by
  have ht := t10_trips c hc
  have hn := nv_le c hc
  refine Do.for (fun n _ T' => ∃ r, T' = { T with hist := r } ∧ ∀ y < 256, r y = BitVec.ofNat 32 (Nat.count (fun j => Q10 (Scalar.ori (Scalar.shli a 9#32) b) y (T.cu j)) (16 * n)))
    ⟨T.hist, rfl, fun y hy => by rw [h0 y hy]; rfl⟩ ?_ ?_
  · rintro k _ _ ⟨r, rfl, hr⟩
    obtain ⟨r', e, hr'⟩ := hist10_step (F := F) r T.cu a b (16 * k.val) _ (off_k k (ht.trans_le hn)) hr
    refine Do.loads .cu ?_
    refine Do.asm (chk_of _ fun x => ?_) ?_
    · exact lt_of_le_of_lt (and_le _ 255 (by omega)) (by decide)
    refine Do.scatter_hist e ?_
    exact Do.pure ⟨r', rfl, hr'⟩
  · rintro _ _ ⟨r, rfl, hr⟩
    refine ⟨r, rfl, ?_⟩
    rw [← ht]
    exact hr

end Cert.Proof.Tile

end
-- ==== Proof.Counts.lean ====
/-
  Counting: the bins of a histogram from one up, counts through a compressed list, and the digits of a word.
-/
module

public import proofs.«01_k».proof.Proof.Mask

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

/-! ## Sums of counts -/

theorem sum_count (q : ℕ → ℕ → Prop) [∀ y, DecidablePred (q y)] (S : Finset ℕ) (r p : ℕ → Prop) [DecidablePred r] [DecidablePred p] (n : ℕ)
    (h : ∀ i < n, (∑ y ∈ S, if q y i then 1 else 0) + (if r i then 1 else 0) = if p i then 1 else 0) :
    (∑ y ∈ S, Nat.count (q y) n) + Nat.count r n = Nat.count p n := by
  induction n with
  | zero => simp
  | succ n ih =>
    have h1 := ih fun i hi => h i (by omega)
    have h2 := h n (by omega)
    simp only [Nat.count_succ, Finset.sum_add_distrib]
    omega

theorem sum_one (S : Finset ℕ) (u : ℕ) : (∑ y ∈ S, if u = y then 1 else 0) = if u ∈ S then 1 else 0 := by
  rw [Finset.sum_ite_eq]

/-- What is counted in the bins from `x` up of the histogram of the words' top bits. -/
theorem above_top (w : ℕ → ℕ) (n x : ℕ) (hw : ∀ i < n, w i < 2 ^ 30) :
    above (fun b => Nat.count (fun i => w i / 2 ^ 17 = b) n) 8192 x = Nat.count (fun i => x ≤ w i / 2 ^ 17) n := by
  have h := sum_count (fun y i => w i / 2 ^ 17 = y) (Finset.Ico x 8192) (fun _ => False) (fun i => x ≤ w i / 2 ^ 17) n fun i hi => by
    rw [sum_one, if_neg not_false, Nat.add_zero]
    have := hw i hi
    have e : w i / 2 ^ 17 ∈ Finset.Ico x 8192 ↔ x ≤ w i / 2 ^ 17 := by rw [Finset.mem_Ico]; omega
    simp only [e]
  have h0 : Nat.count (fun _ : ℕ => False) n = 0 := by simp [Nat.count_eq_card_filter_range]
  rw [h0, Nat.add_zero] at h
  exact h

/-- What is counted in the bins from `x` up of the histogram of the next `G` values' worth of bits, of the words of prefix `B`. -/
theorem above_next (u : ℕ → ℕ) (n B G x : ℕ) (hG : 0 < G) (hx : x ≤ G) :
    above (fun y => Nat.count (fun i => u i / G = B ∧ u i % G = y) n) G x + Nat.count (fun i => B + 1 ≤ u i / G) n
      = Nat.count (fun i => B * G + x ≤ u i) n := by
  refine sum_count (fun y i => u i / G = B ∧ u i % G = y) (Finset.Ico x G) (fun i => B + 1 ≤ u i / G) (fun i => B * G + x ≤ u i) n fun i _ => ?_
  have hd := Nat.div_add_mod (u i) G
  have hm := Nat.mod_lt (u i) hG
  by_cases h : u i / G = B
  · have e : ∀ y, (u i / G = B ∧ u i % G = y) ↔ u i % G = y := fun y => ⟨fun h => h.2, fun h' => ⟨h, h'⟩⟩
    simp only [e]
    rw [sum_one, if_neg (by omega : ¬ B + 1 ≤ u i / G), Nat.add_zero]
    have e2 : u i % G ∈ Finset.Ico x G ↔ B * G + x ≤ u i := by
      rw [Finset.mem_Ico]
      rw [h, Nat.mul_comm] at hd
      omega
    simp only [e2]
  · have e : ∀ y, ¬ (u i / G = B ∧ u i % G = y) := fun y h' => h h'.1
    simp only [e, if_false, Finset.sum_const_zero, Nat.zero_add]
    have e2 : B + 1 ≤ u i / G ↔ B * G + x ≤ u i := by
      rw [Nat.le_div_iff_mul_le hG, Nat.add_mul, Nat.one_mul]
      constructor
      · intro h'; omega
      · intro h'
        by_contra hc
        refine h (Nat.le_antisymm ?_ ?_)
        · rw [← Nat.lt_succ_iff, Nat.div_lt_iff_lt_mul hG, Nat.succ_mul]; omega
        · rw [Nat.le_div_iff_mul_le hG]; omega
    simp only [e2]

/-- A finished scan of a histogram holding at least `need`. -/
theorem scan_done (c : ℕ → ℕ) (N need : ℕ) (σ : BitVec 32 × BitVec 1 × BitVec 32 × BitVec 32) (h : ScanInv c N need 0 σ) (ht : need ≤ above c N 0) :
    ∃ b < N, σ.2.2.1 = BitVec.ofNat 32 b ∧ σ.2.2.2 = BitVec.ofNat 32 (above c N (b + 1)) ∧ above c N (b + 1) < need ∧ need ≤ above c N b := by
  obtain ⟨-, ⟨-, b, -, h1, h2, h3, h4, h5⟩ | ⟨-, h⟩⟩ := h
  · exact ⟨b, h1, h2, h3, h4, h5⟩
  · omega

/-! ## Counting through a compressed list -/

theorem count_through {A : Type} (p : ℕ → Prop) [DecidablePred p] (Q : A → Prop) [DecidablePred Q] (f g : ℕ → A) (n : ℕ)
    (hf : ∀ i < n, p i → f (Nat.count p i) = g i) :
    Nat.count (fun j => Q (f j)) (Nat.count p n) = Nat.count (fun i => p i ∧ Q (g i)) n := by
  induction n with
  | zero => simp
  | succ n ih =>
    have h1 := ih fun i hi => hf i (by omega)
    rw [Nat.count_succ, Nat.count_succ (fun i => p i ∧ Q (g i))]
    by_cases hp : p n
    · rw [if_pos hp, Nat.count_succ, h1]
      simp only [hf n (by omega) hp, hp, true_and]
    · rw [if_neg hp, Nat.add_zero, h1, if_neg (fun h => hp h.1), Nat.add_zero]

theorem count_pad (q : ℕ → Prop) [DecidablePred q] (c m : ℕ) (h : c ≤ m) (hq : ∀ j, c ≤ j → j < m → ¬ q j) : Nat.count q m = Nat.count q c := by
  induction m with
  | zero => rw [Nat.le_zero.mp h]
  | succ m ih =>
    by_cases hc : c = m + 1
    · rw [hc]
    · rw [Nat.count_succ, if_neg (hq m (by omega) (by omega)), ih (by omega) fun j h1 h2 => hq j h1 (by omega), Nat.add_zero]

theorem count_congr (p q : ℕ → Prop) [DecidablePred p] [DecidablePred q] (n : ℕ) (h : ∀ i < n, p i ↔ q i) : Nat.count p n = Nat.count q n := by
  induction n with
  | zero => simp
  | succ n ih =>
    rw [Nat.count_succ, Nat.count_succ, ih fun i hi => h i (by omega)]
    simp only [h n (by omega)]

theorem count_surj (p : ℕ → Prop) [DecidablePred p] (n x : ℕ) (h : x < Nat.count p n) : ∃ i < n, p i ∧ Nat.count p i = x := by
  induction n with
  | zero => simp at h
  | succ n ih =>
    rw [Nat.count_succ] at h
    by_cases hx : x < Nat.count p n
    · obtain ⟨i, h1, h2⟩ := ih hx
      exact ⟨i, by omega, h2⟩
    · by_cases hp : p n
      · rw [if_pos hp] at h
        exact ⟨n, by omega, hp, by omega⟩
      · rw [if_neg hp] at h
        omega

theorem count_lt {p : ℕ → Prop} [DecidablePred p] {i j : ℕ} (h : i < j) (hp : p i) : Nat.count p i < Nat.count p j := by
  have h1 : Nat.count p (i + 1) ≤ Nat.count p j := Nat.count_monotone _ h
  rw [Nat.count_succ, if_pos hp] at h1
  omega

/-! ## The words' digits -/

theorem Q6_iff (b y : ℕ) (hb : b < 2 ^ 13) (u : BitVec 32) (hu : u.toNat < 2 ^ 30) :
    Q6 (BitVec.ofNat 32 b) y u ↔ u.toNat / 2 ^ 17 = b ∧ u.toNat / 2 ^ 8 % 2 ^ 9 = y := by
  refine and_congr ?_ ?_
  · rw [← BitVec.toNat_inj, nat_of b (by omega)]
    have := shr_nat 17 (by omega) u (by omega)
    rw [this]
  · rw [BitVec.toNat_and, show (511#32).toNat = 2 ^ 9 - 1 from rfl, Nat.and_two_pow_sub_one_eq_mod]
    have := shr_nat 8 (by omega) u (by omega)
    rw [this]

theorem Q10_iff (b y : ℕ) (hb : b < 2 ^ 22) (u : BitVec 32) (hu : u.toNat < 2 ^ 30) :
    Q10 (BitVec.ofNat 32 b) y u ↔ u.toNat / 2 ^ 8 = b ∧ u.toNat % 2 ^ 8 = y := by
  refine and_congr ?_ ?_
  · rw [← BitVec.toNat_inj, nat_of b (by omega)]
    have := shr_nat 8 (by omega) u (by omega)
    rw [this]
  · rw [BitVec.toNat_and, show (255#32).toNat = 2 ^ 8 - 1 from rfl, Nat.and_two_pow_sub_one_eq_mod]

theorem Q6_pad (b y : ℕ) (hb : b < 2 ^ 13) : ¬ Q6 (BitVec.ofNat 32 b) y 4294967295#32 := by
  intro h
  have h1 := congrArg BitVec.toNat h.1
  rw [nat_of b (by omega)] at h1
  have e : (IntOp.shrsi .vector 4294967295#32 17#32).toNat = 4294967295 := by decide
  omega

theorem Q10_pad (b y : ℕ) (hb : b < 2 ^ 22) : ¬ Q10 (BitVec.ofNat 32 b) y 4294967295#32 := by
  intro h
  have h1 := congrArg BitVec.toNat h.1
  rw [nat_of b (by omega)] at h1
  have e : (IntOp.shrsi .vector 4294967295#32 8#32).toNat = 4294967295 := by decide
  omega

/-! ## A list of candidates: the words at or above `t`, in order, then pads -/

/-- `f` lists the words `p i` at or above `t`, in order, padded up to a multiple of sixteen. -/
structure Lists (p : ℕ → BitVec 32) (t : ℕ) (f : ℕ → BitVec 32) : Prop where
  at_ : ∀ i < 81920, t ≤ (p i).toNat → f (Nat.count (fun i => t ≤ (p i).toNat) i) = p i
  pad : ∀ j, Nat.count (fun i => t ≤ (p i).toNat) 81920 ≤ j → j < 16 * nv (Nat.count (fun i => t ≤ (p i).toNat) 81920) → f j = 4294967295#32

theorem Lists.count {p : ℕ → BitVec 32} {t : ℕ} {f : ℕ → BitVec 32} (h : Lists p t f) (Q : BitVec 32 → Prop) [DecidablePred Q] (hQ : ¬ Q 4294967295#32)
    (q : ℕ → Prop) [DecidablePred q] (hq : ∀ i < 81920, (t ≤ (p i).toNat ∧ Q (p i)) ↔ q i) :
    Nat.count (fun j => Q (f j)) (16 * nv (Nat.count (fun i => t ≤ (p i).toNat) 81920)) = Nat.count q 81920 := by
  rw [count_pad (fun j => Q (f j)) (Nat.count (fun i => t ≤ (p i).toNat) 81920) _ (nv_ge _).1 (fun j h1 h2 => by rw [h.pad j h1 h2]; exact hQ),
    count_through (fun i => t ≤ (p i).toNat) Q f p 81920 h.at_]
  exact count_congr _ _ _ hq

end Cert.Proof.Tile

end
-- ==== Proof.Select.lean ====
/-
  Selection: taking the greatest of a list again and again takes it in order, and the order of the candidates is the order of the words.
-/
module

public import proofs.«01_k».proof.Proof.Counts

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

/-! ## Selecting the greatest, again and again -/

/-- Slot `y` is taken before slot `x`: its value is greater, or the same at a lower slot. -/
def Before (D : ℕ → ℤ) (y x : ℕ) : Prop := D x < D y ∨ D y = D x ∧ y < x

instance (D : ℕ → ℤ) (y x : ℕ) : Decidable (Before D y x) := inferInstanceAs (Decidable (_ ∨ _))

/-- How many of the first `N` slots are taken before slot `x`. -/
def place (D : ℕ → ℤ) (N x : ℕ) : ℕ := ((Finset.range N).filter fun y => Before D y x).card

theorem Before.trans {D : ℕ → ℤ} {x y z : ℕ} (h : Before D x y) (h' : Before D y z) : Before D x z := by
  unfold Before at *
  omega

theorem Before.total {D : ℕ → ℤ} {x y : ℕ} (h : x ≠ y) : Before D x y ∨ Before D y x := by
  unfold Before
  omega

theorem Before.irrefl {D : ℕ → ℤ} {x : ℕ} : ¬ Before D x x := by
  unfold Before
  omega

theorem place_lt {D : ℕ → ℤ} {N x y : ℕ} (hx : x < N) (h : Before D x y) : place D N x < place D N y := by
  refine Finset.card_lt_card ⟨fun z hz => ?_, fun hc => ?_⟩
  · rw [Finset.mem_filter] at hz ⊢
    exact ⟨hz.1, hz.2.trans h⟩
  · have := hc (Finset.mem_filter.mpr ⟨Finset.mem_range.mpr hx, h⟩)
    exact Before.irrefl (Finset.mem_filter.mp this).2

theorem place_inj {D : ℕ → ℤ} {N x y : ℕ} (hx : x < N) (hy : y < N) (h : place D N x = place D N y) : x = y := by
  by_contra hne
  rcases Before.total (D := D) hne with h' | h'
  · exact absurd h (place_lt hx h').ne
  · exact absurd h (place_lt hy h').ne'

theorem place_bound {D : ℕ → ℤ} {N x : ℕ} (hx : x < N) : place D N x < N := by
  have : (Finset.range N).filter (fun y => Before D y x) ⊂ Finset.range N :=
    ⟨Finset.filter_subset _ _, fun hc => Before.irrefl (Finset.mem_filter.mp (hc (Finset.mem_range.mpr hx))).2⟩
  exact (Finset.card_lt_card this).trans_eq (Finset.card_range N)

theorem place_surj {D : ℕ → ℤ} {N r : ℕ} (hr : r < N) : ∃ x < N, place D N x = r := by
  have := Finset.surj_on_of_inj_on_of_card_le (s := Finset.range N) (t := Finset.range N) (fun x _ => place D N x)
    (fun x hx => Finset.mem_range.mpr (place_bound (Finset.mem_range.mp hx)))
    (fun x y hx hy h => place_inj (Finset.mem_range.mp hx) (Finset.mem_range.mp hy) h) le_rfl r (Finset.mem_range.mpr hr)
  obtain ⟨x, hx, h⟩ := this
  exact ⟨x, Finset.mem_range.mp hx, h.symm⟩

/-- After `r` rounds: the slots placed under `r` are struck out. -/
def Struck (D C : ℕ → ℤ) (N r : ℕ) : Prop := ∀ x < N, C x = if place D N x < r then -2 else D x

/-- The least slot of the greatest value. -/
def IsBest (C : ℕ → ℤ) (N x : ℕ) : Prop := x < N ∧ ∀ y < N, C y ≤ C x ∧ (y < x → C y < C x)

theorem Struck.best {D C : ℕ → ℤ} {N r x : ℕ} (h : Struck D C N r) (hD : ∀ y < N, -1 ≤ D y) (hr : r < N) (hx : IsBest C N x) : place D N x = r := by
  obtain ⟨z, hz, hzr⟩ := place_surj (D := D) hr
  have e1 := h z hz
  rw [if_neg (by omega)] at e1
  have e2 := h x hx.1
  have h1 := hx.2 z hz
  have h2 := hD z hz
  have e3 : ¬ place D N x < r := by
    intro hc
    rw [if_pos hc] at e2
    omega
  rw [if_neg e3] at e2
  by_cases hne : x = z
  · rw [hne, hzr]
  · rcases Before.total (D := D) hne with h' | h'
    · have := place_lt hx.1 h'
      omega
    · unfold Before at h'
      omega

theorem Struck.next {D C C' : ℕ → ℤ} {N r x : ℕ} (h : Struck D C N r) (hx : x < N) (hp : place D N x = r) (hC : ∀ y < N, C' y = if y = x then -2 else C y) :
    Struck D C' N (r + 1) := by
  intro y hy
  rw [hC y hy]
  by_cases e : y = x
  · rw [if_pos e, if_pos (by rw [e]; omega)]
  · rw [if_neg e, h y hy]
    have : place D N y ≠ r := fun hc => e (place_inj hy hx (hc.trans hp.symm))
    by_cases h' : place D N y < r
    · rw [if_pos h', if_pos (by omega)]
    · rw [if_neg h', if_neg (by omega)]

/-! ## The candidates' places are the words' ranks -/

/-- How many of the words are ranked before word `i`. -/
abbrev rank (w : ℕ → ℕ) (i : ℕ) : ℕ := place (fun j => (w j : ℤ)) 81920 i

/-- The candidates: the words over `t` in order, then those equal to it in order, each with its position; from slot 300 on, `t` or a pad. -/
structure Cands (w : ℕ → ℕ) (t : ℕ) (D : ℕ → ℤ) (I : ℕ → ℕ) : Prop where
  gt : ∀ i < 81920, t < w i → D (Nat.count (fun i => t < w i) i) = w i ∧ I (Nat.count (fun i => t < w i) i) = i
  eq : ∀ i < 81920, t = w i → Nat.count (fun i => t < w i) 81920 + Nat.count (fun i => t = w i) i < 300 →
    D (Nat.count (fun i => t < w i) 81920 + Nat.count (fun i => t = w i) i) = w i ∧ I (Nat.count (fun i => t < w i) 81920 + Nat.count (fun i => t = w i) i) = i
  few : Nat.count (fun i => t < w i) 81920 < 300
  many : 300 ≤ Nat.count (fun i => t < w i) 81920 + Nat.count (fun i => t = w i) 81920
  rest : ∀ x, 300 ≤ x → x < 304 → D x = t ∨ D x = -1

theorem Cands.slot {w t D I} (h : Cands w t D I) (x : ℕ) (hx : x < 300) :
    ∃ i < 81920, D x = w i ∧ I x = i ∧ ((t < w i ∧ x = Nat.count (fun i => t < w i) i) ∨
      (t = w i ∧ x = Nat.count (fun i => t < w i) 81920 + Nat.count (fun i => t = w i) i)) := by
  by_cases hc : x < Nat.count (fun i => t < w i) 81920
  · obtain ⟨i, h1, h2, h3⟩ := count_surj _ _ _ hc
    have h4 := h.gt i h1 h2
    rw [h3] at h4
    exact ⟨i, h1, h4.1, h4.2, .inl ⟨h2, h3.symm⟩⟩
  · have hm := h.many
    obtain ⟨i, h1, h2, h3⟩ := count_surj (fun i => t = w i) 81920 (x - Nat.count (fun i => t < w i) 81920) (by omega)
    have e : Nat.count (fun i => t < w i) 81920 + Nat.count (fun i => t = w i) i = x := by omega
    have h4 := h.eq i h1 h2 (by omega)
    rw [e] at h4
    exact ⟨i, h1, h4.1, h4.2, .inr ⟨h2, e.symm⟩⟩

theorem Cands.of_word {w t D I} (h : Cands w t D I) (i : ℕ) (hi : i < 81920) (hw : t < w i ∨ t = w i ∧ Nat.count (fun i => t < w i) 81920 + Nat.count (fun i => t = w i) i < 300) :
    ∃ x < 300, D x = w i ∧ I x = i := by
  rcases hw with hw | ⟨hw, hc⟩
  · have h1 := count_lt (p := fun i => t < w i) hi hw
    have h2 := h.few
    exact ⟨_, by omega, h.gt i hi hw⟩
  · exact ⟨_, hc, h.eq i hi hw hc⟩

/-- Between candidates, the order of the slots is the order of the words. -/
theorem Cands.before {w t D I} (h : Cands w t D I) (x y : ℕ) (hx : x < 300) (hy : y < 300) :
    Before D y x ↔ Before (fun j => (w j : ℤ)) (I y) (I x) := by
  obtain ⟨i, h1, h2, h3, h4⟩ := h.slot x hx
  obtain ⟨j, k1, k2, k3, k4⟩ := h.slot y hy
  unfold Before
  rw [h2, k2, h3, k3]
  refine or_congr Iff.rfl (and_congr_right fun e => ?_)
  have e' : w j = w i := by exact_mod_cast e
  have key : ∀ (p : ℕ → Prop) [DecidablePred p], p i → p j → (Nat.count p j < Nat.count p i ↔ j < i) := fun p _ hi hj => by
    constructor
    · intro hc
      by_contra hn
      have := Nat.count_monotone p (Nat.le_of_not_lt hn)
      omega
    · intro hc; exact count_lt hc hj
  rcases h4 with ⟨a1, a2⟩ | ⟨a1, a2⟩ <;> rcases k4 with ⟨b1, b2⟩ | ⟨b1, b2⟩
  · rw [a2, b2]; exact key (fun i => t < w i) a1 b1
  · omega
  · omega
  · rw [a2, b2, Nat.add_lt_add_iff_left]; exact key (fun i => t = w i) a1 b1

theorem Cands.place_eq {w t D I} (h : Cands w t D I) (x : ℕ) (hx : x < 300) : place D 304 x = rank w (I x) := by
  obtain ⟨i, h1, h2, h3, h4⟩ := h.slot x hx
  refine Finset.card_bij (fun y _ => I y) ?_ ?_ ?_
  · intro y hy
    rw [Finset.mem_filter, Finset.mem_range] at hy ⊢
    have hy3 : y < 300 := by
      by_contra hc
      have hr := h.rest y (by omega) hy.1
      have hb := hy.2
      unfold Before at hb
      rw [h2] at hb
      omega
    obtain ⟨j, k1, k2, k3, -⟩ := h.slot y hy3
    exact ⟨by rw [k3]; exact k1, (h.before x y hx hy3).mp hy.2⟩
  · have hinj : ∀ y < 300, ∀ z < 300, I y = I z → y = z := by
      intro y hy z hz e
      obtain ⟨j, k1, k2, k3, k4⟩ := h.slot y hy
      obtain ⟨l, m1, m2, m3, m4⟩ := h.slot z hz
      have : j = l := by rw [← k3, ← m3, e]
      subst this
      omega
    have h300 : ∀ y ∈ (Finset.range 304).filter (fun y => Before D y x), y < 300 := by
      intro y hy
      rw [Finset.mem_filter, Finset.mem_range] at hy
      by_contra hc
      have hr := h.rest y (by omega) hy.1
      have hb := hy.2
      unfold Before at hb
      rw [h2] at hb
      omega
    exact fun y hy z hz e => hinj y (h300 y hy) z (h300 z hz) e
  · intro j hj
    rw [Finset.mem_filter, Finset.mem_range] at hj
    have hb := hj.2
    rw [h3] at hb
    have hw : t < w j ∨ t = w j ∧ Nat.count (fun i => t < w i) 81920 + Nat.count (fun i => t = w i) j < 300 := by
      replace hb : (w i : ℤ) < w j ∨ (w j : ℤ) = w i ∧ j < i := hb
      rcases h4 with ⟨a1, a2⟩ | ⟨a1, a2⟩
      · left; omega
      · by_cases hjt : t < w j
        · exact .inl hjt
        · have e : t = w j := by omega
          have := count_lt (p := fun i => t = w i) (show j < i by omega) e
          exact .inr ⟨e, by omega⟩
    obtain ⟨y, hy, e1, e2⟩ := h.of_word j hj.1 hw
    refine ⟨y, ?_, e2⟩
    rw [Finset.mem_filter, Finset.mem_range]
    refine ⟨by omega, (h.before x y hx hy).mpr ?_⟩
    rw [e2, h3]
    exact hb

/-- A slot placed under 300 is one of the first 300. -/
theorem Cands.slot_lt {w t D I} (h : Cands w t D I) (x : ℕ) (hx : x < 304) (hp : place D 304 x < 300) : x < 300 := by
  by_contra hc
  have hr := h.rest x (by omega) hx
  have : (Finset.range 300).card ≤ place D 304 x := Finset.card_le_card fun y hy => by
    rw [Finset.mem_range] at hy
    rw [Finset.mem_filter, Finset.mem_range]
    obtain ⟨j, k1, k2, k3, k4⟩ := h.slot y hy
    refine ⟨by omega, ?_⟩
    unfold Before
    omega
  rw [Finset.card_range] at this
  omega

end Cert.Proof.Tile

end
-- ==== Proof.Rounds.lean ====
/-
  The three hundred rounds: each takes the least slot of the greatest remaining word.
-/
module

public import proofs.«01_k».proof.Proof.Select
public import proofs.«01_k».proof.Proof.Steps

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

theorem Do.scatter_op {v : IVec S16 32} {w : S16.Idx → BitVec 32} {m : IVec S16 1} {add : Bool}
    {inb : ∀ a x, ((![v] : Fin 1 → IVec S16 32) a x).toNat < (⟨1, ![304]⟩ : Shape).size a}
    {hs : ((B.mem .op).access (.whole _)).Stores Finset.univ} {k : PUnit → Tprog F L α} {Φ : α → St F → Prop} {f g h : ℕ → BitVec 32}
    (e : scat (idxOp (F := F) .op add) f v w m = g)
    (H : Do d L { T with du := h, op := g } (k ⟨⟩) Φ) :
    Do d L { T with du := h, op := f } (SparseCore.vectorStoreIdx (d := ![16]) (B.mem .op) ![v] w m add inb hs >>= k) Φ := by
  subst e
  exact Do.scatter .op H

theorem Do.strike_du {v : IVec S16 32} {w : S16.Idx → BitVec 32} {m : IVec S16 1} {add : Bool}
    {inb : ∀ a x, ((![v] : Fin 1 → IVec S16 32) a x).toNat < (⟨1, ![320]⟩ : Shape).size a}
    {hs : ((B.mem .du).access (.whole _)).Stores Finset.univ} {k : PUnit → Tprog F L α} {Φ : α → St F → Prop} {f g h : ℕ → BitVec 32}
    (e : scat (idxOp (F := F) .du add) f v w m = g)
    (H : Do d L { T with du := g, op := h } (k ⟨⟩) Φ) :
    Do d L { T with du := f, op := h } (SparseCore.vectorStoreIdx (d := ![16]) (B.mem .du) ![v] w m add inb hs >>= k) Φ := by
  subst e
  exact Do.scatter .du H

/-- Sixteen words of the candidates. -/
abbrev slots (u : ℕ → BitVec 32) (m : ℕ) : IVec S16 32 := fun x => u (16 * m + (x 0).val)

/-- In every lane: the greatest word of the first `M` groups of sixteen, and the first slot holding it. -/
def Bst (u : ℕ → BitVec 32) (M : ℕ) (b p : IVec S16 32) : Prop :=
  ∀ l < 16, ∃ m < M, b (ln l) = u (16 * m + l) ∧ p (ln l) = BitVec.ofNat 32 (16 * m + l) ∧
    ∀ m' < M, (u (16 * m' + l)).toInt ≤ (u (16 * m + l)).toInt ∧ (m' < m → (u (16 * m' + l)).toInt < (u (16 * m + l)).toInt)

theorem bst_one (u : ℕ → BitVec 32) : Bst u 1 (slots u 0) lanes := by
  intro l hl
  refine ⟨0, by omega, by show u (16 * 0 + ((ln l) 0).val) = _; rw [ln_val l hl], by rw [lanes_eq l hl]; congr 1; omega, fun m' hm => ?_⟩
  obtain rfl : m' = 0 := by omega
  exact ⟨le_refl _, fun h => absurd h (by omega)⟩

theorem bst_step (u : ℕ → BitVec 32) (M : ℕ) (hM : M < 1000) (b p : IVec S16 32) (h : Bst u M b p) :
    Bst u (M + 1) (select (cmpi .sgt (slots u M) b) (slots u M) b) (select (cmpi .sgt (slots u M) b) (addi lanes (broadcast S16 (BitVec.ofNat 32 (16 * M)))) p) := by
  intro l hl
  obtain ⟨m, hm, h1, h2, h3⟩ := h l hl
  have e : slots u M (ln l) = u (16 * M + l) := by show u (16 * M + ((ln l) 0).val) = _; rw [ln_val l hl]
  have hc : cmpi .sgt (slots u M) b (ln l) = 1 ↔ (u (16 * m + l)).toInt < (u (16 * M + l)).toInt := by
    refine (cmp_sgt _ _).trans ?_
    show (b (ln l)).toInt < (slots u M (ln l)).toInt ↔ _
    rw [e, h1]
  by_cases hlt : (u (16 * m + l)).toInt < (u (16 * M + l)).toInt
  · refine ⟨M, by omega, (if_pos (hc.mpr hlt)).trans e, (if_pos (hc.mpr hlt)).trans ?_, fun m' hm' => ?_⟩
    · show lanes (ln l) + BitVec.ofNat 32 (16 * M) = _
      rw [lanes_eq l hl, ← BitVec.ofNat_add, Nat.add_comm]
    · by_cases e' : m' = M
      · subst e'; exact ⟨le_refl _, fun h => absurd h (by omega)⟩
      · have := (h3 m' (by omega)).1
        exact ⟨by omega, fun _ => by omega⟩
  · refine ⟨m, by omega, (if_neg (fun h => hlt (hc.mp h))).trans h1, (if_neg (fun h => hlt (hc.mp h))).trans h2, fun m' hm' => ?_⟩
    by_cases e' : m' = M
    · subst e'; exact ⟨by omega, fun h => absurd h (by omega)⟩
    · exact h3 m' (by omega)

theorem bst9 (u : ℕ → BitVec 32) : Bst u 8 (k0_pay68 (F := F) (slots u 0) (slots u 1) (slots u 2) (slots u 3) (slots u 4) (slots u 5) (slots u 6) (slots u 7))
    (k0_pay69 (F := F) lanes (slots u 0) (slots u 1) (slots u 2) (slots u 3) (slots u 4) (slots u 5) (slots u 6) (slots u 7)) :=
  bst_step u 7 (by omega) _ _ (bst_step u 6 (by omega) _ _ (bst_step u 5 (by omega) _ _ (bst_step u 4 (by omega) _ _
    (bst_step u 3 (by omega) _ _ (bst_step u 2 (by omega) _ _ (bst_step u 1 (by omega) _ _ (bst_one u)))))))

theorem bst10 (u : ℕ → BitVec 32) (b p : IVec S16 32) (h : Bst u 8 b p) :
    Bst u 15 (k0_pay83 (F := F) b (slots u 8) (slots u 9) (slots u 10) (slots u 11) (slots u 12) (slots u 13) (slots u 14))
    (k0_pay84 (F := F) lanes b p (slots u 8) (slots u 9) (slots u 10) (slots u 11) (slots u 12) (slots u 13) (slots u 14)) :=
  bst_step u 14 (by omega) _ _ (bst_step u 13 (by omega) _ _ (bst_step u 12 (by omega) _ _
    (bst_step u 11 (by omega) _ _ (bst_step u 10 (by omega) _ _ (bst_step u 9 (by omega) _ _ (bst_step u 8 (by omega) _ _ h))))))

/-- The slot of the greatest word, from the lanes' greatest. -/
abbrev pick (b p : IVec S16 32) : BitVec 32 :=
  extractAt (s := S16) ![15] (xori (scan .min (xori (select (cmpi .eq b (broadcast S16 (extractAt (s := S16) ![15] (xori (scan .max (xori b (broadcast S16 2147483648#32))) (broadcast S16 2147483648#32)) inpos_S16_p15))) p
    (broadcast S16 100000#32)) (broadcast S16 2147483648#32))) (broadcast S16 2147483648#32)) inpos_S16_p15

theorem pick_best (u : ℕ → BitVec 32) (b p : IVec S16 32) (h : Bst u 19 b p) :
    ∃ x, pick b p = BitVec.ofNat 32 x ∧ IsBest (fun y => (u y).toInt) 304 x := by
  obtain ⟨k, hk, ek, hmax⟩ := flip_max b
  have hM : extractAt (s := S16) ![15] (xori (scan .max (xori b (broadcast S16 2147483648#32))) (broadcast S16 2147483648#32)) inpos_S16_p15 = b (ln k) := by
    rw [last_eq]; exact ek
  unfold pick
  rw [hM, last_eq]
  obtain ⟨j, hj, ej, hmin⟩ := flip_min (select (cmpi .eq b (broadcast S16 (b (ln k)))) p (broadcast S16 100000#32))
  have hsel : ∀ l < 16, (b (ln l) = b (ln k) ∧ select (cmpi .eq b (broadcast S16 (b (ln k)))) p (broadcast S16 100000#32) (ln l) = p (ln l)) ∨
      (b (ln l) ≠ b (ln k) ∧ select (cmpi .eq b (broadcast S16 (b (ln k)))) p (broadcast S16 100000#32) (ln l) = BitVec.ofNat 32 100000) := by
    intro l hl
    have hc : cmpi .eq b (broadcast S16 (b (ln k))) (ln l) = 1 ↔ b (ln l) = b (ln k) := cmp_eq _ _
    by_cases e : b (ln l) = b (ln k)
    · exact .inl ⟨e, if_pos (hc.mpr e)⟩
    · exact .inr ⟨e, if_neg (fun h => e (hc.mp h))⟩
  have hpk : ∀ l < 16, ∃ x < 304, p (ln l) = BitVec.ofNat 32 x := fun l hl => by
    obtain ⟨m, hm, -, h2, -⟩ := h l hl
    exact ⟨16 * m + l, by omega, h2⟩
  have hjk := hmin k hk
  have hmask : b (ln j) = b (ln k) ∧ select (cmpi .eq b (broadcast S16 (b (ln k)))) p (broadcast S16 100000#32) (ln j) = p (ln j) := by
    rcases hsel j hj with h1 | ⟨-, h1⟩
    · exact h1
    · exfalso
      rcases hsel k hk with ⟨-, h2⟩ | ⟨h2, -⟩
      · obtain ⟨x, hx, e⟩ := hpk k hk
        rw [h1, h2, e, int_of _ (by omega), int_of _ (by omega)] at hjk
        omega
      · exact h2 rfl
  obtain ⟨m, hm, h1, h2, h3⟩ := h j hj
  refine ⟨16 * m + j, ej.trans (hmask.2.trans h2), by omega, fun y hy => ?_⟩
  have hl : y % 16 < 16 := Nat.mod_lt _ (by omega)
  obtain ⟨m1, hm1, k1, k2, k3⟩ := h (y % 16) hl
  have ey : 16 * (y / 16) + y % 16 = y := Nat.div_add_mod y 16
  have k4 := k3 (y / 16) (by omega)
  rw [ey] at k4
  have hb := hmax (y % 16) hl
  rw [k1, ← hmask.1, h1] at hb
  refine ⟨le_trans k4.1 hb, fun hlt => ?_⟩
  show (u y).toInt < (u (16 * m + j)).toInt
  by_contra hge
  have hbe : b (ln (y % 16)) = b (ln k) := by
    rw [k1, ← hmask.1, h1]
    exact BitVec.eq_of_toInt_eq (by omega)
  have hn := hmin (y % 16) hl
  rw [hmask.2, h2] at hn
  rcases hsel (y % 16) hl with ⟨-, h5⟩ | ⟨h5, -⟩
  · rw [h5, k2, int_of _ (by omega), int_of _ (by omega)] at hn
    by_cases hc : y / 16 < m1
    · have := k4.2 hc
      omega
    · omega
  · exact h5 hbe

theorem pay86_best (u : ℕ → BitVec 32) (b p : IVec S16 32) (h : Bst u 15 b p) :
    ∃ x, (∀ y, k0_pay86 (F := F) lanes b p (slots u 15) (k0_pay85 lanes) (slots u 16) (slots u 17) (slots u 18) y = BitVec.ofNat 32 x) ∧
      IsBest (fun y => (u y).toInt) 304 x := by
  obtain ⟨x, h1, h2⟩ := pick_best u _ _ (bst_step u 18 (by omega) _ _ (bst_step u 17 (by omega) _ _ (bst_step u 16 (by omega) _ _ (bst_step u 15 (by omega) _ _ h))))
  exact ⟨x, fun _ => h1, h2⟩

theorem mask0 (k : ℕ) (hk : k < 16) : k0_pay113 lanes (ln k) = 1 ↔ k = 0 := by
  refine (cmp_eq _ _).trans ?_
  show lanes (ln k) = BitVec.ofNat 32 0 ↔ _
  rw [lanes_eq k hk]
  exact ⟨ofNat_inj (show k < 2 ^ 32 by omega) (show 0 < 2 ^ 32 by omega), fun h => by rw [h]⟩

theorem scat0 {A : Type} (op : A → A → A) (hop : ∀ a b, op a b = b) (f : ℕ → A) (v : IVec S16 32) (w : S16.Idx → A) (j : ℕ) :
    scat op f v w (k0_pay113 lanes) j = if j = (v (ln 0)).toNat then w (ln 0) else f j := by
  split
  · next h =>
    subst h
    exact scat_in op hop f v w _ 0 (by omega) ((mask0 0 (by omega)).mpr rfl) fun i hi hi' hm => absurd ((mask0 i hi').mp hm) (by omega)
  · next h =>
    refine scat_out op f v w _ j fun k hk hm => ?_
    obtain rfl := (mask0 k hk).mp hm
    exact fun e => h e.symm

/-- The slots chosen so far. -/
def Chosen (D : ℕ → ℤ) (r : ℕ) (g : ℕ → BitVec 32) : Prop :=
  (∀ i < r, ∃ x < 304, g i = BitVec.ofNat 32 x ∧ place D 304 x = i) ∧ ∀ i, 300 ≤ i → i < 304 → g i = 0#32

theorem round_step (D : ℕ → ℤ) (hD : ∀ x < 304, -1 ≤ D x) (r : ℕ) (hr : r < 300) (f g : ℕ → BitVec 32) (hf : Struck D (fun y => (f y).toInt) 304 r)
    (hg : Chosen D r g) (iv : BitVec 32) (hiv : iv = BitVec.ofNat 32 r) (b p : IVec S16 32) (h : Bst f 15 b p) :
    (∀ a x, ((![k0_pay86 (F := F) lanes b p (slots f 15) (k0_pay85 lanes) (slots f 16) (slots f 17) (slots f 18)] : Fin 1 → IVec S16 32) a x).toNat < S320.size a) ∧
    (∀ a x, ((![k0_pay87 k0_pay114 iv] : Fin 1 → IVec S16 32) a x).toNat < S304.size a) ∧
    (∃ g', scat (idxOp (F := F) .op false) g (k0_pay87 k0_pay114 iv) (k0_pay86 (F := F) lanes b p (slots f 15) (k0_pay85 lanes) (slots f 16) (slots f 17) (slots f 18)) (k0_pay113 lanes) = g' ∧
      Chosen D (r + 1) g') ∧
    (∃ f', scat (idxOp (F := F) .du false) f (k0_pay86 (F := F) lanes b p (slots f 15) (k0_pay85 lanes) (slots f 16) (slots f 17) (slots f 18)) k0_pay88 (k0_pay113 lanes) = f' ∧
      Struck D (fun y => (f' y).toInt) 304 (r + 1)) := by
  obtain ⟨x, hx, hbest⟩ := pay86_best (F := F) f b p h
  have hp := hf.best hD (by omega) hbest
  have h87 : ∀ y, (k0_pay87 k0_pay114 iv y).toNat = r := fun y => by
    show (0#32 + iv).toNat = r
    rw [BitVec.zero_add, hiv, nat_of _ (by omega)]
  have hx' := hbest.1
  refine ⟨fun a y => ?_, fun a y => ?_, ⟨_, rfl, ⟨fun i hi => ?_, fun i hi hi' => ?_⟩⟩, ⟨_, rfl, hf.next hx' hp fun y hy => ?_⟩⟩
  · obtain rfl := Fin.eq_zero a
    show (k0_pay86 (F := F) lanes b p (slots f 15) (k0_pay85 lanes) (slots f 16) (slots f 17) (slots f 18) y).toNat < 320
    rw [hx, nat_of _ (by omega)]
    omega
  · obtain rfl := Fin.eq_zero a
    show (k0_pay87 k0_pay114 iv y).toNat < 304
    rw [h87]
    omega
  · rw [scat0 (idxOp (F := F) .op false) (fun _ _ => rfl), h87, hx]
    by_cases e : i = r
    · rw [if_pos e]
      exact ⟨x, hx', rfl, e ▸ hp⟩
    · rw [if_neg e]
      exact hg.1 i (by omega)
  · rw [scat0 (idxOp (F := F) .op false) (fun _ _ => rfl), h87, if_neg (by omega)]
    exact hg.2 i hi hi'
  · rw [scat0 (idxOp (F := F) .du false) (fun _ _ => rfl), hx, nat_of _ (by omega)]
    split
    · show (4294967294#32).toInt = -2
      decide
    · rfl

theorem rounds15 (A : Args) {s0 s1 s2 t v54 v55 c57 c58 c59 v76 v15 : BitVec 32} {hw : k0_chk14 v15} (D : ℕ → ℤ) (hDT : ∀ x, D x = (T.du x).toInt)
    (hD : ∀ x < 304, -1 ≤ D x) (h0 : ∀ i, 300 ≤ i → i < 304 → T.op i = 0#32) :
    Do d L T (Scf.Loop.for k0_t15_loop k0_t15_ok 0#32 (A.ap L (k0_t15_body (F := F)) lanes s0 v15 hw s1 s2 t v54 v55 c57 c58 c59 v76))
    fun _ T' => ∃ f g, T' = { T with du := f, op := g } ∧ Chosen D 300 g := by
  refine Do.for (fun n _ T' => ∃ f g, T' = { T with du := f, op := g } ∧ Struck D (fun y => (f y).toInt) 304 n ∧ Chosen D n g)
    ⟨T.du, T.op, rfl, fun x _ => by rw [if_neg (by omega), hDT], fun i hi => absurd hi (by omega), h0⟩ ?_ ?_
  · rintro k _ _ ⟨f, g, rfl, hf, hg⟩
    have hk : k.val < 300 := lt_of_lt_of_eq k.isLt (by decide)
    obtain ⟨k1, k2, ⟨g', eg, hg'⟩, ⟨f', ef, hf'⟩⟩ := round_step (F := F) D hD k.val hk f g hf hg _ (iv_eq k) _ _ (bst10 (F := F) f _ _ (bst9 (F := F) f))
    show Do d L _ ((A.ap L (k0_part11 (F := F)) lanes (k0_pay113 lanes) k0_pay114 0#32 1#32 k) >>= fun c => pure c) _
    refine Do.bind ?_
    rw [k0_part11_eq_skeleton]
    refine Do.bind ?_
    show Do d L _ (A.ap L (k0_part9 (F := F)) lanes 0#32 1#32 k) _
    rw [k0_part9_eq_skeleton]
    iterate 8 refine Do.loads .du ?_
    refine Do.pure ?_
    refine Do.bind ?_
    show Do d L _ (A.ap L (k0_part10 (F := F)) lanes _ _) _
    rw [k0_part10_eq_skeleton]
    iterate 8 refine Do.loads .du ?_
    refine Do.pure ?_
    iterate 3 refine Do.loads .du ?_
    refine Do.asm k1 ?_
    refine Do.asm k2 ?_
    refine Do.scatter_op eg ?_
    refine Do.strike_du ef ?_
    refine Do.pure ?_
    exact Do.pure ⟨f', g', rfl, hf', hg'⟩
  · rintro _ _ ⟨f, g, rfl, -, hg⟩
    exact ⟨f, g, rfl, hg⟩

end Cert.Proof.Tile

end
-- ==== Proof.Blocks.lean ====
/-
  The results' blocks: what one block of sixteen results leaves, and the rules its operations take.
-/
module

public import proofs.«01_k».proof.Proof.Rounds
public import Idealize.ShloMosaic.Lib.Routing.Words

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

open Idealize.SL Idealize.SL.RA Idealize.SL.BI
open scoped Idealize.SL.BI
open Idealize.SL.BI.BIBase Idealize.SL.BI.Laws Idealize.SL.ProofMode
open Idealize.ShloMosaic.SparseCore.Cfg (HIx)
local notation "𝕄" => MT nD τ sig (HIx 1) (Elt F) ℕ UU ℕ

/-! ## A program run up to its tail -/

/-- From scratch contents `T` the program `p` comes to its tail `t` with contents satisfying `E`. -/
def Run (d : Dev nD) (L : grid0.Coords) (T : St F) (p t : Tprog F L α) (E : St F → Prop) : Prop :=
  ∃ T', E T' ∧ ∀ Q : α → sProp 𝕄,
    (own d L T : sProp 𝕄) ⊢ iprop((own d L T' -∗ wp frame (wpE (defs₀ (F := F)) 𝒱₀ (V d (cV L) (jV L)) none) Set.univ t Q)
      -∗ wp frame (wpE (defs₀ (F := F)) 𝒱₀ (V d (cV L) (jV L)) none) Set.univ p Q)

theorem Run.tail {t : Tprog F L α} {E : St F → Prop} (h : E T) : Run d L T t t E :=
  ⟨T, h, fun _ => by iintro H Hk; iapply Hk; iexact H⟩

theorem Run.bind {p : Tprog F L β} {k : β → Tprog F L α} {t : Tprog F L α} {E : St F → Prop}
    (h : Do d L T p fun a T' => Run d L T' (k a) t E) : Run d L T (p >>= k) t E := by
  obtain ⟨a, T', ⟨T'', hE, h2⟩, h1⟩ := h
  refine ⟨T'', hE, fun Q => ?_⟩
  iintro H Hk
  iapply (h1 _ k Q) $$ H
  iintro H
  iapply (h2 Q) $$ H
  iexact Hk

/-! ## The rules a block of sixteen results takes -/

theorem Do.load_op {off : Fin 1 → ℕ} {inb : ∀ a, off a + S16.size a ≤ (⟨1, ![304]⟩ : Shape).size a}
    {hl : (B.mem .op).view.LoadsAt (r16 off inb).toLoadRect} {k : (S16.Idx → BitVec 32) → Tprog F L α} {Φ : α → St F → Prop}
    (h : ∀ v, (∀ x, v x = T.op (off 0 + (x 0).val)) → Do d L T (k v) Φ) :
    Do d L T (Prog.lift (TpuEff.load (B.mem .op) (r16 off inb).toLoadRect hl) >>= k) Φ :=
  Do.loads .op (h _ fun _ => rfl)

theorem Do.get_di {v : IVec S16 32} {inb : ∀ a x, ((![v] : Fin 1 → IVec S16 32) a x).toNat < (⟨1, ![320]⟩ : Shape).size a}
    {hl : (B.mem .di).view.Loads} {k : (S16.Idx → BitVec 32) → Tprog F L α} {Φ : α → St F → Prop}
    (h : ∀ u, (∀ x, u x = T.di (v x).toNat) → Do d L T (k u) Φ) :
    Do d L T (SparseCore.vectorLoadIdx (B.mem .di) ![v] inb hl >>= k) Φ :=
  Do.gather .di (h _ fun _ => rfl)

theorem Do.get_pv {v : IVec S16 32} {inb : ∀ a x, ((![v] : Fin 1 → IVec S16 32) a x).toNat < (⟨1, ![81920]⟩ : Shape).size a}
    {hl : (B.mem .pv).view.Loads} {k : (S16.Idx → BitVec 32) → Tprog F L α} {Φ : α → St F → Prop}
    (h : ∀ u, (∀ x, u x = T.pv (v x).toNat) → Do d L T (k u) Φ) :
    Do d L T (SparseCore.vectorLoadIdx (B.mem .pv) ![v] inb hl >>= k) Φ :=
  Do.gather .pv (h _ fun _ => rfl)

theorem Do.get_bx {v : IVec S16 32} {inb : ∀ a x, ((![v] : Fin 1 → IVec S16 32) a x).toNat < (⟨1, ![3600]⟩ : Shape).size a}
    {hl : (B.mem .bx).view.Loads} {k : (S16.Idx → F .f32) → Tprog F L α} {Φ : α → St F → Prop}
    (h : ∀ u, (∀ x, u x = T.bx (v x).toNat) → Do d L T (k u) Φ) :
    Do d L T (SparseCore.vectorLoadIdx (B.mem .bx) ![v] inb hl >>= k) Φ :=
  Do.gather .bx (h _ fun _ => rfl)

theorem Do.get_sc {off : Fin 1 → ℕ} {inb : ∀ a, off a + S16.size a ≤ (⟨1, ![32]⟩ : Shape).size a}
    {hl : (B.mem .sc).view.LoadsAt (r16 off inb).toLoadRect} {k : (S16.Idx → F .f32) → Tprog F L α} {Φ : α → St F → Prop}
    (h : ∀ v, (∀ x, v x = T.sc (off 0 + (x 0).val)) → Do d L T (k v) Φ) :
    Do d L T (Prog.lift (TpuEff.load (B.mem .sc) (r16 off inb).toLoadRect hl) >>= k) Φ :=
  Do.loads .sc (h _ fun _ => rfl)

variable {s l : ℕ → BitVec 32} {b : ℕ → F .f32}

theorem Do.put_so {off : Fin 1 → ℕ} {inb : ∀ a, off a + S16.size a ≤ (⟨1, ![304]⟩ : Shape).size a}
    {w : S16.Idx → BitVec 32} {hx : ((B.mem .so).access (r16 off inb)).Stores Finset.univ}
    {hm : (Finset.univ : Finset (r16 off inb).shape.Idx) = Finset.univ ∨ ∀ a, (r16 off inb).stride a = 1}
    {k : PUnit → Tprog F L α} {Φ : α → St F → Prop}
    (h : Do d L { T with so := upd s (off 0) w, lo := l, bo := b } (k ⟨⟩) Φ) :
    Do d L { T with so := s, lo := l, bo := b } (Prog.lift (TpuEff.store (B.mem .so) (r16 off inb) w Finset.univ hx hm) >>= k) Φ :=
  Do.stores .so h

theorem Do.put_lo {off : Fin 1 → ℕ} {inb : ∀ a, off a + S16.size a ≤ (⟨1, ![304]⟩ : Shape).size a}
    {w : S16.Idx → BitVec 32} {hx : ((B.mem .lo).access (r16 off inb)).Stores Finset.univ}
    {hm : (Finset.univ : Finset (r16 off inb).shape.Idx) = Finset.univ ∨ ∀ a, (r16 off inb).stride a = 1}
    {k : PUnit → Tprog F L α} {Φ : α → St F → Prop}
    (h : Do d L { T with so := s, lo := upd l (off 0) w, bo := b } (k ⟨⟩) Φ) :
    Do d L { T with so := s, lo := l, bo := b } (Prog.lift (TpuEff.store (B.mem .lo) (r16 off inb) w Finset.univ hx hm) >>= k) Φ :=
  Do.stores .lo h

theorem Do.put_bo {off : Fin 1 → ℕ} {inb : ∀ a, off a + S16.size a ≤ (⟨1, ![1216]⟩ : Shape).size a}
    {w : S16.Idx → F .f32} {hx : ((B.mem .bo).access (r16 off inb)).Stores Finset.univ}
    {hm : (Finset.univ : Finset (r16 off inb).shape.Idx) = Finset.univ ∨ ∀ a, (r16 off inb).stride a = 1}
    {k : PUnit → Tprog F L α} {Φ : α → St F → Prop}
    (h : Do d L { T with so := s, lo := l, bo := upd b (off 0) w } (k ⟨⟩) Φ) :
    Do d L { T with so := s, lo := l, bo := b } (Prog.lift (TpuEff.store (B.mem .bo) (r16 off inb) w Finset.univ hx hm) >>= k) Φ :=
  Do.stores .bo h

/-! ## What a block leaves -/

theorem remsi91 (a : ℕ) (h : a < 2 ^ 31) : IntOp.remsi .vector (BitVec.ofNat 32 a) 91#32 = BitVec.ofNat 32 (a % 91) :=
  Idealize.ShloMosaic.Routing.remsi_word .vector h (b := 91) (by decide) (by decide)
theorem divsi91 (a : ℕ) (h : a < 2 ^ 31) : IntOp.divsi .vector (BitVec.ofNat 32 a) 91#32 = BitVec.ofNat 32 (a / 91) :=
  Idealize.ShloMosaic.Routing.divsi_word .vector h (b := 91) (by decide) (by decide)

theorem bit_cases (b : BitVec 1) : b = 0 ∨ b = 1 := by
  revert b; decide

theorem q91 (u : Vec F S16 .i32) (x : S16.Idx) (h : (u x).toNat < 81900) : k0_pay130 (F := F) u x = BitVec.ofNat 32 ((u x).toNat / 91) := by
  have e : u x = BitVec.ofNat 32 (u x).toNat := by rw [BitVec.ofNat_toNat, BitVec.setWidth_eq]
  generalize (u x).toNat = a at e h
  have hs : k0_pay130 (F := F) u x = Scalar.select (IntOp.andi (IntOp.cmpi .ne (IntOp.subi ((IntOp.cmpi .sgt (u x) 0#32).setWidth 32) ((IntOp.cmpi .slt (u x) 0#32).setWidth 32)) 1#32)
      (IntOp.cmpi .ne (IntOp.remsi .vector (u x) 91#32) 0#32)) (IntOp.subi (IntOp.divsi .vector (u x) 91#32) 1#32) (IntOp.divsi .vector (u x) 91#32) := rfl
  rw [hs, e, remsi91 a (by omega), divsi91 a (by omega)]
  by_cases h0 : a = 0
  · subst h0; decide
  · have h1 : IntOp.cmpi .sgt (BitVec.ofNat 32 a) 0#32 = 1 := (cmp_sgt _ _).mpr (by rw [int_of a (by omega)]; show (0 : ℤ) < _; omega)
    have h2 : IntOp.cmpi .slt (BitVec.ofNat 32 a) 0#32 = 0 := by
      rcases bit_cases (IntOp.cmpi .slt (BitVec.ofNat 32 a) 0#32) with h2 | h2
      · exact h2
      · have h3 := (cmp_slt _ _).mp h2
        rw [int_of a (by omega)] at h3
        replace h3 : (a : ℤ) < 0 := h3
        omega
    rw [h1, h2, show IntOp.cmpi .ne (IntOp.subi ((1 : BitVec 1).setWidth 32) ((0 : BitVec 1).setWidth 32)) 1#32 = 0#1 by decide]
    show Scalar.select (0#1 &&& _) _ _ = _
    rw [BitVec.zero_and]
    rfl

/-- Corner coordinate `c` of a box given by its centre and its sizes, scaled to the image. -/
def corner (c : ℕ) (W H : F .f32) (B : ℕ → F .f32) : F .f32 :=
  match c with
  | 0 => FloatOps.mulf (FloatOps.subf (B 0) (FloatOps.mulf (Scalar.ofBits .f32 0x3F000000#32) (B 2))) W
  | 1 => FloatOps.mulf (FloatOps.subf (B 1) (FloatOps.mulf (Scalar.ofBits .f32 0x3F000000#32) (B 3))) H
  | 2 => FloatOps.mulf (FloatOps.addf (B 0) (FloatOps.mulf (Scalar.ofBits .f32 0x3F000000#32) (B 2))) W
  | _ => FloatOps.mulf (FloatOps.addf (B 1) (FloatOps.mulf (Scalar.ofBits .f32 0x3F000000#32) (B 3))) H

/-- The results of the first `n` slots. -/
structure Blk (T : St F) (n : ℕ) (s l : ℕ → BitVec 32) (b : ℕ → F .f32) : Prop where
  score : ∀ x < n, s x = T.pv (T.di (T.op x).toNat).toNat
  label : ∀ x < n, l x = BitVec.ofNat 32 ((T.di (T.op x).toNat).toNat % 91)
  box : ∀ x < n, ∀ c < 4, b (304 * c + x) = corner c (T.sc (x % 16)) (T.sc (16 + x % 16)) fun j => T.bx (4 * ((T.di (T.op x).toNat).toNat / 91) + j)

/-- The slots' candidates exist and are true positions. -/
def Good (T : St F) : Prop := ∀ x < 304, (T.op x).toNat < 320 ∧ (T.di (T.op x).toNat).toNat < 81900

theorem label_at (u : Vec F S16 .i32) (x : S16.Idx) (h : (u x).toNat < 81900) : k0_pay131 (F := F) u x = BitVec.ofNat 32 ((u x).toNat % 91) := by
  show u x - k0_pay130 (F := F) u x * 91#32 = _
  rw [q91 u x h]
  apply BitVec.eq_of_toNat_eq
  rw [BitVec.toNat_sub, BitVec.toNat_mul, nat_of _ (by omega), nat_of ((u x).toNat % 91) (by omega)]
  show (2 ^ 32 - _ * 91 % 2 ^ 32 + _) % 2 ^ 32 = _
  have := (u x).isLt
  omega

theorem base_at (u : Vec F S16 .i32) (x : S16.Idx) (h : (u x).toNat < 81900) : (k0_pay132 (F := F) u x).toNat = 4 * ((u x).toNat / 91) := by
  show (k0_pay130 (F := F) u x * 4#32).toNat = _
  rw [q91 u x h, BitVec.toNat_mul, nat_of _ (by omega)]
  show _ * 4 % 2 ^ 32 = _
  omega

theorem base_add (u : Vec F S16 .i32) (x : S16.Idx) (h : (u x).toNat < 81900) (c : ℕ) (hc : c < 4) :
    (k0_pay132 (F := F) u x + BitVec.ofNat 32 c).toNat = 4 * ((u x).toNat / 91) + c := by
  rw [BitVec.toNat_add, base_at u x h, nat_of _ (by omega)]
  omega

theorem get_upd_in {A : Type} (f : ℕ → A) (o n : ℕ) (v : S16.Idx → A) (h : o ≤ n ∧ n < o + 16) : upd f o v n = v (lane (n - o) (by omega)) := dif_pos h
theorem get_upd_out {A : Type} (f : ℕ → A) (o n : ℕ) (v : S16.Idx → A) (h : ¬ (o ≤ n ∧ n < o + 16)) : upd f o v n = f n := dif_neg h

section Next
variable {n : ℕ} {v u : IVec S16 32} {off : Fin 1 → ℕ}

theorem idx_op (hG : Good T) (hv : ∀ x, v x = T.op (off 0 + (x 0).val)) (ho : off 0 + 16 ≤ 304) :
    ∀ a x, ((![v] : Fin 1 → IVec S16 32) a x).toNat < S320.size a :=
  chk_of _ fun x => by rw [hv]; have := lt16 x; exact (hG _ (by omega)).1

theorem small (hG : Good T) (hv : ∀ x, v x = T.op (off 0 + (x 0).val)) (hu : ∀ x, u x = T.di (v x).toNat) (ho : off 0 + 16 ≤ 304) (x : S16.Idx) :
    (u x).toNat < 81900 := by
  rw [hu, hv]; have := lt16 x; exact (hG _ (by omega)).2

theorem idx_pv (hu : ∀ x, (u x).toNat < 81900) : ∀ a x, ((![u] : Fin 1 → IVec S16 32) a x).toNat < S81920.size a :=
  chk_of _ fun x => (hu x).trans (by decide)

theorem idx_b0 (hu : ∀ x, (u x).toNat < 81900) : ∀ a x, ((![k0_pay132 (F := F) u] : Fin 1 → IVec S16 32) a x).toNat < S3600.size a :=
  chk_of _ fun x => by rw [base_at u x (hu x)]; have := hu x; omega
theorem idx_b1 (hu : ∀ x, (u x).toNat < 81900) : ∀ a x, ((![k0_pay133 (k0_pay132 (F := F) u)] : Fin 1 → IVec S16 32) a x).toNat < S3600.size a :=
  chk_of _ fun x => by rw [show k0_pay133 (k0_pay132 (F := F) u) x = k0_pay132 (F := F) u x + BitVec.ofNat 32 1 from rfl, base_add u x (hu x) 1 (by decide)]; have := hu x; omega
theorem idx_b2 (hu : ∀ x, (u x).toNat < 81900) : ∀ a x, ((![k0_pay134 (k0_pay132 (F := F) u)] : Fin 1 → IVec S16 32) a x).toNat < S3600.size a :=
  chk_of _ fun x => by rw [show k0_pay134 (k0_pay132 (F := F) u) x = k0_pay132 (F := F) u x + BitVec.ofNat 32 2 from rfl, base_add u x (hu x) 2 (by decide)]; have := hu x; omega
theorem idx_b3 (hu : ∀ x, (u x).toNat < 81900) : ∀ a x, ((![k0_pay135 (k0_pay132 (F := F) u) 3#32] : Fin 1 → IVec S16 32) a x).toNat < S3600.size a :=
  chk_of _ fun x => by rw [show k0_pay135 (k0_pay132 (F := F) u) 3#32 x = k0_pay132 (F := F) u x + BitVec.ofNat 32 3 from rfl, base_add u x (hu x) 3 (by decide)]; have := hu x; omega

/-- One block more. -/
theorem blk_next {z : IVec S16 32} {b0 b1 b2 b3 W H : S16.Idx → F .f32} {o0 o1 o2 o3 o4 o5 : ℕ} (hG : Good T)
    (hW : ∀ x, W x = T.sc ((x 0).val)) (hH : ∀ x, H x = T.sc (16 + (x 0).val))
    (hB : Blk T n s l b) (hv : ∀ x, v x = T.op (off 0 + (x 0).val)) (hu : ∀ x, u x = T.di (v x).toNat) (hz : ∀ x, z x = T.pv (u x).toNat)
    (h0 : ∀ x, b0 x = T.bx (k0_pay132 (F := F) u x).toNat) (h1 : ∀ x, b1 x = T.bx (k0_pay133 (k0_pay132 (F := F) u) x).toNat)
    (h2 : ∀ x, b2 x = T.bx (k0_pay134 (k0_pay132 (F := F) u) x).toNat) (h3 : ∀ x, b3 x = T.bx (k0_pay135 (k0_pay132 (F := F) u) 3#32 x).toNat)
    (hn : n % 16 = 0) (hn' : n + 16 ≤ 304) (e : off 0 = n) (e0 : o0 = n) (e1 : o1 = n) (e2 : o2 = n) (e3 : o3 = 304 + n) (e4 : o4 = 608 + n) (e5 : o5 = 912 + n) :
    Blk T (n + 16) (upd s o0 z) (upd l o1 (k0_pay131 (F := F) u))
      (upd (upd (upd (upd b o2 (k0_pay138 (F := F) W b0 b2)) o3 (k0_pay139 (F := F) H b1 b3)) o4 (k0_pay140 (F := F) W b0 b2)) o5 (k0_pay141 (F := F) H b1 b3)) := by
  have hs := small hG hv hu (by omega)
  subst e0 e1 e2 e3 e4 e5
  refine ⟨fun x hx => ?_, fun x hx => ?_, fun x hx c hc => ?_⟩
  · by_cases hi : o2 ≤ x ∧ x < o2 + 16
    · rw [get_upd_in _ _ _ _ hi, hz, hu, hv, show off 0 + ((lane (x - o2) (by omega) : S16.Idx) 0).val = x by rw [e]; show o2 + (x - o2) = x; omega]
    · rw [get_upd_out _ _ _ _ hi]; exact hB.score x (by omega)
  · by_cases hi : o2 ≤ x ∧ x < o2 + 16
    · rw [get_upd_in _ _ _ _ hi, label_at u _ (hs _), hu, hv, show off 0 + ((lane (x - o2) (by omega) : S16.Idx) 0).val = x by rw [e]; show o2 + (x - o2) = x; omega]
    · rw [get_upd_out _ _ _ _ hi]; exact hB.label x (by omega)
  · by_cases hi : o2 ≤ x ∧ x < o2 + 16
    · have hl : (((lane (x - o2) (by omega) : S16.Idx) 0).val) = x % 16 := by show x - o2 = x % 16; omega
      have hux : u (lane (x - o2) (by omega)) = T.di (T.op x).toNat := by
        rw [hu, hv, show off 0 + ((lane (x - o2) (by omega) : S16.Idx) 0).val = x by rw [e]; show o2 + (x - o2) = x; omega]
      have g0 : b0 (lane (x - o2) (by omega)) = T.bx (4 * ((T.di (T.op x).toNat).toNat / 91) + 0) := by rw [h0, base_at u _ (hs _), hux]; rfl
      have g1 : b1 (lane (x - o2) (by omega)) = T.bx (4 * ((T.di (T.op x).toNat).toNat / 91) + 1) := by
        rw [h1, show k0_pay133 (k0_pay132 (F := F) u) (lane (x - o2) (by omega)) = k0_pay132 (F := F) u (lane (x - o2) (by omega)) + BitVec.ofNat 32 1 from rfl, base_add u _ (hs _) 1 (by decide), hux]
      have g2 : b2 (lane (x - o2) (by omega)) = T.bx (4 * ((T.di (T.op x).toNat).toNat / 91) + 2) := by
        rw [h2, show k0_pay134 (k0_pay132 (F := F) u) (lane (x - o2) (by omega)) = k0_pay132 (F := F) u (lane (x - o2) (by omega)) + BitVec.ofNat 32 2 from rfl, base_add u _ (hs _) 2 (by decide), hux]
      have g3 : b3 (lane (x - o2) (by omega)) = T.bx (4 * ((T.di (T.op x).toNat).toNat / 91) + 3) := by
        rw [h3, show k0_pay135 (k0_pay132 (F := F) u) 3#32 (lane (x - o2) (by omega)) = k0_pay132 (F := F) u (lane (x - o2) (by omega)) + BitVec.ofNat 32 3 from rfl, base_add u _ (hs _) 3 (by decide), hux]
      have gW : W (lane (x - o2) (by omega)) = T.sc (x % 16) := by rw [hW, hl]
      have gH : H (lane (x - o2) (by omega)) = T.sc (16 + x % 16) := by rw [hH, hl]
      have hc' : c = 0 ∨ c = 1 ∨ c = 2 ∨ c = 3 := by omega
      rcases hc' with rfl | rfl | rfl | rfl
      · rw [get_upd_out _ _ _ _ (by omega), get_upd_out _ _ _ _ (by omega), get_upd_out _ _ _ _ (by omega), get_upd_in _ _ _ _ (by omega)]
        rw [← gW, ← gH]
        simp only [corner]
        rw [← g0, ← g2]
        have el : (lane (304 * 0 + x - o2) (by omega) : S16.Idx) = lane (x - o2) (by omega) := by congr 1; omega
        rw [el]; rfl
      · rw [get_upd_out _ _ _ _ (by omega), get_upd_out _ _ _ _ (by omega), get_upd_in _ _ _ _ (by omega)]
        rw [← gW, ← gH]
        simp only [corner]
        rw [← g1, ← g3]
        have el : (lane (304 * 1 + x - (304 + o2)) (by omega) : S16.Idx) = lane (x - o2) (by omega) := by congr 1; omega
        rw [el]; rfl
      · rw [get_upd_out _ _ _ _ (by omega), get_upd_in _ _ _ _ (by omega)]
        rw [← gW, ← gH]
        simp only [corner]
        rw [← g0, ← g2]
        have el : (lane (304 * 2 + x - (608 + o2)) (by omega) : S16.Idx) = lane (x - o2) (by omega) := by congr 1; omega
        rw [el]; rfl
      · rw [get_upd_in _ _ _ _ (by omega)]
        rw [← gW, ← gH]
        simp only [corner]
        rw [← g1, ← g3]
        have el : (lane (304 * 3 + x - (912 + o2)) (by omega) : S16.Idx) = lane (x - o2) (by omega) := by congr 1; omega
        rw [el]; rfl
    · rw [get_upd_out _ _ _ _ (by omega), get_upd_out _ _ _ _ (by omega), get_upd_out _ _ _ _ (by omega), get_upd_out _ _ _ _ (by omega)]
      exact hB.box x (by omega) c hc

theorem Do.gen {p : Tprog F L α} {Φ : α → St F → Prop} (h : Blk T n s l b) (H : ∀ s l b, Blk T n s l b → Do d L { T with so := s, lo := l, bo := b } p Φ) :
    Do d L { T with so := s, lo := l, bo := b } p Φ := H _ _ _ h
end Next

end Cert.Proof.Tile

end
-- ==== Proof.Stages.lean ====
/-
  The threshold, digit by digit: what the histograms' scans find, and the first of the stages.
-/
module

public import proofs.«01_k».proof.Proof.Blocks

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

open Scalar (shli ori)

/-! ## Words put together from digits -/

theorem shl_nat (a k : ℕ) (hk : k < 32) (ha : a * 2 ^ k < 2 ^ 32) (h32 : a < 2 ^ 32) : (Scalar.shli (BitVec.ofNat 32 a) (BitVec.ofNat 32 k)).toNat = a * 2 ^ k := by
  show (if (BitVec.ofNat 32 k).toNat < 32 then (BitVec.ofNat 32 a) <<< (BitVec.ofNat 32 k) else _ : BitVec 32).toNat = _
  rw [nat_of k (by omega), if_pos hk]
  rw [BitVec.shiftLeft_eq', BitVec.toNat_shiftLeft, nat_of k (by omega), nat_of a h32, Nat.shiftLeft_eq]
  exact Nat.mod_eq_of_lt ha

theorem digit_word (a k b : ℕ) (hk : k < 32) (hb : b < 2 ^ k) (ha : a * 2 ^ k + b < 2 ^ 32) (h32 : a < 2 ^ 32) :
    Scalar.ori (Scalar.shli (BitVec.ofNat 32 a) (BitVec.ofNat 32 k)) (BitVec.ofNat 32 b) = BitVec.ofNat 32 (a * 2 ^ k + b) := by
  apply BitVec.eq_of_toNat_eq
  show (Scalar.shli (BitVec.ofNat 32 a) (BitVec.ofNat 32 k) ||| BitVec.ofNat 32 b).toNat = _
  rw [BitVec.toNat_or, shl_nat a k hk (by omega) h32, nat_of b (by omega), nat_of _ ha, ← Nat.shiftLeft_eq, Nat.shiftLeft_add_eq_or_of_lt hb]

/-! ## What the selection asks of an image's words -/

/-- The words are those of numbers from zero to one, the pads' are zero, and at most 4096 of them have top bits at or above the
    300th greatest word's. -/
structure Words (p : ℕ → BitVec 32) : Prop where
  range : ∀ i < 81920, (p i).toNat < 2 ^ 30
  pad : ∀ i, 81900 ≤ i → i < 81920 → (p i).toNat = 0
  few : ∀ b, Nat.count (fun i => b + 1 ≤ (p i).toNat / 2 ^ 17) 81920 < 300 → 300 ≤ Nat.count (fun i => b ≤ (p i).toNat / 2 ^ 17) 81920 →
    Nat.count (fun i => b ≤ (p i).toNat / 2 ^ 17) 81920 ≤ 4096

/-- The first digit of the threshold, and the candidates it leaves. -/
structure StA (p : ℕ → BitVec 32) (b s c : ℕ) (f g : ℕ → BitVec 32) : Prop where
  hb : b < 8192
  pos : 1 ≤ b
  hs : s = Nat.count (fun i => b + 1 ≤ (p i).toNat / 2 ^ 17) 81920
  lt : s < 300
  ge : 300 ≤ Nat.count (fun i => b ≤ (p i).toNat / 2 ^ 17) 81920
  hc : c = Nat.count (fun i => b * 2 ^ 17 ≤ (p i).toNat) 81920
  c4 : c ≤ 4096
  list : Lists p (b * 2 ^ 17) f
  idx : ∀ i < 81920, b * 2 ^ 17 ≤ (p i).toNat → g (Nat.count (fun i => b * 2 ^ 17 ≤ (p i).toNat) i) = BitVec.ofNat 32 i

theorem above_congr (c c' : ℕ → ℕ) (N x : ℕ) (h : ∀ y < N, c y = c' y) : above c N x = above c' N x :=
  Finset.sum_congr rfl fun y hy => h y (Finset.mem_Ico.mp hy).2

/-- The second histogram's bins above `x`. -/
theorem StA.bins2 {p b s c f g} (h : StA p b s c f g) (hp : Words p) (x : ℕ) (hx : x ≤ 512) :
    above (fun y => Nat.count (fun j => Q6 (BitVec.ofNat 32 b) y (f j)) (16 * nv c)) 512 x + s = Nat.count (fun i => b * 512 + x ≤ (p i).toNat / 2 ^ 8) 81920 := by
  rw [← above_next (fun i => (p i).toNat / 2 ^ 8) 81920 b 512 x (by decide) hx, h.hs]
  refine congrArg₂ HAdd.hAdd ?_ ?_
  · refine above_congr _ _ _ _ fun y hy => ?_
    have hb := h.hb
    have := h.list.count (Q6 (BitVec.ofNat 32 b) y) (Q6_pad b y (by omega)) (fun i => (p i).toNat / 2 ^ 8 / 512 = b ∧ (p i).toNat / 2 ^ 8 % 512 = y) fun i hi => by
      have := Q6_iff b y (by omega) (p i) (hp.range i hi)
      rw [this]
      omega
    rw [← h.hc] at this
    exact this
  · exact count_congr _ _ _ fun i _ => by omega

/-- The third histogram's. -/
theorem StA.bins3 {p b s c f g} (h : StA p b s c f g) (hp : Words p) (b1 s1 : ℕ) (hb1 : b1 < 512)
    (hs1 : s1 + s = Nat.count (fun i => b * 512 + (b1 + 1) ≤ (p i).toNat / 2 ^ 8) 81920) (x : ℕ) (hx : x ≤ 256) :
    above (fun y => Nat.count (fun j => Q10 (BitVec.ofNat 32 (b * 2 ^ 9 + b1)) y (f j)) (16 * nv c)) 256 x + (s1 + s) = Nat.count (fun i => (b * 512 + b1) * 256 + x ≤ (p i).toNat) 81920 := by
  have hb := h.hb
  rw [← above_next (fun i => (p i).toNat) 81920 (b * 512 + b1) 256 x (by decide) hx, hs1]
  refine congrArg₂ HAdd.hAdd ?_ ?_
  · refine above_congr _ _ _ _ fun y hy => ?_
    have := h.list.count (Q10 (BitVec.ofNat 32 (b * 2 ^ 9 + b1)) y) (Q10_pad _ y (by omega)) (fun i => (p i).toNat / 256 = b * 512 + b1 ∧ (p i).toNat % 256 = y) fun i hi => by
      have := Q10_iff (b * 2 ^ 9 + b1) y (by omega) (p i) (hp.range i hi)
      rw [this]
      omega
    rw [← h.hc] at this
    exact this
  · exact count_congr _ _ _ fun i _ => by omega

theorem count_le (q : ℕ → Prop) [DecidablePred q] (n : ℕ) : Nat.count q n ≤ n := Nat.count_le _

/-- The whole threshold. -/
structure StB (p : ℕ → BitVec 32) (s t cg : ℕ) : Prop where
  lt31 : t < 2 ^ 30
  hcg : cg = Nat.count (fun i => t < (p i).toNat) 81920
  few : cg < 300
  many : 300 ≤ Nat.count (fun i => t ≤ (p i).toNat) 81920

theorem first (p : ℕ → BitVec 32) (hp : Words p) (σ : BitVec 32 × BitVec 1 × BitVec 32 × BitVec 32)
    (h : ScanInv (fun b => Nat.count (fun i => (p i).toNat / 2 ^ 17 = b) 81920) 8192 300 0 σ) :
    ∃ b s, σ.2.2.1 = BitVec.ofNat 32 b ∧ σ.2.2.2 = BitVec.ofNat 32 s ∧ b < 8192 ∧ 1 ≤ b ∧ s = Nat.count (fun i => b + 1 ≤ (p i).toNat / 2 ^ 17) 81920 ∧
      s < 300 ∧ 300 ≤ Nat.count (fun i => b ≤ (p i).toNat / 2 ^ 17) 81920 ∧ Nat.count (fun i => b * 2 ^ 17 ≤ (p i).toNat) 81920 ≤ 4096 := by
  have e := fun x => above_top (fun i => (p i).toNat) 81920 x hp.range
  have e0 : Nat.count (fun i => 0 ≤ (p i).toNat / 2 ^ 17) 81920 = 81920 := by
    rw [Nat.count_eq_card_filter_range]; simp
  obtain ⟨b, hb, h1, h2, h3, h4⟩ := scan_done _ 8192 300 σ h (by rw [e, e0]; decide)
  rw [e] at h2 h3 h4
  have hf := hp.few b h3 h4
  refine ⟨b, _, h1, h2, hb, ?_, rfl, h3, h4, ?_⟩
  · by_contra hc
    obtain rfl : b = 0 := by omega
    rw [e0] at hf
    omega
  · rw [count_congr (fun i => b * 2 ^ 17 ≤ (p i).toNat) (fun i => b ≤ (p i).toNat / 2 ^ 17) 81920 fun i _ => by omega]
    exact hf

theorem Do.put_cu {off : Fin 1 → ℕ} {inb : ∀ a, off a + S16.size a ≤ (⟨1, ![4128]⟩ : Shape).size a}
    {w : S16.Idx → BitVec 32} {hx : ((B.mem .cu).access (r16 off inb)).Stores Finset.univ}
    {hm : (Finset.univ : Finset (r16 off inb).shape.Idx) = Finset.univ ∨ ∀ a, (r16 off inb).stride a = 1}
    {k : PUnit → Tprog F L α} {Φ : α → St F → Prop}
    (h : ∀ f, f = upd T.cu (off 0) w → Do d L { T with cu := f } (k ⟨⟩) Φ) :
    Do d L T (Prog.lift (TpuEff.store (B.mem .cu) (r16 off inb) w Finset.univ hx hm) >>= k) Φ :=
  Do.stores .cu (h _ rfl)

theorem part13 (A : Args) (hp : Words T.pv) (h0 : ∀ b < 8192, T.hist b = 0#32) :
    Do d L T (A.ap L (k0_part13 (F := F)) lanes k0_pay89 0#32) fun a T' => ∃ b s c, ∃ v20 v29 v30 : BitVec 32, ∃ hw : k0_chk14 (BitVec.ofNat 32 c), ∃ h f g,
      a = ⟨BitVec.ofNat 32 b, BitVec.ofNat 32 s, k0_pay96, BitVec.ofNat 32 c, hw, v20, Scalar.subi 300#32 (BitVec.ofNat 32 s), v29, v30, 1#32⟩ ∧
      T' = { T with hist := h, cu := f, ci := g } ∧ StA T.pv b s c f g ∧
      ∀ y < 512, h y = BitVec.ofNat 32 (Nat.count (fun j => Q6 (BitVec.ofNat 32 b) y (f j)) (16 * nv c)) := by
  rw [k0_part13_eq_skeleton]
  refine Do.bind ((hist2 (F := F) A hp.range h0).mono ?_)
  rintro _ _ ⟨h, rfl, hh⟩
  refine Do.bind ((scan3 (F := F) A _ hh ?_).mono ?_)
  · have := above_top (fun i => (T.pv i).toNat) 81920 0 hp.range
    rw [this]
    exact (count_le _ _).trans_lt (by decide)
  rintro ⟨σ0, σ1, σ2, σ3⟩ _ ⟨rfl, hσ⟩
  obtain ⟨b, s, h1, h2, hb, hb1, hs, hs3, hge, hc⟩ := first T.pv hp _ hσ
  obtain rfl : σ2 = _ := h1
  obtain rfl : σ3 = _ := h2
  have ht : (Scalar.shli (BitVec.ofNat 32 b) 17#32).toNat = b * 2 ^ 17 := shl_nat b 17 (by decide) (by omega) (by omega)
  have h4 := coarse4 (F := F) (d := d) (L := L) (T := { T with hist := h }) A (v3 := k0_pay89) (c0 := 0#32) _ hp.range (ht.trans_lt (by omega)) (by rw [ht]; exact hc)
  simp only [ht] at h4
  refine Do.bind (h4.mono ?_)
  rintro a _ ⟨rfl, f, g, rfl, hf, hg⟩
  generalize ec : Nat.count (fun i => b * 2 ^ 17 ≤ (T.pv i).toNat) 81920 = c at hc
  have hw := chk14 c hc
  refine Do.asm hw ?_
  refine Do.loads .cu ?_
  refine Do.put_cu fun f' ef => ?_
  refine Do.bind ((zero5 (F := F) A).mono ?_)
  rintro _ _ ⟨h', rfl, hh'⟩
  refine Do.bind ((hist6 (F := F) A (v2 := lanes) (c0 := 0#32) (b := BitVec.ofNat 32 b) c hc (hw := hw) hh').mono ?_)
  rintro v30 _ ⟨r, rfl, hr⟩
  refine Do.pure ⟨b, s, c, _, _, _, hw, r, f', g, rfl, rfl, ⟨hb, hb1, hs, hs3, hge, ec.symm, hc, ⟨fun i hi hi' => ?_, fun j hj hj' => ?_⟩, hg⟩, hr⟩
  · rw [ef, upd_off _ _ _ _ ?_]
    · exact hf i hi hi'
    · rw [off13_eq c hc, ← ec]
      exact Or.inl (count_lt (p := fun i => b * 2 ^ 17 ≤ (T.pv i).toNat) hi hi')
  · rw [ec] at hj hj'
    have := nv_ge c
    rw [ef, off13_eq c hc]
    obtain ⟨k, rfl⟩ : ∃ k, j = c + k := ⟨j - c, by omega⟩
    rw [upd_at _ _ _ _ (by omega)]
    rfl

theorem room14 {p b s c f g} (h : StA p b s c f g) (hp : Words p) (hist : ℕ → BitVec 32)
    (hh : ∀ y < 512, hist y = BitVec.ofNat 32 (Nat.count (fun j => Q6 (BitVec.ofNat 32 b) y (f j)) (16 * nv c)))
    (σ : BitVec 32 × BitVec 1 × BitVec 32 × BitVec 32)
    (hσ : ScanInv (fun y => Nat.count (fun j => Q6 (BitVec.ofNat 32 b) y (f j)) (16 * nv c)) 512 (300 - s) 0 σ) :
    ∃ b1 s1, σ.2.2.1 = BitVec.ofNat 32 b1 ∧ σ.2.2.2 = BitVec.ofNat 32 s1 ∧ b1 < 512 ∧
      s1 + s = Nat.count (fun i => b * 512 + (b1 + 1) ≤ (p i).toNat / 2 ^ 8) 81920 ∧ s1 + s < 300 ∧ 300 ≤ Nat.count (fun i => b * 512 + b1 ≤ (p i).toNat / 2 ^ 8) 81920 := by
  have hs := h.lt
  have e0 := h.bins2 hp 0 (by omega)
  rw [count_congr (fun i => b * 512 + 0 ≤ (p i).toNat / 2 ^ 8) (fun i => b ≤ (p i).toNat / 2 ^ 17) 81920 fun i _ => by omega] at e0
  have hge := h.ge
  obtain ⟨b1, h1, h2, h3, h4, h5⟩ := scan_done _ 512 (300 - s) σ hσ (by omega)
  have e1 := h.bins2 hp (b1 + 1) h1
  have e2 := h.bins2 hp b1 (by omega)
  exact ⟨b1, _, h2, h3, h1, e1, by omega, by omega⟩

theorem room15 {p b s c f g} (h : StA p b s c f g) (hp : Words p) (b1 s1 : ℕ) (hb1 : b1 < 512)
    (hs1 : s1 + s = Nat.count (fun i => b * 512 + (b1 + 1) ≤ (p i).toNat / 2 ^ 8) 81920) (hlt : s1 + s < 300) (hge : 300 ≤ Nat.count (fun i => b * 512 + b1 ≤ (p i).toNat / 2 ^ 8) 81920)
    (σ : BitVec 32 × BitVec 1 × BitVec 32 × BitVec 32)
    (hσ : ScanInv (fun y => Nat.count (fun j => Q10 (BitVec.ofNat 32 (b * 2 ^ 9 + b1)) y (f j)) (16 * nv c)) 256 (300 - s - s1) 0 σ) :
    ∃ b2 s2, σ.2.2.1 = BitVec.ofNat 32 b2 ∧ σ.2.2.2 = BitVec.ofNat 32 s2 ∧ b2 < 256 ∧ StB p s ((b * 512 + b1) * 256 + b2) (s + s1 + s2) := by
  have hb := h.hb
  have e0 := h.bins3 hp b1 s1 hb1 hs1 0 (by omega)
  rw [count_congr (fun i => (b * 512 + b1) * 256 + 0 ≤ (p i).toNat) (fun i => b * 512 + b1 ≤ (p i).toNat / 2 ^ 8) 81920 fun i _ => by omega] at e0
  obtain ⟨b2, h1, h2, h3, h4, h5⟩ := scan_done _ 256 (300 - s - s1) σ hσ (by omega)
  have e1 := h.bins3 hp b1 s1 hb1 hs1 (b2 + 1) h1
  have e2 := h.bins3 hp b1 s1 hb1 hs1 b2 (by omega)
  rw [count_congr (fun i => (b * 512 + b1) * 256 + (b2 + 1) ≤ (p i).toNat) (fun i => (b * 512 + b1) * 256 + b2 < (p i).toNat) 81920 fun i _ => by omega] at e1
  exact ⟨b2, _, h2, h3, h1, by omega, by omega, by omega, by omega⟩

theorem Do.put_du {off : Fin 1 → ℕ} {inb : ∀ a, off a + S16.size a ≤ (⟨1, ![320]⟩ : Shape).size a}
    {w : S16.Idx → BitVec 32} {hx : ((B.mem .du).access (r16 off inb)).Stores Finset.univ}
    {hm : (Finset.univ : Finset (r16 off inb).shape.Idx) = Finset.univ ∨ ∀ a, (r16 off inb).stride a = 1}
    {k : PUnit → Tprog F L α} {Φ : α → St F → Prop} {n : ℕ} (hT : ∀ x < n, T.du x = 4294967295#32) (e : off 0 = n) (hw : ∀ x, w x = 4294967295#32)
    (h : ∀ f, (∀ x < n + 16, f x = 4294967295#32) → Do d L { T with du := f } (k ⟨⟩) Φ) :
    Do d L T (Prog.lift (TpuEff.store (B.mem .du) (r16 off inb) w Finset.univ hx hm) >>= k) Φ := by
  refine Do.stores .du (h _ fun x hx => ?_)
  subst e
  by_cases hlt : x < off 0
  · rw [upd_off _ _ _ _ (by omega)]; exact hT x hlt
  · obtain ⟨j, rfl⟩ : ∃ j, x = off 0 + j := ⟨x - off 0, by omega⟩
    rw [upd_at _ _ _ _ (by omega), hw]

theorem part14 (A : Args) (hp : Words T.pv) {b s c : ℕ} {v20 v29 v30 : BitVec 32} {hw : k0_chk14 (BitVec.ofNat 32 c)} (hA : StA T.pv b s c T.cu T.ci)
    (hh : ∀ y < 512, T.hist y = BitVec.ofNat 32 (Nat.count (fun j => Q6 (BitVec.ofNat 32 b) y (T.cu j)) (16 * nv c))) :
    Do d L T (A.ap L (k0_part14 (F := F)) k0_pay89 (BitVec.ofNat 32 b) (BitVec.ofNat 32 s) k0_pay96 (BitVec.ofNat 32 c) hw v20
      (Scalar.subi 300#32 (BitVec.ofNat 32 s)) v29 v30 1#32) fun a T' => ∃ s1 s2 t, ∃ h f,
      a = ⟨BitVec.ofNat 32 s1, BitVec.ofNat 32 s2, BitVec.ofNat 32 t, Scalar.addi (Scalar.addi (BitVec.ofNat 32 s) (BitVec.ofNat 32 s1)) (BitVec.ofNat 32 s2),
        Scalar.subi 300#32 (Scalar.addi (Scalar.addi (BitVec.ofNat 32 s) (BitVec.ofNat 32 s1)) (BitVec.ofNat 32 s2))⟩ ∧
      T' = { T with hist := h, du := f } ∧ b * 2 ^ 17 ≤ t ∧ StB T.pv s t (s + s1 + s2) ∧ ∀ x < 16, f x = 4294967295#32 := by
  have hc := hA.c4
  have hs := hA.lt
  have hb := hA.hb
  rw [k0_part14_eq_skeleton, show Scalar.subi 300#32 (BitVec.ofNat 32 s) = BitVec.ofNat 32 (300 - s) from ofNat_sub (by omega)]
  refine Do.bind (Do.skip (t7_trips c hc) ?_)
  refine Do.bind ((scan8 (F := F) A (f := 0#32) (300 - s) (by omega) (by omega) _ hh ?_).mono ?_)
  · have := hA.bins2 hp 0 (by omega)
    have := count_le (fun i => b * 512 + 0 ≤ (T.pv i).toNat / 2 ^ 8) 81920
    omega
  rintro ⟨σ0, σ1, σ2, σ3⟩ T' ⟨hT, hσ⟩
  subst T'
  obtain ⟨b1, s1, h1, h2, hb1, hs1, hlt1, hge1⟩ := room14 hA hp _ hh _ hσ
  obtain rfl : σ2 = _ := h1
  obtain rfl : σ3 = _ := h2
  refine Do.bind ((zero9 (F := F) A).mono ?_)
  rintro _ _ ⟨h', rfl, hh'⟩
  refine Do.bind ((hist10 (F := F) A c hc (hw := hw) hh').mono ?_)
  rintro _ _ ⟨r, rfl, hr⟩
  refine Do.bind (Do.skip (t11_trips c hc) ?_)
  have ed := digit_word b 9 b1 (by decide) (by omega) (by omega) (by omega)
  replace hr : ∀ y < 256, r y = BitVec.ofNat 32 (Nat.count (fun j => Q10 (BitVec.ofNat 32 (b * 2 ^ 9 + b1)) y (T.cu j)) (16 * nv c)) := fun y hy => by
    rw [← ed]; exact hr y hy
  have e40 : Scalar.subi (BitVec.ofNat 32 (300 - s)) (BitVec.ofNat 32 s1) = BitVec.ofNat 32 (300 - s - s1) := ofNat_sub (by omega)
  show Do d L _ (Scf.Loop.for k0_t12_loop k0_t12_ok (0#32, 0#1, 0#32, 0#32) (A.ap L (k0_t12_body (F := F)) _ _ _ _ _ hw _ _ _ _ _ (Scalar.subi (BitVec.ofNat 32 (300 - s)) (BitVec.ofNat 32 s1)) _) >>= _) _
  rw [e40]
  refine Do.bind ((scan12 (F := F) A (i := 0#32) (300 - s - s1) (by omega) (by omega) _ hr ?_).mono ?_)
  · have := hA.bins3 hp b1 s1 hb1 hs1 0 (by omega)
    have := count_le (fun i => (b * 512 + b1) * 256 + 0 ≤ (T.pv i).toNat) 81920
    omega
  rintro ⟨σ0, σ1, σ2, σ3⟩ _ ⟨rfl, hσ⟩
  obtain ⟨b2, s2, h1, h2, hb2, hB⟩ := room15 hA hp b1 s1 hb1 hs1 hlt1 hge1 _ hσ
  obtain rfl : σ2 = _ := h1
  obtain rfl : σ3 = _ := h2
  refine Do.loads .du ?_
  refine Do.put_du (n := 0) (fun x hx => by omega) rfl (fun _ => rfl) fun f' hf' => ?_
  refine Do.loads .du ?_
  have ed' := digit_word (b * 2 ^ 9 + b1) 8 b2 (by decide) (by omega) (by omega) (by omega)
  rw [← ed] at ed'
  refine Do.pure ⟨s1, s2, (b * 2 ^ 9 + b1) * 2 ^ 8 + b2, r, f', ?_, rfl, by omega, hB, hf'⟩
  rw [← ed']

theorem part15 (A : Args) {v20 : BitVec 32} (h : ∀ x < 16, T.du x = 4294967295#32) :
    Do d L T (A.ap L (k0_part15 (F := F)) k0_pay96 v20) fun a T' => ∃ v76 : BitVec 32, ∃ f, a = ⟨0#32, 0#32, 0#32, v76⟩ ∧ T' = { T with du := f } ∧ ∀ x < 320, f x = 4294967295#32 := by
  rw [k0_part15_eq_skeleton]
  refine Do.put_du h rfl (fun _ => rfl) fun f hf => ?_
  iterate 18
    refine Do.loads .du ?_
    refine Do.put_du hf rfl (fun _ => rfl) fun f hf => ?_
  exact Do.pure ⟨_, _, rfl, rfl, hf⟩

end Cert.Proof.Tile

end
-- ==== Proof.Fine.lean ====
/-
  The final candidates: the coarse ones over the threshold, then those equal to it.
-/
module

public import proofs.«01_k».proof.Proof.Counts

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

theorem Do.scatter_du {v : IVec S16 32} {w : S16.Idx → BitVec 32} {m : IVec S16 1} {add : Bool}
    {inb : ∀ a x, ((![v] : Fin 1 → IVec S16 32) a x).toNat < (⟨1, ![320]⟩ : Shape).size a}
    {hs : ((B.mem .du).access (.whole _)).Stores Finset.univ} {k : PUnit → Tprog F L α} {Φ : α → St F → Prop} {f g h : ℕ → BitVec 32}
    (e : scat (idxOp (F := F) .du add) f v w m = g)
    (H : Do d L { T with du := g, di := h } (k ⟨⟩) Φ) :
    Do d L { T with du := f, di := h } (SparseCore.vectorStoreIdx (d := ![16]) (B.mem .du) ![v] w m add inb hs >>= k) Φ := by
  subst e
  exact Do.scatter .du H

theorem Do.scatter_di {v : IVec S16 32} {w : S16.Idx → BitVec 32} {m : IVec S16 1} {add : Bool}
    {inb : ∀ a x, ((![v] : Fin 1 → IVec S16 32) a x).toNat < (⟨1, ![320]⟩ : Shape).size a}
    {hs : ((B.mem .di).access (.whole _)).Stores Finset.univ} {k : PUnit → Tprog F L α} {Φ : α → St F → Prop} {f g h : ℕ → BitVec 32}
    (e : scat (idxOp (F := F) .di add) f v w m = g)
    (H : Do d L { T with du := h, di := g } (k ⟨⟩) Φ) :
    Do d L { T with du := h, di := f } (SparseCore.vectorStoreIdx (d := ![16]) (B.mem .di) ![v] w m add inb hs >>= k) Φ := by
  subst e
  exact Do.scatter .di H

/-- What a compressing store leaves at a position, if it is not what was there: a word of a chosen lane. -/
theorem comp_or {A : Type} (op : A → A → A) (hop : ∀ a b, op a b = b) (f : ℕ → A) (off : BitVec 32) (w : S16.Idx → A) (m : IVec S16 1)
    (ho : off.toNat + 16 < 2 ^ 32) (j : ℕ) : scat op f (cpos off m) w m j = f j ∨ ∃ k < 16, m (ln k) = 1 ∧ scat op f (cpos off m) w m j = w (ln k) := by
  by_cases h : j < off.toNat ∨ off.toNat + cnt m 16 ≤ j
  · exact .inl (comp_out op f off w m ho j h)
  · obtain ⟨k, hk, hm, hc⟩ := count_surj (fun k => m (ln k) = 1) 16 (j - off.toNat) (by show _ < cnt m 16; omega)
    refine .inr ⟨k, hk, hm, ?_⟩
    have e := comp_in op hop f off w m ho k hk hm
    have : off.toNat + cnt m k = j := by show off.toNat + Nat.count _ k = j; omega
    rwa [this] at e

/-- What the final candidates are after `n` of the coarse ones: those over `t` in order, then those equal to it in order, and nothing else from there on. -/
structure Fine (u ui : ℕ → BitVec 32) (t : BitVec 32) (cg need n : ℕ) (f g : ℕ → BitVec 32) : Prop where
  gt : ∀ j < n, t.toInt < (u j).toInt → f (Nat.count (fun j => t.toInt < (u j).toInt) j) = u j ∧ g (Nat.count (fun j => t.toInt < (u j).toInt) j) = ui j
  eq : ∀ j < n, u j = t → Nat.count (fun j => u j = t) j < need →
    f (cg + Nat.count (fun j => u j = t) j) = u j ∧ g (cg + Nat.count (fun j => u j = t) j) = ui j
  rest : ∀ x, cg ≤ x → x < 320 → f x = t ∨ f x = 4294967295#32

variable {u ui : ℕ → BitVec 32} {t : BitVec 32} {cg need n : ℕ} {f g : ℕ → BitVec 32}

abbrev gtMask (t : BitVec 32) (w : IVec S16 32) : IVec S16 1 := cmpi .sgt w (broadcast S16 t)
abbrev eqMask (t : BitVec 32) (w : IVec S16 32) : IVec S16 1 := cmpi .eq w (broadcast S16 t)

theorem gtMask_at (u : ℕ → BitVec 32) (t : BitVec 32) (n off : ℕ) (hoff : off = n) (i : ℕ) (hi : i < 16) :
    gtMask t (fun x => u (off + (x 0).val)) (ln i) = 1 ↔ t.toInt < (u (n + i)).toInt := by
  refine (cmp_sgt _ _).trans ?_
  show t.toInt < (u (off + ((ln i) 0).val)).toInt ↔ _
  rw [ln_val i hi, hoff]

theorem eqMask_at (u : ℕ → BitVec 32) (t : BitVec 32) (n off : ℕ) (hoff : off = n) (i : ℕ) (hi : i < 16) :
    eqMask t (fun x => u (off + (x 0).val)) (ln i) = 1 ↔ u (n + i) = t := by
  refine (cmp_eq _ _).trans ?_
  show u (off + ((ln i) 0).val) = t ↔ _
  rw [ln_val i hi, hoff]

theorem fine_gt (off : ℕ) (hoff : off = n) (a : BitVec 32) (ha : a = BitVec.ofNat 32 (Nat.count (fun j => t.toInt < (u j).toInt) n))
    (hcg : cg < 300) (hle : Nat.count (fun j => t.toInt < (u j).toInt) (n + 16) ≤ cg) (h : Fine u ui t cg need n f g) :
    (∀ b x, ((![cpos a (gtMask t (fun x => u (off + (x 0).val)))] : Fin 1 → IVec S16 32) b x).toNat < S320.size b) ∧
    (∃ f', scat (idxOp (F := F) .du false) f (cpos a (gtMask t (fun x => u (off + (x 0).val)))) (fun x => u (off + (x 0).val)) (gtMask t (fun x => u (off + (x 0).val))) = f' ∧
     ∃ g', scat (idxOp (F := F) .di false) g (cpos a (gtMask t (fun x => u (off + (x 0).val)))) (fun x => ui (off + (x 0).val)) (gtMask t (fun x => u (off + (x 0).val))) = g' ∧
      (∀ j < n + 16, t.toInt < (u j).toInt → f' (Nat.count (fun j => t.toInt < (u j).toInt) j) = u j ∧ g' (Nat.count (fun j => t.toInt < (u j).toInt) j) = ui j) ∧
      Fine u ui t cg need n f' g') ∧
    Scalar.addi a (extractAt (s := S16) ![15] (scan .sum (ones (gtMask t (fun x => u (off + (x 0).val))))) inpos_S16_p15)
      = BitVec.ofNat 32 (Nat.count (fun j => t.toInt < (u j).toInt) (n + 16)) := by
  have hm := gtMask_at u t n off hoff
  have hmore := count_more (fun j => t.toInt < (u j).toInt) n 16 _ (le_refl _) hm
  have hmono : Nat.count (fun j => t.toInt < (u j).toInt) n ≤ Nat.count (fun j => t.toInt < (u j).toInt) (n + 16) := Nat.count_monotone _ (by omega)
  have han : a.toNat = Nat.count (fun j => t.toInt < (u j).toInt) n := by rw [ha, nat_of _ (by omega)]
  have key : ∀ j < n + 16, t.toInt < (u j).toInt → scat (idxOp (F := F) .du false) f (cpos a (gtMask t (fun x => u (off + (x 0).val)))) (fun x => u (off + (x 0).val)) (gtMask t (fun x => u (off + (x 0).val))) (Nat.count (fun j => t.toInt < (u j).toInt) j) = u j ∧ scat (idxOp (F := F) .di false) g (cpos a (gtMask t (fun x => u (off + (x 0).val)))) (fun x => ui (off + (x 0).val)) (gtMask t (fun x => u (off + (x 0).val))) (Nat.count (fun j => t.toInt < (u j).toInt) j) = ui j := by
    have h1 := comp_step (fun j => t.toInt < (u j).toInt) f u 0 n a (fun x => u (off + (x 0).val)) (gtMask t (fun x => u (off + (x 0).val))) (idxOp (F := F) .du false)
      (fun _ _ => rfl) (by omega) (by omega) hm (fun i hi => by show u (off + ((ln i) 0).val) = _; rw [ln_val i hi, hoff])
      (fun i hi hp => by rw [Nat.zero_add]; exact (h.gt i hi hp).1)
    have h2 := comp_step (fun j => t.toInt < (u j).toInt) g ui 0 n a (fun x => ui (off + (x 0).val)) (gtMask t (fun x => u (off + (x 0).val))) (idxOp (F := F) .di false)
      (fun _ _ => rfl) (by omega) (by omega) hm (fun i hi => by show ui (off + ((ln i) 0).val) = _; rw [ln_val i hi, hoff])
      (fun i hi hp => by rw [Nat.zero_add]; exact (h.gt i hi hp).2)
    simp only [Nat.zero_add] at h1 h2
    exact fun j hj hp => ⟨h1 j hj hp, h2 j hj hp⟩
  have outf : ∀ x, cg ≤ x → scat (idxOp (F := F) .du false) f (cpos a (gtMask t (fun x => u (off + (x 0).val)))) (fun x => u (off + (x 0).val)) (gtMask t (fun x => u (off + (x 0).val))) x = f x :=
    fun x hx => comp_out _ _ a _ _ (by omega) x (.inr (by omega))
  have outg : ∀ x, cg ≤ x → scat (idxOp (F := F) .di false) g (cpos a (gtMask t (fun x => u (off + (x 0).val)))) (fun x => ui (off + (x 0).val)) (gtMask t (fun x => u (off + (x 0).val))) x = g x :=
    fun x hx => comp_out _ _ a _ _ (by omega) x (.inr (by omega))
  refine ⟨fun b x => ?_, ⟨_, rfl, _, rfl, key, ⟨fun j hj => key j (by omega), fun j hj he hn => ?_, fun x hx hx' => ?_⟩⟩, ?_⟩
  · obtain rfl := Fin.eq_zero b
    have := cpos_le a (gtMask t (fun x => u (off + (x 0).val))) (by omega) x
    exact lt_of_le_of_lt this (show a.toNat + 15 < 320 by omega)
  · rw [outf _ (by omega), outg _ (by omega)]
    exact h.eq j hj he hn
  · rw [outf _ hx]
    exact h.rest x hx hx'
  · rw [cnt_next a _ _ _ ha rfl, ← hmore]

theorem fine_eq (off : ℕ) (hoff : off = n) (v54 a : BitVec 32) (e : ℕ) (h54 : v54 = BitVec.ofNat 32 cg) (ha : a = BitVec.ofNat 32 e)
    (he : e = Nat.count (fun j => u j = t) n) (hen : e < need) (hneed : cg + need = 300) (h : Fine u ui t cg need n f g)
    (hgt : ∀ j < n + 16, t.toInt < (u j).toInt → Nat.count (fun j => t.toInt < (u j).toInt) j < cg ∧ f (Nat.count (fun j => t.toInt < (u j).toInt) j) = u j ∧ g (Nat.count (fun j => t.toInt < (u j).toInt) j) = ui j) :
    (∀ b x, ((![cpos (Scalar.addi v54 a) (eqMask t (fun x => u (off + (x 0).val)))] : Fin 1 → IVec S16 32) b x).toNat < S320.size b) ∧
    (∃ f', scat (idxOp (F := F) .du false) f (cpos (Scalar.addi v54 a) (eqMask t (fun x => u (off + (x 0).val)))) (fun x => u (off + (x 0).val)) (eqMask t (fun x => u (off + (x 0).val))) = f' ∧
     ∃ g', scat (idxOp (F := F) .di false) g (cpos (Scalar.addi v54 a) (eqMask t (fun x => u (off + (x 0).val)))) (fun x => ui (off + (x 0).val)) (eqMask t (fun x => u (off + (x 0).val))) = g' ∧
      Fine u ui t cg need (n + 16) f' g') ∧
    Scalar.addi a (extractAt (s := S16) ![15] (scan .sum (ones (eqMask t (fun x => u (off + (x 0).val))))) inpos_S16_p15)
      = BitVec.ofNat 32 (Nat.count (fun j => u j = t) (n + 16)) := by
  have hm := eqMask_at u t n off hoff
  have hmore := count_more (fun j => u j = t) n 16 _ (le_refl _) hm
  have hoffn : (Scalar.addi v54 a).toNat = cg + e := by
    rw [h54, ha]
    show (BitVec.ofNat 32 cg + BitVec.ofNat 32 e).toNat = _
    rw [← BitVec.ofNat_add, nat_of _ (by omega)]
  have lt : ∀ i < n, u i = t → Nat.count (fun j => u j = t) i < need := fun i hi hp => by
    have := Nat.count_monotone (fun j => u j = t) (show i ≤ n by omega)
    omega
  have h1 := comp_step (fun j => u j = t) f u cg n (Scalar.addi v54 a) (fun x => u (off + (x 0).val)) (eqMask t (fun x => u (off + (x 0).val))) (idxOp (F := F) .du false)
      (fun _ _ => rfl) (by omega) (by omega) hm (fun i hi => by show u (off + ((ln i) 0).val) = _; rw [ln_val i hi, hoff])
      (fun i hi hp => (h.eq i hi hp (lt i hi hp)).1)
  have h2 := comp_step (fun j => u j = t) g ui cg n (Scalar.addi v54 a) (fun x => ui (off + (x 0).val)) (eqMask t (fun x => u (off + (x 0).val))) (idxOp (F := F) .di false)
      (fun _ _ => rfl) (by omega) (by omega) hm (fun i hi => by show ui (off + ((ln i) 0).val) = _; rw [ln_val i hi, hoff])
      (fun i hi hp => (h.eq i hi hp (lt i hi hp)).2)
  refine ⟨fun b x => ?_, ⟨_, rfl, _, rfl, ⟨fun j hj hp => ?_, fun j hj hp _ => ⟨h1 j hj hp, h2 j hj hp⟩, fun x hx hx' => ?_⟩⟩, ?_⟩
  · obtain rfl := Fin.eq_zero b
    have := cpos_le (Scalar.addi v54 a) (eqMask t (fun x => u (off + (x 0).val))) (by omega) x
    exact lt_of_le_of_lt this (show (Scalar.addi v54 a).toNat + 15 < 320 by omega)
  · obtain ⟨k1, k2, k3⟩ := hgt j hj hp
    rw [comp_out _ _ _ _ _ (by omega) _ (.inl (by omega)), comp_out _ _ _ _ _ (by omega) _ (.inl (by omega))]
    exact ⟨k2, k3⟩
  · rcases comp_or (idxOp (F := F) .du false) (fun _ _ => rfl) f (Scalar.addi v54 a) (fun x => u (off + (x 0).val)) (eqMask t (fun x => u (off + (x 0).val))) (by omega) x with h' | ⟨k, hk, hm', h'⟩
    · rw [h']; exact h.rest x hx hx'
    · left
      rw [h']
      have := (hm k hk).mp hm'
      show u (off + ((ln k) 0).val) = t
      rw [ln_val k hk, hoff, this]
  · rw [cnt_next a _ e _ ha rfl, he, ← hmore]

/-- No more words equal to `t` are wanted. -/
theorem fine_full (e : ℕ) (he : e ≤ Nat.count (fun j => u j = t) n) (hen : need ≤ e) (h : Fine u ui t cg need n f g)
    (hgt : ∀ j < n + 16, t.toInt < (u j).toInt → f (Nat.count (fun j => t.toInt < (u j).toInt) j) = u j ∧ g (Nat.count (fun j => t.toInt < (u j).toInt) j) = ui j) :
    Fine u ui t cg need (n + 16) f g := by
  refine ⟨hgt, fun j hj hp hc => ?_, h.rest⟩
  by_cases hjn : j < n
  · exact h.eq j hjn hp hc
  · have := Nat.count_monotone (fun j => u j = t) (show n ≤ j by omega)
    omega

theorem cond1_iff (s0 s1 s2 a : BitVec 32) (e : ℕ) (h54 : Scalar.addi (Scalar.addi s0 s1) s2 = BitVec.ofNat 32 cg) (hneed : cg + need = 300)
    (ha : a = BitVec.ofNat 32 e) (he : e < 2 ^ 31) :
    (k0_cond1 s0 s1 s2 a = 1#1 ↔ e < need) ∧ (Scalar.cmpi .slt a (Scalar.subi 300#32 (Scalar.addi (Scalar.addi s0 s1) s2)) = 1 ↔ e < need) := by
  have e0 : Scalar.subi 300#32 (Scalar.addi (Scalar.addi s0 s1) s2) = BitVec.ofNat 32 need := by
    rw [h54]
    show BitVec.ofNat 32 300 - BitVec.ofNat 32 cg = _
    rw [ofNat_sub (by omega)]
    congr 1; omega
  have h2 : Scalar.cmpi .slt a (Scalar.subi 300#32 (Scalar.addi (Scalar.addi s0 s1) s2)) = 1 ↔ e < need := by
    rw [e0, ha]
    refine (cmp_slt _ _).trans ?_
    rw [int_of _ he, int_of _ (by omega)]
    omega
  refine ⟨?_, h2⟩
  rw [← h2]
  show Scalar.cmpi .ne (Scalar.extui (Scalar.cmpi .slt a (Scalar.subi 300#32 (Scalar.addi (Scalar.addi s0 s1) s2)))) 0#32 = 1#1 ↔ _
  generalize Scalar.cmpi .slt a (Scalar.subi 300#32 (Scalar.addi (Scalar.addi s0 s1) s2)) = b
  revert b
  decide

theorem fine13 (A : Args) {v2 : IVec S16 32} {s0 s1 s2 c57 v76 : BitVec 32} (c : ℕ) (hc : c ≤ 4096) {hw : k0_chk14 (BitVec.ofNat 32 c)}
    (hcg : Nat.count (fun j => t.toInt < (T.cu j).toInt) (16 * nv c) = cg) (hneed : cg + need = 300) (hn0 : 0 < need)
    (h54 : Scalar.addi (Scalar.addi s0 s1) s2 = BitVec.ofNat 32 cg) (h0 : ∀ x < 320, T.du x = 4294967295#32) :
    Do d L T (Scf.Loop.for (k0_t13_loop (BitVec.ofNat 32 c)) (k0_t13_ok _ hw) (0#32, 0#32)
      (A.ap L (k0_t13_body (F := F)) v2 s0 (BitVec.ofNat 32 c) hw s1 s2 t (Scalar.addi (Scalar.addi s0 s1) s2)
        (Scalar.subi 300#32 (Scalar.addi (Scalar.addi s0 s1) s2)) c57 0#32 0#32 v76))
    fun _ T' => ∃ f g, T' = { T with du := f, di := g } ∧ Fine T.cu T.ci t cg need (16 * nv c) f g := by
  have ht := t13_trips c hc
  have hnv := nv_le c hc
  refine Do.for (fun n a T' => a.1 = BitVec.ofNat 32 (Nat.count (fun j => t.toInt < (T.cu j).toInt) (16 * n)) ∧
      (∃ e, a.2 = BitVec.ofNat 32 e ∧ e < 400 ∧ e ≤ Nat.count (fun j => T.cu j = t) (16 * n) ∧ (e < need → e = Nat.count (fun j => T.cu j = t) (16 * n))) ∧
      ∃ f g, T' = { T with du := f, di := g } ∧ Fine T.cu T.ci t cg need (16 * n) f g)
    ⟨rfl, ⟨0, rfl, by omega, le_refl _, fun _ => rfl⟩, T.du, T.di, rfl,
      ⟨fun j hj => absurd hj (by omega), fun j hj => absurd hj (by omega), fun x _ hx => .inr (h0 x hx)⟩⟩ ?_ ?_
  · rintro k ⟨a1, a2⟩ _ ⟨ha1, ⟨e, ha2, he, hle, hlt⟩, f, g, rfl, hf⟩
    have hk := lt_of_lt_of_eq k.isLt ht
    have hoff := off_k k (ht.trans_le hnv)
    have hlec : Nat.count (fun j => t.toInt < (T.cu j).toInt) (16 * k.val + 16) ≤ cg := by rw [← hcg]; exact Nat.count_monotone _ (by omega)
    obtain ⟨k0, ⟨f1, ef, g1, eg, hgt, hf1⟩, hna⟩ := fine_gt (F := F) _ hoff a1 ha1 (by omega) hlec hf
    obtain ⟨hcond, hslt⟩ := cond1_iff s0 s1 s2 a2 e h54 hneed ha2 (by omega)
    refine Do.bind ?_
    show Do d L _ (A.ap L (k0_part7 (F := F)) s0 (BitVec.ofNat 32 c) hw s1 s2 t (Scalar.addi (Scalar.addi s0 s1) s2)
        (Scalar.subi 300#32 (Scalar.addi (Scalar.addi s0 s1) s2)) c57 1#32 k a1 a2) _
    rw [k0_part7_eq_skeleton]
    refine Do.loads .cu ?_
    refine Do.loads .ci ?_
    refine Do.asm k0 ?_
    refine Do.scatter_du ef ?_
    refine Do.asm k0 ?_
    refine Do.scatter_di eg ?_
    by_cases hen : e < need
    · obtain ⟨k1, ⟨f2, ef2, g2, eg2, hf2⟩, hna2⟩ := fine_eq (F := F) _ hoff (Scalar.addi (Scalar.addi s0 s1) s2) a2 e h54 ha2 (hlt hen) hen hneed hf1
        (fun j hj hp => ⟨lt_of_lt_of_le (count_lt (p := fun j => t.toInt < (T.cu j).toInt) hj hp) hlec, hgt j hj hp⟩)
      rw [dif_pos (hcond.mpr hen)]
      refine Do.asm (fun _ => k1) ?_
      refine Do.scatter_du ef2 ?_
      refine Do.asm (fun _ => k1) ?_
      refine Do.scatter_di eg2 ?_
      refine Do.pure ?_
      refine Do.pure ⟨hna, ⟨Nat.count (fun j => T.cu j = t) (16 * k.val + 16), ?_, ?_, le_refl _, fun _ => rfl⟩, f2, g2, rfl, hf2⟩
      · refine Eq.trans ?_ hna2
        exact if_pos (hslt.mpr hen)
      · rw [Nat.count_add]
        have := Nat.count_le (p := fun j => T.cu (16 * k.val + j) = t) (n := 16)
        have := hlt hen
        omega
    · rw [dif_neg (fun h => hen (hcond.mp h))]
      refine Do.pure ?_
      have hmono : Nat.count (fun j => T.cu j = t) (16 * k.val) ≤ Nat.count (fun j => T.cu j = t) (16 * (k.val + 1)) := Nat.count_monotone _ (by omega)
      refine Do.pure ⟨hna, ⟨e, ?_, he, by omega, fun h => absurd h hen⟩, f1, g1, rfl, fine_full e hle (by omega) hf1 hgt⟩
      refine Eq.trans ?_ ha2
      exact if_neg (fun h => hen (hslt.mp h))
  · rintro _ _ ⟨-, -, f, g, rfl, hf⟩
    refine ⟨f, g, rfl, ?_⟩
    rw [← ht]
    exact hf

end Cert.Proof.Tile

end
-- ==== Proof.Final.lean ====
/-
  From the cleared histogram to the copies out: the results hold the positions of rank 0 to 299.
-/
module

public import proofs.«01_k».proof.Proof.Stages
public import proofs.«01_k».proof.Proof.Fine

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

/-! ## The candidates the threshold leaves are the selection's -/

section Math
variable {p cu ci f g : ℕ → BitVec 32} {b s c t cg : ℕ}

theorem cg_eq (hA : StA p b s c cu ci) (hB : StB p s t cg) (hp : Words p) (hbt : b * 2 ^ 17 ≤ t) :
    Nat.count (fun j => (BitVec.ofNat 32 t).toInt < (cu j).toInt) (16 * nv c) = cg := by
  have ht := hB.lt31
  have := hA.list.count (fun u => (BitVec.ofNat 32 t).toInt < u.toInt) (by
      rw [int_of t (by omega), show (4294967295#32).toInt = -1 from by decide]; omega) (fun i => t < (p i).toNat) fun i hi => by
    have h30 := hp.range i hi
    rw [int_of t (by omega), int_nat _ (by omega)]
    omega
  rw [← hA.hc, ← hB.hcg] at this
  exact this

theorem cands (hA : StA p b s c cu ci) (hB : StB p s t cg) (hp : Words p) (hbt : b * 2 ^ 17 ≤ t) (hF : Fine cu ci (BitVec.ofNat 32 t) cg (300 - cg) (16 * nv c) f g) :
    Cands (fun i => (p i).toNat) t (fun x => (f x).toInt) (fun x => (g x).toNat) := by
  have ht := hB.lt31
  have hct := hA.hc
  have hnv := (nv_ge c).1
  have hpos : ∀ i < 81920, t ≤ (p i).toNat → b * 2 ^ 17 ≤ (p i).toNat := fun i _ h => by omega
  have hlt : ∀ i < 81920, t ≤ (p i).toNat → Nat.count (fun i => b * 2 ^ 17 ≤ (p i).toNat) i < 16 * nv c := fun i hi h => by
    have := count_lt (p := fun i => b * 2 ^ 17 ≤ (p i).toNat) hi (hpos i hi h)
    omega
  have hgt : ∀ i < 81920, Nat.count (fun j => (BitVec.ofNat 32 t).toInt < (cu j).toInt) (Nat.count (fun i => b * 2 ^ 17 ≤ (p i).toNat) i) = Nat.count (fun i => t < (p i).toNat) i := fun i hi => by
    rw [count_through (fun i => b * 2 ^ 17 ≤ (p i).toNat) (fun u => (BitVec.ofNat 32 t).toInt < u.toInt) cu p i fun j hj hj' => hA.list.at_ j (by omega) hj']
    refine count_congr _ _ _ fun j hj => ?_
    have h30 := hp.range j (by omega)
    rw [int_of t (by omega), int_nat _ (by omega)]
    omega
  have heq : ∀ i < 81920, Nat.count (fun j => cu j = BitVec.ofNat 32 t) (Nat.count (fun i => b * 2 ^ 17 ≤ (p i).toNat) i) = Nat.count (fun i => t = (p i).toNat) i := fun i hi => by
    rw [count_through (fun i => b * 2 ^ 17 ≤ (p i).toNat) (fun u => u = BitVec.ofNat 32 t) cu p i fun j hj hj' => hA.list.at_ j (by omega) hj']
    refine count_congr _ _ _ fun j hj => ?_
    rw [← BitVec.toNat_inj, nat_of t (by omega)]
    omega
  have hcg := hB.hcg
  refine ⟨fun i hi h => ?_, fun i hi h h3 => ?_, ?_, ?_, fun x hx hx' => ?_⟩
  · have h1 := hF.gt _ (hlt i hi (by omega)) (by
      rw [hA.list.at_ i hi (by omega)]
      have h30 := hp.range i hi
      rw [int_of t (by omega), int_nat _ (by omega)]
      omega)
    rw [hgt i hi, hA.list.at_ i hi (by omega), hA.idx i hi (by omega)] at h1
    have h30 := hp.range i hi
    refine ⟨?_, ?_⟩
    · show (f _).toInt = _
      rw [h1.1, int_nat _ (by omega)]
    · show (g _).toNat = _
      rw [h1.2, nat_of _ (by omega)]
  · have h1 := hF.eq _ (hlt i hi (by omega)) (by
      rw [hA.list.at_ i hi (by omega), ← BitVec.toNat_inj, nat_of t (by omega)]
      exact h.symm) (by rw [heq i hi, hcg]; omega)
    rw [heq i hi, hA.list.at_ i hi (by omega), hA.idx i hi (by omega), hcg] at h1
    have h30 := hp.range i hi
    refine ⟨?_, ?_⟩
    · show (f _).toInt = _
      rw [h1.1, int_nat _ (by omega)]
    · show (g _).toNat = _
      rw [h1.2, nat_of _ (by omega)]
  · rw [← hcg]; exact hB.few
  · have h := sum_count (fun _ i => t = (p i).toNat) {0} (fun i => t < (p i).toNat) (fun i => t ≤ (p i).toNat) 81920 fun i _ => by
      rw [Finset.sum_singleton]
      split_ifs <;> omega
    rw [Finset.sum_singleton] at h
    have := hB.many
    omega
  · have hfew := hB.few
    rcases hF.rest x (by omega) (by omega) with h | h
    · exact .inl (by show (f x).toInt = _; rw [h, int_of t (by omega)])
    · exact .inr (by show (f x).toInt = _; rw [h]; decide)

/-- The selected slots hold true positions, and the `k`-th the position of rank `k`. -/
theorem chosen {D : ℕ → ℤ} {op : ℕ → BitVec 32} (hC : Cands (fun i => (p i).toNat) t D (fun x => (g x).toNat)) (hp : Words p) (ht : 0 < t)
    (hch : Chosen D 300 op) :
    (∀ x < 304, (op x).toNat < 320 ∧ (g (op x).toNat).toNat < 81900) ∧
      ∀ k < 300, ∃ i < 81900, rank (fun i => (p i).toNat) i = k ∧ g (op k).toNat = BitVec.ofNat 32 i := by
  have hslot : ∀ x < 300, (g x).toNat < 81900 := fun x hx => by
    obtain ⟨i, h1, -, h3, h4⟩ := hC.slot x hx
    rw [h3]
    by_contra hi
    have := hp.pad i (by omega) h1
    omega
  refine ⟨fun x hx => ?_, fun k hk => ?_⟩
  · by_cases h : x < 300
    · obtain ⟨y, hy, e, hpl⟩ := hch.1 x h
      have hy' := hC.slot_lt y hy (by omega)
      rw [e, nat_of _ (by omega)]
      exact ⟨by omega, hslot y hy'⟩
    · rw [hch.2 x (by omega) hx]
      exact ⟨by decide, hslot 0 (by omega)⟩
  · obtain ⟨y, hy, e, hpl⟩ := hch.1 k hk
    have hy' := hC.slot_lt y hy (by omega)
    have := hC.place_eq y hy'
    rw [e, nat_of _ (by omega)]
    exact ⟨_, hslot y hy', by omega, by rw [BitVec.ofNat_toNat, BitVec.setWidth_eq]⟩

theorem low {D : ℕ → ℤ} (hC : Cands (fun i => (p i).toNat) t D (fun x => (g x).toNat)) : ∀ x < 304, -1 ≤ D x := fun x hx => by
  by_cases h : x < 300
  · obtain ⟨i, -, h2, -⟩ := hC.slot x h
    omega
  · rcases hC.rest x (by omega) hx with h | h <;> omega
end Math

theorem Do.put_op {off : Fin 1 → ℕ} {inb : ∀ a, off a + S16.size a ≤ (⟨1, ![304]⟩ : Shape).size a}
    {w : S16.Idx → BitVec 32} {hx : ((B.mem .op).access (r16 off inb)).Stores Finset.univ}
    {hm : (Finset.univ : Finset (r16 off inb).shape.Idx) = Finset.univ ∨ ∀ a, (r16 off inb).stride a = 1}
    {k : PUnit → Tprog F L α} {Φ : α → St F → Prop}
    (h : ∀ f, f = upd T.op (off 0) w → Do d L { T with op := f } (k ⟨⟩) Φ) :
    Do d L T (Prog.lift (TpuEff.store (B.mem .op) (r16 off inb) w Finset.univ hx hm) >>= k) Φ :=
  Do.stores .op (h _ rfl)

/-! ## From the cleared histogram to the copies out -/

/-- The results: slot `k` holds the score, the label and the box of the position of rank `k`. -/
def Res (p : ℕ → BitVec 32) (bx sc : ℕ → F .f32) (s l : ℕ → BitVec 32) (b : ℕ → F .f32) : Prop :=
  ∀ k < 300, ∃ i < 81900, rank (fun i => (p i).toNat) i = k ∧ s k = p i ∧ l k = BitVec.ofNat 32 (i % 91) ∧
    ∀ c < 4, b (304 * c + k) = corner c (sc (k % 16)) (sc (16 + k % 16)) fun j => bx (4 * (i / 91) + j)

/-- The body's last two parts' copies out. -/
def tail (A : Args) (L : grid0.Coords) : Tprog F L PUnit := do
  Prog.lift (.enqueueDma (B.mem .so) (.here ((A.a5.slice (Rect.unit (s := S32x304) (k0_off22 L) S1x304.size (k0_off22_inb L)) (fun _ => rfl)).squeeze S304 squeezes_S1x304_S304)) (.dma A.r3.sem) A.h17.wordExact ((View.wordExact_bits rfl).reshape _ _) ⟨Or.inl rfl, trivial⟩)
  Prog.lift (.waitDma2 A.r3.sem (B.mem .so) ((A.a5.slice (Rect.unit (s := S32x304) (k0_off22 L) S1x304.size (k0_off22_inb L)) (fun _ => rfl)).squeeze S304 squeezes_S1x304_S304) A.h17.wordExact ((View.wordExact_bits rfl).reshape _ _))
  Prog.lift (.enqueueDma (B.mem .lo) (.here ((A.a6.slice (Rect.unit (s := S32x304) (k0_off22 L) S1x304.size (k0_off22_inb L)) (fun _ => rfl)).squeeze S304 squeezes_S1x304_S304)) (.dma A.r4.sem) A.h18.wordExact ((View.wordExact_bits rfl).reshape _ _) ⟨Or.inl rfl, trivial⟩)
  Prog.lift (.waitDma2 A.r4.sem (B.mem .lo) ((A.a6.slice (Rect.unit (s := S32x304) (k0_off22 L) S1x304.size (k0_off22_inb L)) (fun _ => rfl)).squeeze S304 squeezes_S1x304_S304) A.h18.wordExact ((View.wordExact_bits rfl).reshape _ _))
  pure ⟨⟩

set_option maxRecDepth 65536 in
set_option maxHeartbeats 4000000 in
theorem mid (A : Args) : ∃ f, A.ap L (k0_part46 (F := F)) = A.ap L (k0_part12 (F := F)) >>= f ∧
    ∀ T : St F, Words T.pv → (∀ b < 8192, T.hist b = 0#32) →
      Run d L T (f ⟨lanes, k0_pay89, 0#32⟩) (tail A L) fun T' => Res T.pv T.bx T.sc T'.so T'.lo T'.bo := by
  rw [k0_part46_eq_skeleton]
  refine ⟨_, rfl, fun T hp h0 => ?_⟩
  refine Run.bind ((part13 (F := F) A hp h0).mono ?_)
  rintro _ _ ⟨b, s, c, v20, v29, v30, hw, h, f, g, rfl, rfl, hA, hh⟩
  refine Run.bind ((part14 (F := F) (T := { T with hist := h, cu := f, ci := g }) A hp hA hh).mono ?_)
  rintro _ _ ⟨s1, s2, t, h, du, rfl, rfl, hbt, hB, hdu⟩
  refine Run.bind ((part15 (F := F) A hdu).mono ?_)
  rintro _ _ ⟨v76, du, rfl, rfl, hdu⟩
  rw [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
  refine Run.bind ?_
  have hfew := hB.few
  refine Do.bind ((fine13 (F := F) (t := BitVec.ofNat 32 t) (cg := s + s1 + s2) (need := 300 - (s + s1 + s2)) A c hA.c4 (cg_eq hA hB hp hbt) (by omega) (by omega) ?_ hdu).mono ?_)
  · rw [BitVec.ofNat_add, BitVec.ofNat_add]
    rfl
  rintro _ _ ⟨f', g', rfl, hF⟩
  have hC := cands hA hB hp hbt hF
  refine Do.bind (Do.skip (t14_trips c hA.c4) ?_)
  refine Do.loads .op ?_
  refine Do.put_op fun o1 e1 => ?_
  refine Do.loads .op ?_
  refine Do.put_op fun o2 e2 => ?_
  refine Do.bind ((rounds15 (F := F) A (fun x => (f' x).toInt) (fun _ => rfl) (low hC) ?_).mono ?_)
  · intro x hx hx'
    show o2 x = _
    rw [e2]
    obtain ⟨j, rfl⟩ : ∃ j, x = 288 + j := ⟨x - 288, by omega⟩
    exact upd_at _ 288 _ j (by omega)
  rintro _ T2 ⟨f2, op, hT2, hch⟩
  obtain ⟨hG, hR⟩ := chosen hC hp (by have := hA.pos; omega) hch
  have hop : T2.op = op := by rw [hT2]
  have hdi : T2.di = g' := by rw [hT2]
  have hpv : T2.pv = T.pv := by rw [hT2]
  have hbx : T2.bx = T.bx := by rw [hT2]
  have hsc : T2.sc = T.sc := by rw [hT2]
  rw [← hop, ← hdi] at hG hR
  rw [← hpv] at hR
  rw [← hpv, ← hbx, ← hsc]
  replace hG : Good T2 := hG
  clear hT2 hop hdi hpv hbx hsc
  refine Do.gen (T := T2) (n := 0) (s := T2.so) (l := T2.lo) (b := T2.bo) ⟨fun x hx => absurd hx (by omega), fun x hx => absurd hx (by omega), fun x hx => absurd hx (by omega)⟩ fun s l b hB => ?_
  refine Do.get_sc fun W hW => ?_
  refine Do.get_sc fun H hH => ?_
  replace hW : ∀ x, W x = T2.sc (x 0).val := fun x => (hW x).trans (congrArg T2.sc (Nat.zero_add _))
  iterate 19
    try (refine Do.pure ?_; refine Run.bind ?_)
    refine Do.load_op fun v hv => ?_
    try (refine Do.pure ?_; refine Run.bind ?_)
    refine Do.asm (idx_op hG hv (by decide)) ?_
    try (refine Do.pure ?_; refine Run.bind ?_)
    refine Do.get_di fun u hu => ?_
    have hs := small hG hv hu (by decide)
    try (refine Do.pure ?_; refine Run.bind ?_)
    refine Do.asm (idx_pv hs) ?_
    try (refine Do.pure ?_; refine Run.bind ?_)
    refine Do.get_pv fun z hz => ?_
    try (refine Do.pure ?_; refine Run.bind ?_)
    refine Do.asm (idx_b0 (F := F) hs) ?_
    try (refine Do.pure ?_; refine Run.bind ?_)
    refine Do.get_bx fun b0 h0 => ?_
    try (refine Do.pure ?_; refine Run.bind ?_)
    refine Do.asm (idx_b1 (F := F) hs) ?_
    try (refine Do.pure ?_; refine Run.bind ?_)
    refine Do.get_bx fun b1 h1 => ?_
    try (refine Do.pure ?_; refine Run.bind ?_)
    refine Do.asm (idx_b2 (F := F) hs) ?_
    try (refine Do.pure ?_; refine Run.bind ?_)
    refine Do.get_bx fun b2 h2 => ?_
    try (refine Do.pure ?_; refine Run.bind ?_)
    refine Do.asm (idx_b3 (F := F) hs) ?_
    try (refine Do.pure ?_; refine Run.bind ?_)
    refine Do.get_bx fun b3 h3 => ?_
    try (refine Do.pure ?_; refine Run.bind ?_)
    refine Do.loads .so ?_
    try (refine Do.pure ?_; refine Run.bind ?_)
    refine Do.put_so ?_
    try (refine Do.pure ?_; refine Run.bind ?_)
    refine Do.loads .lo ?_
    try (refine Do.pure ?_; refine Run.bind ?_)
    refine Do.put_lo ?_
    try (refine Do.pure ?_; refine Run.bind ?_)
    refine Do.loads .bo ?_
    try (refine Do.pure ?_; refine Run.bind ?_)
    refine Do.put_bo ?_
    try (refine Do.pure ?_; refine Run.bind ?_)
    refine Do.loads .bo ?_
    try (refine Do.pure ?_; refine Run.bind ?_)
    refine Do.put_bo ?_
    try (refine Do.pure ?_; refine Run.bind ?_)
    refine Do.loads .bo ?_
    try (refine Do.pure ?_; refine Run.bind ?_)
    refine Do.put_bo ?_
    try (refine Do.pure ?_; refine Run.bind ?_)
    refine Do.loads .bo ?_
    try (refine Do.pure ?_; refine Run.bind ?_)
    refine Do.put_bo ?_
    refine Do.gen (blk_next (F := F) hG hW hH hB hv hu hz h0 h1 h2 h3 (by decide) (by decide) rfl rfl rfl rfl rfl rfl rfl) fun s l b hB => ?_
  refine Do.pure ?_
  refine Run.tail ?_
  intro k hk
  obtain ⟨i, hi, hr, he⟩ := hR k hk
  have hi' : (T2.di (T2.op k).toNat).toNat = i := by rw [he, nat_of _ (by omega)]
  refine ⟨i, hi, hr, ?_, ?_, fun c hc => ?_⟩
  · have := hB.score k (by omega)
    rw [hi'] at this
    exact this
  · have := hB.label k (by omega)
    rw [hi'] at this
    exact this
  · have := hB.box k (by omega) c hc
    rw [hi'] at this
    exact this

end Cert.Proof.Tile

end
-- ==== Proof.Rows.lean ====
/-
  The rows of the thirty-two row arrays, and a copy of one.
-/
module

public import proofs.«01_k».proof.Proof.Rules

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

/-! ## One row of an array of thirty-two -/

abbrev R2 (N : ℕ) : Shape := ⟨2, ![32, N]⟩
abbrev R1 (N : ℕ) : Shape := ⟨2, ![1, N]⟩
abbrev V1 (N : ℕ) : Shape := ⟨1, ![N]⟩

/-- The position of row `w`, column `k`. -/
def at2 {N : ℕ} (w : Fin 32) (k : Fin N) : (R2 N).Idx := fun a => match a with
  | 0 => w
  | 1 => k

/-- The positions of row `w`. -/
def rset (N : ℕ) (w : Fin 32) : Finset (R2 N).Idx := Finset.univ.filter fun x => (x 0).val = w.val

theorem mem_rset {N : ℕ} {w : Fin 32} {x : (R2 N).Idx} : x ∈ rset N w ↔ (x 0).val = w.val := by
  unfold rset; rw [Finset.mem_filter]; exact and_iff_right (Finset.mem_univ _)

/-- The position `k` of a vector. -/
def at1 {N : ℕ} (k : Fin N) : (V1 N).Idx := fun a => match a with
  | 0 => k

theorem at2_self {N : ℕ} (x : (R2 N).Idx) : at2 (x 0) (x 1) = x := by
  funext a; match a with | 0 => rfl | 1 => rfl

theorem rset_disjoint {N : ℕ} : ∀ w ∈ (Finset.univ : Finset (Fin 32)), ∀ w' ∈ (Finset.univ : Finset (Fin 32)), w ≠ w' → Disjoint (rset N w) (rset N w') :=
  fun w _ w' _ h => Finset.disjoint_left.mpr fun x hx hx' => h (Fin.ext ((mem_rset.mp hx).symm.trans (mem_rset.mp hx')))

theorem rset_cover {N : ℕ} : (Finset.univ : Finset (Fin 32)).biUnion (rset N) = Finset.univ :=
  Finset.eq_univ_of_forall fun x => Finset.mem_biUnion.mpr ⟨x 0, Finset.mem_univ _, mem_rset.mpr rfl⟩

/-- Row `w` of an array, as the tile's copies name it. -/
abbrev rowm {N : ℕ} {e : EltTy} (a : Memref sig .scVector .hbm (R2 N) e) (off : Fin 2 → ℕ)
    (inb : ∀ x, off x + (R1 N).size x ≤ (R2 N).size x) (sq : (R1 N).Squeezes (V1 N)) : Memref sig .scVector .hbm (V1 N) e :=
  (a.slice (Rect.unit (s := R2 N) off (R1 N).size inb) (fun _ => rfl)).squeeze (V1 N) sq

section
variable {N : ℕ} {e : EltTy} {a : Memref sig .scVector .hbm (R2 N) e} {off : Fin 2 → ℕ}
  {inb : ∀ x, off x + (R1 N).size x ≤ (R2 N).size x} {sq : (R1 N).Squeezes (V1 N)} {w : Fin 32}

theorem row_idx (h : off = ![w.val, 0]) (y : (V1 N).Idx) :
    (Rect.unit (s := R2 N) off (R1 N).size inb).emb (Shape.reshapeEquiv sq.numel_eq y) = at2 w (y 0) := by
  subst h
  rw [Shape.reshapeEquiv_cons_one]
  funext x
  match x with
  | 0 => exact Fin.ext (by show w.val + 1 * 0 = w.val; omega)
  | 1 => exact Fin.ext (by show 0 + 1 * (y 0).val = (y 0).val; omega)

theorem read_row (h : off = ![w.val, 0]) (f : a.view.ty.Contents (Elt F)) (y : (V1 N).Idx) :
    (rowm a off inb sq).view.read (Elt F) f y = a.view.read (Elt F) f (at2 w (y 0)) := by
  exact congrArg (a.view.read (Elt F) f) (row_idx (sq := sq) h y)

theorem set_row (h : off = ![w.val, 0]) : (rowm a off inb sq).view.set = (rset N w).map a.view.emb := by
  ext x
  constructor
  · intro hx
    obtain ⟨y, -, rfl⟩ := Finset.mem_map.mp hx
    refine Finset.mem_map.mpr ⟨at2 w (y 0), mem_rset.mpr rfl, ?_⟩
    exact congrArg a.view.emb (row_idx (sq := sq) h y).symm
  · intro hx
    obtain ⟨y, hy, rfl⟩ := Finset.mem_map.mp hx
    refine Finset.mem_map.mpr ⟨at1 (y 1), Finset.mem_univ _, ?_⟩
    refine (congrArg a.view.emb (row_idx (sq := sq) h _)).trans ?_
    rw [show w = y 0 from Fin.ext (mem_rset.mp hy).symm]
    exact congrArg a.view.emb (at2_self y)

theorem read_write_row (h : off = ![w.val, 0]) (f : a.view.ty.Contents (Elt F)) (v : (V1 N).Idx → Elt F e) (k : Fin N) :
    a.view.read (Elt F) ((rowm a off inb sq).view.write (Elt F) f v Finset.univ) (at2 w k) = v (at1 k) := by
  refine (read_row (inb := inb) (sq := sq) h _ (at1 k)).symm.trans ?_
  exact View.read_write_of_mem _ _ (Finset.mem_univ _)
end

/-! ## A copy and its wait -/

variable [FloatOps F]

/-- A copy between memrefs of the tile, and the wait for it: the destination holds what the source holds. -/
theorem wp_copy {thr : Thread nD τ} {sp sp' : Space} {s : Shape} {e : EltTy} {Λ : Labels} {defs : Defs nD τ sig (Elt F) Λ} {𝒱 : Variants} {bd : Option 𝒱.V} {α : Type}
    {src : Memref sig thr.2.kind sp s e} {dst : Memref sig thr.2.kind sp' s e} {sem : DmaSem sig}
    {h1 : src.view.WordExact} {h2 : dst.view.WordExact} {h3 : DmaTarget.Typed (nD := nD) sp (.dma sem) (.here dst)}
    {h4 : src.view.WordExact} {h5 : dst.view.WordExact}
    {k : PUnit → Prog (TpuEff nD τ sig (Elt F) Λ thr.2) α} {Q : α → sProp 𝕄} {q : PosShare TreeShare}
    {fs : Buf (Elt F) (src.view.loc thr)} {Sd : Finset (Idx (dst.view.loc thr))} {fd : Buf (Elt F) (dst.view.loc thr)}
    {O : CellTallies nD τ sig (HIx 1)} {W : Waits sig (HIx 1)} (hne : 0 < s.numel) (hSd : dst.view.set ⊆ Sd) :
    iprop((src.view.loc thr ↦[src.view.set]{q} fs) ∗ (dst.view.loc thr ↦[Sd]{fullShare} fd) ∗ semVal (thr, .dma sem) 0
        ∗ owes thr O W ∗ Transfers.MayWaits thr (default : HIx 1) O)
      ⊢ iprop((iprop((src.view.loc thr ↦[src.view.set]{q} fs)
            ∗ (dst.view.loc thr ↦[Sd]{fullShare} (dst.view.write (Elt F) fd (src.view.read (Elt F) fs) Finset.univ))
            ∗ semVal (thr, .dma sem) 0 ∗ owes thr O (insert (SemLoc.dma sem, (default : HIx 1)) W))
          -∗ wp frame (wpE defs 𝒱 thr bd) Set.univ (k ⟨⟩) Q)
        -∗ wp frame (wpE defs 𝒱 thr bd) Set.univ
            (Prog.op (.enqueueDma src (.here dst) (.dma sem) h1 h2 h3) fun _ => Prog.op (.waitDma2 sem src dst h4 h5) k) Q) := by
  iintro ⟨Hs, Hd, Hv, HO, Hmw⟩ Hk
  iapply (Transfers.wp_dmaLocal countersEmb 𝒱 thr bd (via := .same) (default : HIx 1) dst.view.dmaCredit rfl (View.dmaCredit_pos _ hne) hSd) $$ [Hs Hd Hv]
  · isplitl [Hs]; · iexact Hs
    isplitl [Hd]; · iexact Hd
    iexact Hv
  iintro Hfl
  iapply (Transfers.wp_waitLocalO countersEmb 𝒱 thr bd (default : HIx 1) (rfl : dst.view.dmaCredit = _)) $$ [Hfl HO Hmw]
  · isplitl [Hfl]; · iexact Hfl
    isplitl [HO]; · iexact HO
    iapply (Transfers.MayWaits.elim (SemLoc.dma sem)) $$ Hmw
  iintro ⟨⟨Hd, Hs⟩, Hv, HO⟩
  iapply Hk
  isplitl [Hs]; · iexact Hs
  isplitl [Hd]; · iexact Hd
  isplitl [Hv] <;> iassumption

end Cert.Proof.Tile

end
-- ==== Proof.Copies.lean ====
/-
  A tile's copies between its rows and its scratch.
-/
module

public import proofs.«01_k».proof.Proof.Rows
public import proofs.«01_k».proof.Proof.Ops

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F] {d : Dev nD} {L : grid0.Coords} {T : St F} {α : Type}

theorem set_ne (b : B) (g : ℕ → Elt F b.elt) : ∀ b', b' ≠ b → (T.set b g).buf b' = T.buf b' := by
  intro b' h
  cases b <;> cases b' <;> first | rfl | exact absurd rfl h

theorem pos_len (b : B) : 0 < (V1 b.len).numel := by
  cases b <;> decide

theorem fill_buf (b : B) (g : ℕ → Elt F b.elt) (v : (V1 b.len).Idx → Elt F b.elt) (h : ∀ k : Fin b.len, v (at1 k) = g k.val) :
    b.mem.view.write (Elt F) (T.buf b) v Finset.univ = (T.set b g).buf b := by
  apply eq_buf
  rw [View.read_write_univ, read_buf, get_set]
  funext i
  have e : i = at1 (i 0) := by funext a; obtain rfl := Fin.eq_zero a; rfl
  rw [e]
  exact h (i 0)

/-- A row copied into a scratch buffer. -/
theorem fetch (b : B) {a : Memref sig .scVector .hbm (R2 b.len) b.elt} {off : Fin 2 → ℕ} {inb : ∀ x, off x + (R1 b.len).size x ≤ (R2 b.len).size x}
    {sq : (R1 b.len).Squeezes (V1 b.len)} {w : Fin 32} (ho : off = ![w.val, 0]) {sem : DmaSem sig}
    {h1 : (rowm a off inb sq).view.WordExact} {h2 : b.mem.view.WordExact} {h3 : DmaTarget.Typed (nD := nD) .hbm (.dma sem) (DmaTarget.here (p := (V d (cV L) (jV L)).2) b.mem)}
    {h4 : (rowm a off inb sq).view.WordExact} {h5 : b.mem.view.WordExact}
    {k : PUnit → Tprog F L α} {Q : α → sProp 𝕄} {f : Buf (Elt F) (a.view.loc (V d (cV L) (jV L)))}
    {O : CellTallies nD τ sig (HIx 1)} {W : Waits sig (HIx 1)} (g : ℕ → Elt F b.elt)
    (hg : ∀ k : Fin b.len, a.view.read (Elt F) f (at2 w k) = g k.val) :
    iprop(own d L T ∗ (a.view.loc (V d (cV L) (jV L)) ↦[(rset b.len w).map a.view.emb]{fullShare} f) ∗ semVal (V d (cV L) (jV L), .dma sem) 0
        ∗ owes (V d (cV L) (jV L)) O W ∗ Transfers.MayWaits (V d (cV L) (jV L)) (default : HIx 1) O)
      ⊢ iprop((iprop(own d L (T.set b g) ∗ (a.view.loc (V d (cV L) (jV L)) ↦[(rset b.len w).map a.view.emb]{fullShare} f)
            ∗ semVal (V d (cV L) (jV L), .dma sem) 0 ∗ owes (V d (cV L) (jV L)) O (insert (SemLoc.dma sem, (default : HIx 1)) W))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (Prog.op (.enqueueDma (rowm a off inb sq) (.here b.mem) (.dma sem) h1 h2 h3) fun _ => Prog.op (.waitDma2 sem (rowm a off inb sq) b.mem h4 h5) k) Q) := by
  iintro ⟨Hown, Hs, Hv, HO, Hmw⟩ Hk
  ihave Hown' := (own_take d L b T (T.set b g) (set_ne b g)) $$ Hown
  icases Hown' with ⟨Hb, Hback⟩
  rw [← set_row (a := a) (inb := inb) (sq := sq) ho]
  have hc := wp_copy (thr := V d (cV L) (jV L)) (src := rowm a off inb sq) (dst := b.mem) (sem := sem) (h1 := h1) (h2 := h2) (h3 := h3) (h4 := h4) (h5 := h5)
    (defs := defs₀ (F := F)) (𝒱 := 𝒱₀) (bd := none) (k := k) (Q := Q) (fs := f) (Sd := Finset.univ) (fd := T.buf b) (O := O) (W := W) (q := fullShare)
    (pos_len b) (Finset.subset_univ _)
  iapply hc $$ [Hs Hb Hv HO Hmw]
  · isplitl [Hs]; · iexact Hs
    isplitl [Hb]; · iexact Hb
    isplitl [Hv]; · iexact Hv
    isplitl [HO] <;> iassumption
  rw [fill_buf b g _ fun k => (read_row (inb := inb) (sq := sq) ho f (at1 k)).trans (hg k)]
  iintro ⟨Hs, Hb, Hv, HO⟩
  iapply Hk
  isplitl [Hb Hback]; · iapply Hback; iexact Hb
  isplitl [Hs]; · iexact Hs
  isplitl [Hv] <;> iassumption

/-- A scratch buffer copied out to a row. -/
theorem flush (b : B) {a : Memref sig .scVector .hbm (R2 b.len) b.elt} {off : Fin 2 → ℕ} {inb : ∀ x, off x + (R1 b.len).size x ≤ (R2 b.len).size x}
    {sq : (R1 b.len).Squeezes (V1 b.len)} {w : Fin 32} (ho : off = ![w.val, 0]) {sem : DmaSem sig}
    {h2 : (rowm a off inb sq).view.WordExact} {h1 : b.mem.view.WordExact} {h3 : DmaTarget.Typed (nD := nD) .vmem (.dma sem) (DmaTarget.here (p := (V d (cV L) (jV L)).2) (rowm a off inb sq))}
    {h5 : (rowm a off inb sq).view.WordExact} {h4 : b.mem.view.WordExact}
    {k : PUnit → Tprog F L α} {Q : α → sProp 𝕄} {f : Buf (Elt F) (a.view.loc (V d (cV L) (jV L)))}
    {O : CellTallies nD τ sig (HIx 1)} {W : Waits sig (HIx 1)} :
    iprop(own d L T ∗ (a.view.loc (V d (cV L) (jV L)) ↦[(rset b.len w).map a.view.emb]{fullShare} f) ∗ semVal (V d (cV L) (jV L), .dma sem) 0
        ∗ owes (V d (cV L) (jV L)) O W ∗ Transfers.MayWaits (V d (cV L) (jV L)) (default : HIx 1) O)
      ⊢ iprop((iprop(own d L T ∗ (∃ g, ⌜∀ k : Fin b.len, a.view.read (Elt F) g (at2 w k) = T.get b k.val⌝
              ∗ (a.view.loc (V d (cV L) (jV L)) ↦[(rset b.len w).map a.view.emb]{fullShare} g))
            ∗ semVal (V d (cV L) (jV L), .dma sem) 0 ∗ owes (V d (cV L) (jV L)) O (insert (SemLoc.dma sem, (default : HIx 1)) W))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (Prog.op (.enqueueDma b.mem (.here (rowm a off inb sq)) (.dma sem) h1 h2 h3) fun _ => Prog.op (.waitDma2 sem b.mem (rowm a off inb sq) h4 h5) k) Q) := by
  iintro ⟨Hown, Hs, Hv, HO, Hmw⟩ Hk
  ihave Hown' := (own_take d L b T T (fun _ _ => rfl)) $$ Hown
  icases Hown' with ⟨Hb, Hback⟩
  rw [← set_row (a := a) (inb := inb) (sq := sq) ho]
  ihave Hb' := (Entails.of_eq (show (b.mem.view.loc (V d (cV L) (jV L)) ↦{fullShare} T.buf b : sProp 𝕄)
      = b.mem.view.loc (V d (cV L) (jV L)) ↦[b.mem.view.set]{fullShare} T.buf b by rw [set_buf])) $$ Hb
  have hc := wp_copy (thr := V d (cV L) (jV L)) (src := b.mem) (dst := rowm a off inb sq) (sem := sem) (h1 := h1) (h2 := h2) (h3 := h3) (h4 := h4) (h5 := h5)
    (defs := defs₀ (F := F)) (𝒱 := 𝒱₀) (bd := none) (k := k) (Q := Q) (fs := T.buf b) (Sd := (rowm a off inb sq).view.set) (fd := f) (O := O) (W := W) (q := fullShare)
    (pos_len b) (Finset.Subset.refl _)
  iapply hc $$ [Hs Hb' Hv HO Hmw]
  · isplitl [Hb']; · iexact Hb'
    isplitl [Hs]; · iexact Hs
    isplitl [Hv]; · iexact Hv
    isplitl [HO] <;> iassumption
  iintro ⟨Hb, Hs, Hv, HO⟩
  ihave Hb' := (Entails.of_eq (show (b.mem.view.loc (V d (cV L) (jV L)) ↦[b.mem.view.set]{fullShare} T.buf b : sProp 𝕄)
      = b.mem.view.loc (V d (cV L) (jV L)) ↦{fullShare} T.buf b by rw [set_buf])) $$ Hb
  iapply Hk
  isplitl [Hb' Hback]; · iapply Hback; iexact Hb'
  isplitl [Hs]
  · iexists _
    isplitr
    swap; · iexact Hs
    ipureintro
    intro k
    exact (read_write_row (inb := inb) (sq := sq) ho f _ k).trans (congrFun (read_buf T b) (at1 k))
  isplitl [Hv] <;> iassumption

end Cert.Proof.Tile

end
-- ==== Proof.Body.lean ====
/-
  A tile's run of the whole body, from its rows of the operands to its rows of the results.
-/
module

public import proofs.«01_k».proof.Proof.Final
public import proofs.«01_k».proof.Proof.Copies

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F] {d : Dev nD} {L : grid0.Coords} {T : St F}

theorem lt_bound (L : grid0.Coords) : 2 * (L 1).val + (L 0).val < 32 := by
  have h0 : (L 0).val < 2 := (L 0).isLt
  have h1 : (L 1).val < 16 := (L 1).isLt
  omega

/-- The row of tile `L`. -/
def wid (L : grid0.Coords) : Fin 32 := ⟨2 * (L 1).val + (L 0).val, lt_bound L⟩

/-- Row `w` of an array, by column. -/
def line {N : ℕ} [NeZero N] {α : Type} (r : (R2 N).Idx → α) (w : Fin 32) (i : ℕ) : α := r (at2 w (Fin.ofNat N i))

theorem line_fin {N : ℕ} [NeZero N] {α : Type} (r : (R2 N).Idx → α) (w : Fin 32) (k : Fin N) : r (at2 w k) = line r w k.val := by
  unfold line
  rw [Fin.ofNat_val_eq_self]

/-- The tile's row of an array, at what the buffer `f` holds. -/
abbrev rowPt {N : ℕ} {e : EltTy} (d : Dev nD) (L : grid0.Coords) (a : Memref sig .scVector .hbm (R2 N) e) (f : Buf (Elt F) (a.view.loc (V d (cV L) (jV L)))) : sProp 𝕄 :=
  a.view.loc (V d (cV L) (jV L)) ↦[(rset N (wid L)).map a.view.emb]{fullShare} f

theorem Res.congr {p : ℕ → BitVec 32} {bx sc : ℕ → F .f32} {s s' l l' : ℕ → BitVec 32} {b b' : ℕ → F .f32} (h : Res p bx sc s l b)
    (hs : ∀ k < 304, s' k = s k) (hl : ∀ k < 304, l' k = l k) (hb : ∀ k < 1216, b' k = b k) : Res p bx sc s' l' b' := by
  intro k hk
  obtain ⟨i, hi, hr, h1, h2, h3⟩ := h k hk
  exact ⟨i, hi, hr, (hs k (by omega)).trans h1, (hl k (by omega)).trans h2, fun c hc => (hb _ (by omega)).trans (h3 c hc)⟩

/-- The piece of the body that copies the tile's rows in and zeroes the histogram. -/
theorem part12_eq (A : Args) {α : Type} (f : _ → Tprog F L α) : A.ap L (k0_part12 (F := F)) >>= f =
    Prog.op (.enqueueDma (rowm (N := 81920) A.a2 (k0_off1 L) (k0_off1_inb L) squeezes_S1x81920_S81920) (.here (B.mem .pv)) (.dma A.r0.sem) ((View.wordExact_bits rfl).reshape _ _) A.h8.wordExact ⟨Or.inl rfl, trivial⟩) fun _ =>
    Prog.op (.waitDma2 A.r0.sem (rowm (N := 81920) A.a2 (k0_off1 L) (k0_off1_inb L) squeezes_S1x81920_S81920) (B.mem .pv) ((View.wordExact_bits rfl).reshape _ _) A.h8.wordExact) fun _ =>
    Prog.op (.enqueueDma (rowm (N := 3600) A.a3 (k0_off2 L) (k0_off2_inb L) squeezes_S1x3600_S3600) (.here (B.mem .bx)) (.dma A.r1.sem) ((View.wordExact_bits rfl).reshape _ _) A.h9.wordExact ⟨Or.inl rfl, trivial⟩) fun _ =>
    Prog.op (.waitDma2 A.r1.sem (rowm (N := 3600) A.a3 (k0_off2 L) (k0_off2_inb L) squeezes_S1x3600_S3600) (B.mem .bx) ((View.wordExact_bits rfl).reshape _ _) A.h9.wordExact) fun _ =>
    Prog.op (.enqueueDma (rowm (N := 32) A.a4 (k0_off3 L) (k0_off3_inb L) squeezes_S1x32_S32) (.here (B.mem .sc)) (.dma A.r2.sem) ((View.wordExact_bits rfl).reshape _ _) A.h10.wordExact ⟨Or.inl rfl, trivial⟩) fun _ =>
    Prog.op (.waitDma2 A.r2.sem (rowm (N := 32) A.a4 (k0_off3 L) (k0_off3_inb L) squeezes_S1x32_S32) (B.mem .sc) ((View.wordExact_bits rfl).reshape _ _) A.h10.wordExact) fun _ =>
    Scf.Loop.for k0_t1_loop k0_t1_ok 0#32 (A.ap L (k0_t1_body (F := F))) >>= fun _ => f ⟨lanes, k0_pay89, 0#32⟩ := by
  have h : ∀ (p : Tprog F L (BitVec 32)) (g : ((_ : IVec S16 32) ×' (_ : IVec S16 32) ×' BitVec 32) → Tprog F L α),
      (p >>= fun _ => (pure ⟨lanes, k0_pay89, 0#32⟩ : Tprog F L ((_ : IVec S16 32) ×' (_ : IVec S16 32) ×' BitVec 32))) >>= g
        = p >>= fun _ => g ⟨lanes, k0_pay89, 0#32⟩ := fun p g => by
    rw [bind_assoc]; rfl
  rw [k0_part12_eq_skeleton, ← h]
  rfl

/-- The body is its first pieces and a last copy out. -/
theorem body_eq (A : Args) : A.ap L (cc0__sc_body (F := F)) = A.ap L (k0_part46 (F := F)) >>= fun _ =>
    Prog.op (.enqueueDma (B.mem .bo) (.here (rowm (N := 1216) A.a7 (k0_off23 L) (k0_off23_inb L) squeezes_S1x1216_S1216)) (.dma A.r5.sem) A.h19.wordExact ((View.wordExact_bits rfl).reshape _ _) ⟨Or.inl rfl, trivial⟩) fun _ =>
    Prog.op (.waitDma2 A.r5.sem (B.mem .bo) (rowm (N := 1216) A.a7 (k0_off23 L) (k0_off23_inb L) squeezes_S1x1216_S1216) A.h19.wordExact ((View.wordExact_bits rfl).reshape _ _)) fun _ => pure ⟨⟩ := by
  rw [cc0__sc_body_eq_skeleton]
  rfl

theorem tail_eq (A : Args) {α : Type} (f : PUnit → Tprog F L α) : tail A L >>= f =
    Prog.op (.enqueueDma (B.mem .so) (.here (rowm (N := 304) A.a5 (k0_off22 L) (k0_off22_inb L) squeezes_S1x304_S304)) (.dma A.r3.sem) A.h17.wordExact ((View.wordExact_bits rfl).reshape _ _) ⟨Or.inl rfl, trivial⟩) fun _ =>
    Prog.op (.waitDma2 A.r3.sem (B.mem .so) (rowm (N := 304) A.a5 (k0_off22 L) (k0_off22_inb L) squeezes_S1x304_S304) A.h17.wordExact ((View.wordExact_bits rfl).reshape _ _)) fun _ =>
    Prog.op (.enqueueDma (B.mem .lo) (.here (rowm (N := 304) A.a6 (k0_off22 L) (k0_off22_inb L) squeezes_S1x304_S304)) (.dma A.r4.sem) A.h18.wordExact ((View.wordExact_bits rfl).reshape _ _) ⟨Or.inl rfl, trivial⟩) fun _ =>
    Prog.op (.waitDma2 A.r4.sem (B.mem .lo) (rowm (N := 304) A.a6 (k0_off22 L) (k0_off22_inb L) squeezes_S1x304_S304) A.h18.wordExact ((View.wordExact_bits rfl).reshape _ _)) fun _ => f ⟨⟩ := rfl

/-- What a tile's rows of the results hold, from its rows of the operands. -/
def Out (p : (R2 81920).Idx → BitVec 32) (bx : (R2 3600).Idx → F .f32) (sc : (R2 32).Idx → F .f32)
    (s l : (R2 304).Idx → BitVec 32) (b : (R2 1216).Idx → F .f32) (w : Fin 32) : Prop :=
  Res (line p w) (line bx w) (line sc w) (line s w) (line l w) (line b w)

set_option maxHeartbeats 1000000 in
/-- The whole body at a tile. -/
theorem wp_body (A : Args) (T : St F) (O : CellTallies nD τ sig (HIx 1)) (W : Waits sig (HIx 1))
    (f2 : Buf (Elt F) (A.a2.view.loc (V d (cV L) (jV L)))) (f3 : Buf (Elt F) (A.a3.view.loc (V d (cV L) (jV L)))) (f4 : Buf (Elt F) (A.a4.view.loc (V d (cV L) (jV L))))
    (f5 : Buf (Elt F) (A.a5.view.loc (V d (cV L) (jV L)))) (f6 : Buf (Elt F) (A.a6.view.loc (V d (cV L) (jV L)))) (f7 : Buf (Elt F) (A.a7.view.loc (V d (cV L) (jV L))))
    (hp : Words (line (N := 81920) (A.a2.view.read (Elt F) f2) (wid L))) :
    iprop(own d L T ∗ (rowPt (N := 81920) d L A.a2 f2 ∗ rowPt (N := 3600) d L A.a3 f3 ∗ rowPt (N := 32) d L A.a4 f4
          ∗ rowPt (N := 304) d L A.a5 f5 ∗ rowPt (N := 304) d L A.a6 f6 ∗ rowPt (N := 1216) d L A.a7 f7)
        ∗ (semVal (V d (cV L) (jV L), .dma A.r0.sem) 0 ∗ semVal (V d (cV L) (jV L), .dma A.r1.sem) 0 ∗ semVal (V d (cV L) (jV L), .dma A.r2.sem) 0
          ∗ semVal (V d (cV L) (jV L), .dma A.r3.sem) 0 ∗ semVal (V d (cV L) (jV L), .dma A.r4.sem) 0 ∗ semVal (V d (cV L) (jV L), .dma A.r5.sem) 0)
        ∗ owes (V d (cV L) (jV L)) O W ∗ Transfers.MayWaits (V d (cV L) (jV L)) (default : HIx 1) O)
      ⊢ wp frame (wpE (defs₀ (F := F)) 𝒱₀ (V d (cV L) (jV L)) none) Set.univ (A.ap L (cc0__sc_body (F := F)))
          fun _ => iprop((∃ T', own d L T')
            ∗ (rowPt (N := 81920) d L A.a2 f2 ∗ rowPt (N := 3600) d L A.a3 f3 ∗ rowPt (N := 32) d L A.a4 f4
              ∗ ∃ g5 g6 g7, ⌜Out (A.a2.view.read (Elt F) f2) (A.a3.view.read (Elt F) f3) (A.a4.view.read (Elt F) f4)
                  (A.a5.view.read (Elt F) g5) (A.a6.view.read (Elt F) g6) (A.a7.view.read (Elt F) g7) (wid L)⌝
                ∗ rowPt (N := 304) d L A.a5 g5 ∗ rowPt (N := 304) d L A.a6 g6 ∗ rowPt (N := 1216) d L A.a7 g7)
            ∗ (semVal (V d (cV L) (jV L), .dma A.r0.sem) 0 ∗ semVal (V d (cV L) (jV L), .dma A.r1.sem) 0 ∗ semVal (V d (cV L) (jV L), .dma A.r2.sem) 0
              ∗ semVal (V d (cV L) (jV L), .dma A.r3.sem) 0 ∗ semVal (V d (cV L) (jV L), .dma A.r4.sem) 0 ∗ semVal (V d (cV L) (jV L), .dma A.r5.sem) 0)
            ∗ ∃ W', ⌜∀ p ∈ W', p ∈ W ∨ p.2 = none⌝ ∗ owes (V d (cV L) (jV L)) O W') := by
  obtain ⟨f, hf, hmid⟩ := mid (F := F) (d := d) (L := L) A
  rw [body_eq, hf, bind_assoc, part12_eq]
  iintro ⟨Hown, ⟨H2, H3, H4, H5, H6, H7⟩, ⟨S0, S1, S2, S3, S4, S5⟩, HO, #Hmw⟩
  iapply (fetch .pv (k0_off1_eq L) (line (N := 81920) (A.a2.view.read (Elt F) f2) (wid L)) (line_fin (N := 81920) _ (wid L))) $$ [Hown H2 S0 HO]
  · isplitl [Hown]; · iexact Hown
    isplitl [H2]; · iexact H2
    isplitl [S0]; · iexact S0
    isplitl [HO]; · iexact HO
    iexact Hmw
  iintro ⟨Hown, H2, S0, HO⟩
  iapply (fetch .bx (k0_off2_eq L) (line (N := 3600) (A.a3.view.read (Elt F) f3) (wid L)) (line_fin (N := 3600) _ (wid L))) $$ [Hown H3 S1 HO]
  · isplitl [Hown]; · iexact Hown
    isplitl [H3]; · iexact H3
    isplitl [S1]; · iexact S1
    isplitl [HO]; · iexact HO
    iexact Hmw
  iintro ⟨Hown, H3, S1, HO⟩
  iapply (fetch .sc (k0_off3_eq L) (line (N := 32) (A.a4.view.read (Elt F) f4) (wid L)) (line_fin (N := 32) _ (wid L))) $$ [Hown H4 S2 HO]
  · isplitl [Hown]; · iexact Hown
    isplitl [H4]; · iexact H4
    isplitl [S2]; · iexact S2
    isplitl [HO]; · iexact HO
    iexact Hmw
  iintro ⟨Hown, H4, S2, HO⟩
  obtain ⟨_, T1, ⟨h, hT, h0⟩, hz⟩ := zero1 (F := F) (d := d) (L := L)
    (T := ((T.set .pv (line (N := 81920) (A.a2.view.read (Elt F) f2) (wid L))).set .bx (line (N := 3600) (A.a3.view.read (Elt F) f3) (wid L))).set .sc
      (line (N := 32) (A.a4.view.read (Elt F) f4) (wid L))) A
  subst hT
  iapply (hz _ _ _) $$ [Hown]; · iexact Hown
  iintro Hown
  obtain ⟨T2, hres, hrun⟩ := hmid { ((T.set .pv (line (N := 81920) (A.a2.view.read (Elt F) f2) (wid L))).set .bx (line (N := 3600) (A.a3.view.read (Elt F) f3) (wid L))).set .sc
      (line (N := 32) (A.a4.view.read (Elt F) f4) (wid L)) with hist := h } hp h0
  rw [wp_bind]
  iapply (hrun _) $$ [Hown]; · iexact Hown
  iintro Hown
  rw [← wp_bind, tail_eq]
  iapply (flush .so (w := wid L) (k0_off22_eq L)) $$ [Hown H5 S3 HO]
  · isplitl [Hown]; · iexact Hown
    isplitl [H5]; · iexact H5
    isplitl [S3]; · iexact S3
    isplitl [HO]; · iexact HO
    iexact Hmw
  iintro ⟨Hown, ⟨%g5, %hg5, H5⟩, S3, HO⟩
  iapply (flush .lo (w := wid L) (k0_off22_eq L)) $$ [Hown H6 S4 HO]
  · isplitl [Hown]; · iexact Hown
    isplitl [H6]; · iexact H6
    isplitl [S4]; · iexact S4
    isplitl [HO]; · iexact HO
    iexact Hmw
  iintro ⟨Hown, ⟨%g6, %hg6, H6⟩, S4, HO⟩
  iapply (flush .bo (w := wid L) (k0_off23_eq L)) $$ [Hown H7 S5 HO]
  · isplitl [Hown]; · iexact Hown
    isplitl [H7]; · iexact H7
    isplitl [S5]; · iexact S5
    isplitl [HO]; · iexact HO
    iexact Hmw
  iintro ⟨Hown, ⟨%g7, %hg7, H7⟩, S5, HO⟩
  rw [wp_pure]
  imodintro
  isplitl [Hown]; · iexists _; iexact Hown
  isplitl [H2 H3 H4 H5 H6 H7]
  · isplitl [H2]; · iexact H2
    isplitl [H3]; · iexact H3
    isplitl [H4]; · iexact H4
    iexists g5; iexists g6; iexists g7
    isplitr
    · ipureintro
      exact Res.congr hres (fun k hk => (line_fin (N := 304) _ _ ⟨k, hk⟩).symm.trans (hg5 ⟨k, hk⟩))
        (fun k hk => (line_fin (N := 304) _ _ ⟨k, hk⟩).symm.trans (hg6 ⟨k, hk⟩))
        (fun k hk => (line_fin (N := 1216) _ _ ⟨k, hk⟩).symm.trans (hg7 ⟨k, hk⟩))
    isplitl [H5]; · iexact H5
    isplitl [H6]; · iexact H6
    iexact H7
  isplitl [S0 S1 S2 S3 S4 S5]
  · isplitl [S0]; · iexact S0
    isplitl [S1]; · iexact S1
    isplitl [S2]; · iexact S2
    isplitl [S3]; · iexact S3
    isplitl [S4]; · iexact S4
    iexact S5
  iexists _; isplitr
  swap; · iexact HO
  ipureintro; intro p hp
  simp only [Finset.mem_insert] at hp
  rcases hp with rfl | rfl | rfl | rfl | rfl | rfl | hp
  · exact .inr rfl
  · exact .inr rfl
  · exact .inr rfl
  · exact .inr rfl
  · exact .inr rfl
  · exact .inr rfl
  · exact .inl hp

end Cert.Proof.Tile

end
-- ==== Proof.Scratch.lean ====
/-
  The scratch and the counters among what a tile owns.
-/
module

public import proofs.«01_k».proof.Proof.Body

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

/-! ## The tile's own buffers and counters -/

variable (d : Dev nD) (L : grid0.Coords)

/-- The scratch buffers among the tile's own. -/
def bufEmb : B ↪ DevRef τ sig := ⟨fun b => (Proc.scVector (cV L) (jV L)).devRef b.ref, fun b b' h =>
  (by decide : ∀ b b' : B, b.ref = b'.ref → b = b') b b' (Proc.devRef_injective _ h)⟩

theorem loc_eq (b : B) : b.mem.view.loc (V d (cV L) (jV L)) = (d, bufEmb L b) := by
  cases b <;> rfl

theorem exists_loc (b : B) : (iprop(∃ f, ((d, bufEmb L b) : Loc nD τ sig) ↦{fullShare} f) : sProp 𝕄)
    = iprop(∃ f, b.mem.view.loc (V d (cV L) (jV L)) ↦{fullShare} f) := by
  rw [loc_eq]

theorem exists_buf (fs : ∀ b : B, Buf (Elt F) (b.mem.view.loc (V d (cV L) (jV L)))) : ∃ T : St F, ∀ b, T.buf b = fs b := by
  have key : ∀ {N : ℕ} [NeZero N] {α : Type} (f : (V1 N).Idx → α), (fun i : (V1 N).Idx => f (at1 (Fin.ofNat N (i 0).val))) = f := fun {N} _ {α} f => by
    funext i
    have e : at1 (Fin.ofNat N (i 0).val) = i := by
      funext a; obtain rfl := Fin.eq_zero a
      exact Fin.ofNat_val_eq_self _
    rw [e]
  refine ⟨⟨fun n => fs .pv (at1 (N := 81920) (Fin.ofNat _ n)), fun n => fs .bx (at1 (N := 3600) (Fin.ofNat _ n)), fun n => fs .sc (at1 (N := 32) (Fin.ofNat _ n)),
    fun n => fs .hist (at1 (N := 8192) (Fin.ofNat _ n)), fun n => fs .cu (at1 (N := 4128) (Fin.ofNat _ n)), fun n => fs .ci (at1 (N := 4128) (Fin.ofNat _ n)),
    fun n => fs .du (at1 (N := 320) (Fin.ofNat _ n)), fun n => fs .di (at1 (N := 320) (Fin.ofNat _ n)), fun n => fs .op (at1 (N := 304) (Fin.ofNat _ n)),
    fun n => fs .so (at1 (N := 304) (Fin.ofNat _ n)), fun n => fs .lo (at1 (N := 304) (Fin.ofNat _ n)), fun n => fs .bo (at1 (N := 1216) (Fin.ofNat _ n))⟩, ?_⟩
  intro b
  cases b <;> exact key _

theorem buf_sub : Finset.univ.map (bufEmb L) ⊆ ownRefs (τ := τ) (.scVector (cV L) (jV L)) := by
  intro b hb
  obtain ⟨b, -, rfl⟩ := Finset.mem_map.mp hb
  refine SparseCore.Cfg.mem_ownRefs_of_owner ?_
  cases b <;> rfl

/-- What the tile owns besides its scratch. -/
def restBufs : sProp 𝕄 :=
  bigSep (ownRefs (τ := τ) (.scVector (cV L) (jV L)) \ Finset.univ.map (bufEmb L)) fun b => iprop(∃ f, ((d, b) : Loc nD τ sig) ↦{fullShare} f)

theorem ownBufs_eq : (ownBufs (V d (cV L) (jV L)) : sProp 𝕄)
    = iprop((bigSep Finset.univ fun b : B => iprop(∃ f, b.mem.view.loc (V d (cV L) (jV L)) ↦{fullShare} f)) ∗ restBufs d L) := by
  unfold SparseCore.Cfg.ownBufs restBufs
  rw [SparseCore.bigSep_sdiff_split' (buf_sub L), bigSep_map, bigSep_congr fun b _ => exists_loc d L b]

/-- The tile's own buffers are its scratch, at some contents, and the rest. -/
theorem own_of_bufs [∀ e, Nonempty (Elt F e)] : (bigSep Finset.univ fun b : B => iprop(∃ f, b.mem.view.loc (V d (cV L) (jV L)) ↦{fullShare} f))
    ⊢ (iprop(∃ T : St F, own d L T) : sProp 𝕄) := by
  refine (bigSep_exists_pi Finset.univ (fun (b : B) (f : Buf (Elt F) (b.mem.view.loc (V d (cV L) (jV L)))) => (b.mem.view.loc (V d (cV L) (jV L)) ↦{fullShare} f : sProp 𝕄))).trans ?_
  iintro ⟨%fs, H⟩
  obtain ⟨T, hT⟩ := exists_buf d L fs
  iexists T
  unfold own
  simp only [hT]
  iexact H

theorem bufs_of_own : (iprop(∃ T : St F, own d L T) : sProp 𝕄)
    ⊢ bigSep Finset.univ fun b : B => iprop(∃ f, b.mem.view.loc (V d (cV L) (jV L)) ↦{fullShare} f) := by
  iintro ⟨%T, H⟩
  have h : own d L T ⊢ (bigSep Finset.univ fun b : B => iprop(∃ f, b.mem.view.loc (V d (cV L) (jV L)) ↦{fullShare} f) : sProp 𝕄) := by
    unfold own
    have h : ∀ b : B, (b.mem.view.loc (V d (cV L) (jV L)) ↦{fullShare} T.buf b : sProp 𝕄)
        ⊢ iprop(∃ f, b.mem.view.loc (V d (cV L) (jV L)) ↦{fullShare} f) := fun b => by
      iintro H; iexists (T.buf b); iexact H
    exact bigSep_mono fun b _ => h b
  iapply h $$ H

/-- The counters the tile's copies complete on. -/
def semNo (i : Fin 6) : SemLoc sig := .dma (match i with
  | 0 => cc0_scoped0.sem | 1 => cc0_scoped1.sem | 2 => cc0_scoped2.sem | 3 => cc0_scoped3.sem | 4 => cc0_scoped4.sem | 5 => cc0_scoped5.sem)

def semEmb : Fin 6 ↪ GSem nD τ sig := ⟨fun i => (V d (cV L) (jV L), semNo i), fun i j h =>
  (by decide : ∀ i j, semNo i = semNo j → i = j) i j (congrArg Prod.snd h)⟩

theorem sem_sub : Finset.univ.map (semEmb d L) ⊆ ownCells (V d (cV L) (jV L)) := by
  intro g hg
  obtain ⟨i, -, rfl⟩ := Finset.mem_map.mp hg
  exact mem_ownCells.mpr ⟨rfl, (by decide : ∀ i, (semNo i).isScoped .scVector = true) i⟩

/-- The tile's own counters besides those. -/
def restSems : sProp 𝕄 := bigSep (ownCells (V d (cV L) (jV L)) \ Finset.univ.map (semEmb d L)) fun g => semVal g 0

/-- The tile's own counters are these six and the rest. -/
theorem ownSems0_eq : (ownSems0 (V d (cV L) (jV L)) : sProp 𝕄) =
    iprop((semVal (V d (cV L) (jV L), .dma cc0_scoped0.sem) 0 ∗ semVal (V d (cV L) (jV L), .dma cc0_scoped1.sem) 0 ∗ semVal (V d (cV L) (jV L), .dma cc0_scoped2.sem) 0
      ∗ semVal (V d (cV L) (jV L), .dma cc0_scoped3.sem) 0 ∗ semVal (V d (cV L) (jV L), .dma cc0_scoped4.sem) 0 ∗ semVal (V d (cV L) (jV L), .dma cc0_scoped5.sem) 0) ∗ restSems d L) := by
  unfold SparseCore.Cfg.ownSems0 restSems
  rw [SparseCore.bigSep_sdiff_split' (sem_sub d L), bigSep_map]
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]
  rfl

end Cert.Proof.Tile

end
-- ==== Proof.Tiles.lean ====
/-
  The tiles' task: what a tile is handed and what it hands back.
-/
module

public import proofs.«01_k».proof.Proof.Scratch
public import Idealize.ShloMosaic.Lib.SparseCore.Quiescent
public import Idealize.ShloMosaic.Lib.StableHlo.Run
public import Idealize.ShloMosaic.Lib.Pipeline.Kit

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-- The arrays the call names. -/
def args : Args := ⟨Memref.whole main_v0_scv, Memref.isWhole_whole _, Memref.whole main_v1_scv, Memref.isWhole_whole _, Memref.whole main_v11_scv, Memref.isWhole_whole _,
  Memref.whole main_v12_0_scv, Memref.isWhole_whole _, Memref.whole main_v12_1_scv, Memref.isWhole_whole _, Memref.whole main_v12_2_scv, Memref.isWhole_whole _,
  Memref.isWhole_whole _, Memref.isWhole_whole _, Memref.isWhole_whole _, Memref.isWhole_whole _, Memref.isWhole_whole _, Memref.isWhole_whole _,
  Memref.isWhole_whole _, Memref.isWhole_whole _, Memref.isWhole_whole _, Memref.isWhole_whole _, Memref.isWhole_whole _, Memref.isWhole_whole _,
  cc0_scoped0, cc0_scoped1, cc0_scoped2, cc0_scoped3, cc0_scoped4, cc0_scoped5⟩

/-! ## What a tile is handed and hands back -/

/-- What the six arrays hold. -/
abbrev Con (F : FTy → Type) (b : Ref sig .tc) : Type := (Proc.devRef (τ := τ) .tc b).ty.Contents (Elt F)

/-- Row `w` of an array. -/
abbrev pt (d : Dev nD) (b : Ref sig .tc) (I : Finset (Idx ((SparseCore.T d : Thread nD τ).loc b))) (f : Con F b) : sProp 𝕄 := (SparseCore.T d).loc b ↦[I]{fullShare} f

/-- The rows `w` of the three operands. -/
abbrev ins (d : Dev nD) (w : Fin 32) (p : Con F main_v0) (bx : Con F main_v1) (sc : Con F main_v11) : sProp 𝕄 :=
  iprop(pt d main_v0 (rset 81920 w) p ∗ pt d main_v1 (rset 3600 w) bx ∗ pt d main_v11 (rset 32 w) sc)

/-- The rows `w` of the three results. -/
abbrev outs (d : Dev nD) (w : Fin 32) (g : Con F main_v12_0 × Con F main_v12_1 × Con F main_v12_2) : sProp 𝕄 :=
  iprop(pt d main_v12_0 (rset 304 w) g.1 ∗ pt d main_v12_1 (rset 304 w) g.2.1 ∗ pt d main_v12_2 (rset 1216 w) g.2.2)

section Rows

variable (d : Dev nD) (L : grid0.Coords)

theorem row_v0 (f : Con F main_v0) : (rowPt (N := 81920) d L args.a2 f : sProp 𝕄) = pt d main_v0 (rset 81920 (wid L)) f :=
  congrArg (fun I => (pt d main_v0 I f : sProp 𝕄)) Finset.map_refl
theorem row_v1 (f : Con F main_v1) : (rowPt (N := 3600) d L args.a3 f : sProp 𝕄) = pt d main_v1 (rset 3600 (wid L)) f :=
  congrArg (fun I => (pt d main_v1 I f : sProp 𝕄)) Finset.map_refl
theorem row_v11 (f : Con F main_v11) : (rowPt (N := 32) d L args.a4 f : sProp 𝕄) = pt d main_v11 (rset 32 (wid L)) f :=
  congrArg (fun I => (pt d main_v11 I f : sProp 𝕄)) Finset.map_refl
theorem row_s (f : Con F main_v12_0) : (rowPt (N := 304) d L args.a5 f : sProp 𝕄) = pt d main_v12_0 (rset 304 (wid L)) f :=
  congrArg (fun I => (pt d main_v12_0 I f : sProp 𝕄)) Finset.map_refl
theorem row_l (f : Con F main_v12_1) : (rowPt (N := 304) d L args.a6 f : sProp 𝕄) = pt d main_v12_1 (rset 304 (wid L)) f :=
  congrArg (fun I => (pt d main_v12_1 I f : sProp 𝕄)) Finset.map_refl
theorem row_b (f : Con F main_v12_2) : (rowPt (N := 1216) d L args.a7 f : sProp 𝕄) = pt d main_v12_2 (rset 1216 (wid L)) f :=
  congrArg (fun I => (pt d main_v12_2 I f : sProp 𝕄)) Finset.map_refl

end Rows

variable [FloatOps F] [∀ e, Nonempty (Elt F e)]

set_option maxHeartbeats 1000000 in
/-- The task at a tile. -/
theorem tile_body (d : Dev nD) (L : grid0.Coords) (p : Con F main_v0) (bx : Con F main_v1) (sc : Con F main_v11) (g : Con F main_v12_0 × Con F main_v12_1 × Con F main_v12_2)
    (hp : Words (line (N := 81920) p (wid L))) (O : CellTallies nD τ sig (HIx 1)) (W : Waits sig (HIx 1)) (hO : ∀ g, O g none = 0) :
    iprop(levAts (K (F := F)).L (K (F := F)).lev ∗ emp ∗ (ins d (wid L) p bx sc ∗ outs d (wid L) g)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (args.ap L (cc0__sc_body (F := F)))
          fun _ => iprop((ins d (wid L) p bx sc ∗ ∃ g, ⌜Out p bx sc g.1 g.2.1 g.2.2 (wid L)⌝ ∗ outs d (wid L) g)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_eq, ownBufs_eq]
  iintro ⟨#Hlv, -, ⟨⟨H2, H3, H4⟩, H5, H6, H7⟩, ⟨Hb, Hbr⟩, ⟨HS, Hsr⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hown := (own_of_bufs d L) $$ Hb
  icases Hown with ⟨%T, Hown⟩
  ihave H2 := (Entails.of_eq (row_v0 (F := F) d L p).symm) $$ H2
  ihave H3 := (Entails.of_eq (row_v1 (F := F) d L bx).symm) $$ H3
  ihave H4 := (Entails.of_eq (row_v11 (F := F) d L sc).symm) $$ H4
  ihave H5 := (Entails.of_eq (row_s (F := F) d L g.1).symm) $$ H5
  ihave H6 := (Entails.of_eq (row_l (F := F) d L g.2.1).symm) $$ H6
  ihave H7 := (Entails.of_eq (row_b (F := F) d L g.2.2).symm) $$ H7
  have hbody := wp_body (F := F) (d := d) (L := L) args T O W p bx sc g.1 g.2.1 g.2.2 hp
  iapply (wp_wand frame (wpE (defs₀ (F := F)) 𝒱₀ (V d (cV L) (jV L)) none) Set.univ) $$ [Hown H2 H3 H4 H5 H6 H7 HS HO Hmw]
  · iapply hbody
    isplitl [Hown]; · iexact Hown
    isplitl [H2 H3 H4 H5 H6 H7]
    · isplitl [H2]; · iexact H2
      isplitl [H3]; · iexact H3
      isplitl [H4]; · iexact H4
      isplitl [H5]; · iexact H5
      isplitl [H6]; · iexact H6
      iexact H7
    isplitl [HS]; · iexact HS
    isplitl [HO]; · iexact HO
    iexact Hmw
  iintro %_ ⟨Hown, ⟨H2, H3, H4, %g5, %g6, %g7, %hg, H5, H6, H7⟩, HS, HO⟩
  isplitl [H2 H3 H4 H5 H6 H7]
  · isplitl [H2 H3 H4]
    · isplitl [H2]; · iapply (Entails.of_eq (row_v0 (F := F) d L p)); iexact H2
      isplitl [H3]; · iapply (Entails.of_eq (row_v1 (F := F) d L bx)); iexact H3
      iapply (Entails.of_eq (row_v11 (F := F) d L sc)); iexact H4
    iexists (g5, g6, g7)
    isplitr
    · ipureintro; exact hg
    isplitl [H5]; · iapply (Entails.of_eq (row_s (F := F) d L g5)); iexact H5
    isplitl [H6]; · iapply (Entails.of_eq (row_l (F := F) d L g6)); iexact H6
    iapply (Entails.of_eq (row_b (F := F) d L g7)); iexact H7
  isplitl [Hown Hbr]
  · isplitl [Hown]
    · iapply (bufs_of_own d L) $$ Hown
    iexact Hbr
  isplitl [HS Hsr]
  · isplitl [HS]; · iexact HS
    iexact Hsr
  iexact HO

end Cert.Proof.Tile

end
-- ==== Proof.Launch.lean ====
/-
  The launch: the call's tasks among the host's operations, and the program's run.
-/
module

public import proofs.«01_k».proof.Proof.Tiles

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F]

/-! ## The host operations on either side of the call -/

/-- Before the call: the words padded, the boxes in rows, the widths and heights side by side. -/
def opsA : List (HloOp τ sig (Elt F)) := [
  StableHlo.nullary main_c (constantI S_ 32 0#32),
  StableHlo.unary main_c main_call0_v0 (id : (⟨S_, .i32⟩ : BufTy).Contents (Elt F) → (⟨S_, .i32⟩ : BufTy).Contents (Elt F)),
  StableHlo.binary main_arg0 main_call0_v0 main_v0 ((fun x v => pad S32x81920 ![0, 0] ![0, 20] ![0, 0] x v pads_S32x81900_S32x81920_000_0200 h_S_) : (⟨S32x81900, .i32⟩ : BufTy).Contents (Elt F) → (⟨S_, .i32⟩ : BufTy).Contents (Elt F) → (⟨S32x81920, .i32⟩ : BufTy).Contents (Elt F)),
  StableHlo.reshape main_arg1 main_v1 (rfl : (.f32 : EltTy) = .f32) shapeCasts_S32x900x4_S32x3600,
  StableHlo.unary main_arg2 main_v2 (sitofp .f32 : (⟨S32x2, .i32⟩ : BufTy).Contents (Elt F) → (⟨S32x2, .f32⟩ : BufTy).Contents (Elt F)),
  StableHlo.unary main_v2 main_v3 ((extractStridedSlice S32x1 ![0, 0] · slices_S32x2_S32x1_0_0) : (⟨S32x2, .f32⟩ : BufTy).Contents (Elt F) → (⟨S32x1, .f32⟩ : BufTy).Contents (Elt F)),
  StableHlo.reshape main_v3 main_v4 (rfl : (.f32 : EltTy) = .f32) shapeCasts_S32x1_S32,
  StableHlo.unary main_v2 main_v5 ((extractStridedSlice S32x1 ![0, 1] · slices_S32x2_S32x1_0_1) : (⟨S32x2, .f32⟩ : BufTy).Contents (Elt F) → (⟨S32x1, .f32⟩ : BufTy).Contents (Elt F)),
  StableHlo.reshape main_v5 main_v6 (rfl : (.f32 : EltTy) = .f32) shapeCasts_S32x1_S32,
  StableHlo.unary main_v6 main_v7 (broadcastInDim S32x1 ![0] bcast_S32_S32x1_0 : (⟨S32, .f32⟩ : BufTy).Contents (Elt F) → (⟨S32x1, .f32⟩ : BufTy).Contents (Elt F)),
  StableHlo.unary main_v7 main_v8 (broadcastInDim S32x16 ![0, 1] bcast_S32x1_S32x16_0_1 : (⟨S32x1, .f32⟩ : BufTy).Contents (Elt F) → (⟨S32x16, .f32⟩ : BufTy).Contents (Elt F)),
  StableHlo.unary main_v4 main_v9 (broadcastInDim S32x1 ![0] bcast_S32_S32x1_0 : (⟨S32, .f32⟩ : BufTy).Contents (Elt F) → (⟨S32x1, .f32⟩ : BufTy).Contents (Elt F)),
  StableHlo.unary main_v9 main_v10 (broadcastInDim S32x16 ![0, 1] bcast_S32x1_S32x16_0_1 : (⟨S32x1, .f32⟩ : BufTy).Contents (Elt F) → (⟨S32x16, .f32⟩ : BufTy).Contents (Elt F)),
  StableHlo.binary main_v8 main_v10 main_v11 ((fun a b => concatenate S32x32 1 [⟨S32x16, a⟩, ⟨S32x16, b⟩] concatenates_S32x16_S32x16_S32x32_d1) : (⟨S32x16, .f32⟩ : BufTy).Contents (Elt F) → (⟨S32x16, .f32⟩ : BufTy).Contents (Elt F) → (⟨S32x32, .f32⟩ : BufTy).Contents (Elt F))]

/-- After it: the first three hundred of each row, the corners innermost. -/
def opsB : List (HloOp τ sig (Elt F)) := [
  StableHlo.unary main_v12_0 main_v13 ((extractStridedSlice S32x300 ![0, 0] · slices_S32x304_S32x300_0_0) : (⟨S32x304, .i32⟩ : BufTy).Contents (Elt F) → (⟨S32x300, .i32⟩ : BufTy).Contents (Elt F)),
  StableHlo.unary main_v12_1 main_v14 ((extractStridedSlice S32x300 ![0, 0] · slices_S32x304_S32x300_0_0) : (⟨S32x304, .i32⟩ : BufTy).Contents (Elt F) → (⟨S32x300, .i32⟩ : BufTy).Contents (Elt F)),
  StableHlo.reshape main_v12_2 main_v15 (rfl : (.f32 : EltTy) = .f32) shapeCasts_S32x1216_S32x4x304,
  StableHlo.unary main_v15 main_v16 ((transpose S32x304x4 [0, 2, 1] · transposes_S32x4x304_S32x304x4_0_2_1) : (⟨S32x4x304, .f32⟩ : BufTy).Contents (Elt F) → (⟨S32x304x4, .f32⟩ : BufTy).Contents (Elt F)),
  StableHlo.unary main_v16 main_v17 ((extractStridedSlice S32x300x4 ![0, 0, 0] · slices_S32x304x4_S32x300x4_0_0_0) : (⟨S32x304x4, .f32⟩ : BufTy).Contents (Elt F) → (⟨S32x300x4, .f32⟩ : BufTy).Contents (Elt F))]

set_option maxRecDepth 16384 in
theorem main_eq (d : Dev nD) : main (F := F) d = StableHlo.seq opsA >>= fun _ => sc.run d 0 >>= fun _ => StableHlo.seq opsB >>= fun _ => pure ⟨⟩ := rfl

/-! ## The arrays the host holds -/

theorem isScoped_eq (b : Ref sig .tc) : (Proc.devRef (τ := τ) .tc b).isScoped = b.isScoped := rfl

/-- The TensorCore's arrays. -/
def arrs : Finset (DevRef τ sig) :=
  (Finset.univ.filter fun b : Ref sig .tc => ¬ b.isScoped).map ⟨Proc.devRef (sig := sig) (.tc : Proc τ), Proc.devRef_injective _⟩

omit [FloatOps F] in
theorem mem_arrs {b : Ref sig .tc} (h : (Proc.devRef (τ := τ) .tc b).isScoped = false) : Proc.devRef (τ := τ) .tc b ∈ arrs :=
  Finset.mem_map_of_mem _ (Finset.mem_filter.mpr ⟨Finset.mem_univ _, by rw [← isScoped_eq, h]; decide⟩)

omit [FloatOps F] in
theorem sub_nullary (y : Ref sig .tc) (v : y.ty.Contents (Elt F)) (hy) : (StableHlo.nullary (τ := τ) y v hy).bufs ⊆ arrs :=
  Finset.singleton_subset_iff.mpr (mem_arrs hy.2)
omit [FloatOps F] in
theorem sub_unary (x y : Ref sig .tc) (f : x.ty.Contents (Elt F) → y.ty.Contents (Elt F)) (hx hy) : (StableHlo.unary (τ := τ) x y f hx hy).bufs ⊆ arrs :=
  Finset.insert_subset (mem_arrs hx.2) (Finset.singleton_subset_iff.mpr (mem_arrs hy.2))
omit [FloatOps F] in
theorem sub_binary (a b y : Ref sig .tc) (f : a.ty.Contents (Elt F) → b.ty.Contents (Elt F) → y.ty.Contents (Elt F)) (ha hb hy) :
    (StableHlo.binary (τ := τ) a b y f ha hb hy).bufs ⊆ arrs :=
  Finset.insert_subset (mem_arrs ha.2) (Finset.insert_subset (mem_arrs hb.2) (Finset.singleton_subset_iff.mpr (mem_arrs hy.2)))
omit [FloatOps F] in
theorem sub_reshape (x y : Ref sig .tc) (he hn hx hy) : (StableHlo.reshape (τ := τ) (Val := Elt F) x y he hn hx hy).bufs ⊆ arrs :=
  Finset.insert_subset (mem_arrs hx.2) (Finset.singleton_subset_iff.mpr (mem_arrs hy.2))

theorem opsA_sub : ∀ op ∈ opsA (F := F), op.bufs ⊆ arrs := by
  refine List.forall_iff_forall_mem.mp ?_
  unfold opsA
  exact ⟨sub_nullary _ _ _, sub_unary _ _ _ _ _, sub_binary _ _ _ _ _ _ _, sub_reshape _ _ _ _ _ _, sub_unary _ _ _ _ _, sub_unary _ _ _ _ _, sub_reshape _ _ _ _ _ _,
    sub_unary _ _ _ _ _, sub_reshape _ _ _ _ _ _, sub_unary _ _ _ _ _, sub_unary _ _ _ _ _, sub_unary _ _ _ _ _, sub_unary _ _ _ _ _, sub_binary _ _ _ _ _ _ _⟩
theorem opsB_sub : ∀ op ∈ opsB (F := F), op.bufs ⊆ arrs := by
  refine List.forall_iff_forall_mem.mp ?_
  unfold opsB
  exact ⟨sub_unary _ _ _ _ _, sub_unary _ _ _ _ _, sub_reshape _ _ _ _ _ _, sub_unary _ _ _ _ _, sub_unary _ _ _ _ _⟩
theorem opsA_fresh : ∀ op ∈ opsA (F := F), op.fresh = ∅ :=
  List.forall_iff_forall_mem.mp (StableHlo.forall_fresh_of_map rfl)
theorem opsB_fresh : ∀ op ∈ opsB (F := F), op.fresh = ∅ :=
  List.forall_iff_forall_mem.mp (StableHlo.forall_fresh_of_map rfl)

abbrev dr (b : Ref sig .tc) : DevRef τ sig := Proc.devRef .tc b

/-- The call's six arrays. -/
def six : Finset (DevRef τ sig) := {dr main_v0, dr main_v1, dr main_v11, dr main_v12_0, dr main_v12_1, dr main_v12_2}

omit [FloatOps F] in
theorem six_sub : six ⊆ arrs := by
  intro b hb
  simp only [six, Finset.mem_insert, Finset.mem_singleton] at hb
  rcases hb with rfl | rfl | rfl | rfl | rfl | rfl <;> exact mem_arrs rfl

omit [FloatOps F] in
theorem unscoped_held (m : (ℓ : Loc nD τ sig) → Buf (Elt F) ℓ) (d : Dev nD) :
    (unscopedBufs d (fun b => m ((SparseCore.T d).loc b)) : sProp 𝕄) = StableHlo.held (T d) arrs (fun b => m (d, b)) := by
  unfold unscopedBufs StableHlo.held arrs
  rw [bigSep_map]
  rfl

/-- The contents after the call, from those before it and the three results. -/
def put (U : Valuation τ sig (Elt F)) (g : Con F main_v12_0 × Con F main_v12_1 × Con F main_v12_2) : Valuation τ sig (Elt F) :=
  Function.update (Function.update (Function.update U (dr main_v12_0) g.1) (dr main_v12_1) g.2.1) (dr main_v12_2) g.2.2

omit [FloatOps F] in
theorem held_six (d : Dev nD) (U : Valuation τ sig (Elt F)) : (StableHlo.held (T d) six U : sProp 𝕄)
    = iprop(pt d main_v0 Finset.univ (U (dr main_v0)) ∗ pt d main_v1 Finset.univ (U (dr main_v1)) ∗ pt d main_v11 Finset.univ (U (dr main_v11))
      ∗ pt d main_v12_0 Finset.univ (U (dr main_v12_0)) ∗ pt d main_v12_1 Finset.univ (U (dr main_v12_1)) ∗ pt d main_v12_2 Finset.univ (U (dr main_v12_2))) := by
  unfold StableHlo.held six
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem put_of (U : Valuation τ sig (Elt F)) (g) {b : DevRef τ sig} (h : b ∉ ({dr main_v12_0, dr main_v12_1, dr main_v12_2} : Finset (DevRef τ sig))) : put U g b = U b := by
  simp only [Finset.mem_insert, Finset.mem_singleton, not_or] at h
  unfold put
  rw [Function.update_of_ne h.2.2, Function.update_of_ne h.2.1, Function.update_of_ne h.1]
omit [FloatOps F] in
theorem put_s (U : Valuation τ sig (Elt F)) (g) : put U g (dr main_v12_0) = g.1 := by
  unfold put
  rw [Function.update_of_ne (by decide), Function.update_of_ne (by decide), Function.update_self]
omit [FloatOps F] in
theorem put_l (U : Valuation τ sig (Elt F)) (g) : put U g (dr main_v12_1) = g.2.1 := by
  unfold put
  rw [Function.update_of_ne (by decide), Function.update_self]
omit [FloatOps F] in
theorem put_b (U : Valuation τ sig (Elt F)) (g) : put U g (dr main_v12_2) = g.2.2 := by
  unfold put
  rw [Function.update_self]

/-! ## The rows of the arrays -/

omit [FloatOps F] in
theorem whole_rows {ℓ : Loc nD τ sig} {K : Fin 32 → Finset (Idx ℓ)} (hd : ∀ w ∈ (Finset.univ : Finset (Fin 32)), ∀ w' ∈ (Finset.univ : Finset (Fin 32)), w ≠ w' → Disjoint (K w) (K w'))
    (hc : (Finset.univ : Finset (Fin 32)).biUnion K = Finset.univ) (f : Buf (Elt F) ℓ) :
    (ℓ ↦{fullShare} f : sProp 𝕄) = bigSep Finset.univ fun w => ℓ ↦[K w]{fullShare} f := by
  rw [← pointsTo_biUnion Finset.univ (ℓ := ℓ) K hd, hc]

omit [FloatOps F] in
/-- The six arrays whole are their rows. -/
theorem rows_eq (d : Dev nD) (p : Con F main_v0) (bx : Con F main_v1) (sc : Con F main_v11) (g : Con F main_v12_0 × Con F main_v12_1 × Con F main_v12_2) :
    (iprop(pt d main_v0 Finset.univ p ∗ pt d main_v1 Finset.univ bx ∗ pt d main_v11 Finset.univ sc
      ∗ pt d main_v12_0 Finset.univ g.1 ∗ pt d main_v12_1 Finset.univ g.2.1 ∗ pt d main_v12_2 Finset.univ g.2.2) : sProp 𝕄)
      = bigSep Finset.univ fun w : Fin 32 => iprop(pt d main_v0 (rset 81920 w) p ∗ pt d main_v1 (rset 3600 w) bx ∗ pt d main_v11 (rset 32 w) sc
        ∗ pt d main_v12_0 (rset 304 w) g.1 ∗ pt d main_v12_1 (rset 304 w) g.2.1 ∗ pt d main_v12_2 (rset 1216 w) g.2.2) := by
  rw [bigSep_sep', bigSep_sep', bigSep_sep', bigSep_sep', bigSep_sep']
  have e0 : (pt d main_v0 Finset.univ p : sProp 𝕄) = bigSep Finset.univ fun w : Fin 32 => pt d main_v0 (rset 81920 w) p :=
    whole_rows (ℓ := (SparseCore.T d).loc main_v0) (K := rset 81920) rset_disjoint rset_cover p
  have e1 : (pt d main_v1 Finset.univ bx : sProp 𝕄) = bigSep Finset.univ fun w : Fin 32 => pt d main_v1 (rset 3600 w) bx :=
    whole_rows (ℓ := (SparseCore.T d).loc main_v1) (K := rset 3600) rset_disjoint rset_cover bx
  have e2 : (pt d main_v11 Finset.univ sc : sProp 𝕄) = bigSep Finset.univ fun w : Fin 32 => pt d main_v11 (rset 32 w) sc :=
    whole_rows (ℓ := (SparseCore.T d).loc main_v11) (K := rset 32) rset_disjoint rset_cover sc
  have e3 : (pt d main_v12_0 Finset.univ g.1 : sProp 𝕄) = bigSep Finset.univ fun w : Fin 32 => pt d main_v12_0 (rset 304 w) g.1 :=
    whole_rows (ℓ := (SparseCore.T d).loc main_v12_0) (K := rset 304) rset_disjoint rset_cover g.1
  have e4 : (pt d main_v12_1 Finset.univ g.2.1 : sProp 𝕄) = bigSep Finset.univ fun w : Fin 32 => pt d main_v12_1 (rset 304 w) g.2.1 :=
    whole_rows (ℓ := (SparseCore.T d).loc main_v12_1) (K := rset 304) rset_disjoint rset_cover g.2.1
  have e5 : (pt d main_v12_2 Finset.univ g.2.2 : sProp 𝕄) = bigSep Finset.univ fun w : Fin 32 => pt d main_v12_2 (rset 1216 w) g.2.2 :=
    whole_rows (ℓ := (SparseCore.T d).loc main_v12_2) (K := rset 1216) rset_disjoint rset_cover g.2.2
  rw [e0, e1, e2, e3, e4, e5]

omit [FloatOps F] in
theorem join_rows {ℓ : Loc nD τ sig} {K : Fin 32 → Finset (Idx ℓ)} (hd : ∀ w ∈ (Finset.univ : Finset (Fin 32)), ∀ w' ∈ (Finset.univ : Finset (Fin 32)), w ≠ w' → Disjoint (K w) (K w'))
    (hc : (Finset.univ : Finset (Fin 32)).biUnion K = Finset.univ) (fs : Fin 32 → Buf (Elt F) ℓ) :
    (bigSep Finset.univ fun w => ℓ ↦[K w]{fullShare} fs w) ⊢ (iprop(∃ g, ⌜∀ w, ∀ i ∈ K w, g i = fs w i⌝ ∗ ℓ ↦{fullShare} g) : sProp 𝕄) := by
  refine (pointsTo_biUnion_join (ℓ := ℓ) (q := fullShare) (Val := Elt F) Finset.univ K fs (fs 0) hd).trans ?_
  iintro ⟨%g, %h, H⟩
  rw [hc]
  iexists g
  isplitr; · ipureintro; exact fun w => h w (Finset.mem_univ _)
  iexact H

end Cert.Proof.Tile

end
-- ==== Proof.Run.lean ====
/-
  The call's handshakes, the host's program around it, and the whole program's run.
-/
module

public import proofs.«01_k».proof.Proof.Launch

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F] [∀ e, Nonempty (Elt F e)]
variable (m : (ℓ : Loc nD τ sig) → Buf (Elt F) ℓ) (ρ : Dev nD → PrngReg)

/-- What the arrays hold when the call starts. -/
def U (d : Dev nD) : Valuation τ sig (Elt F) := StableHlo.after opsA fun b => m (d, b)

/-- What the proof asks of the words: each row is within range, is padded with zeros, and has few coarse candidates. -/
def PreOK : Prop := ∀ (d : Dev nD) (w : Fin 32), Words (line (N := 81920) (U m d (dr main_v0)) w)

/-- What the call leaves. -/
def OutAll (d : Dev nD) (g : Con F main_v12_0 × Con F main_v12_1 × Con F main_v12_2) : Prop :=
  ∀ w, Out (U m d (dr main_v0)) (U m d (dr main_v1)) (U m d (dr main_v11)) g.1 g.2.1 g.2.2 w

abbrev insR (d : Dev nD) (w : Fin 32) : sProp 𝕄 := ins d w (U m d (dr main_v0)) (U m d (dr main_v1)) (U m d (dr main_v11))
abbrev outs0 (d : Dev nD) (w : Fin 32) : sProp 𝕄 := outs d w (U m d (dr main_v12_0), U m d (dr main_v12_1), U m d (dr main_v12_2))
abbrev outsR (d : Dev nD) (w : Fin 32) : sProp 𝕄 :=
  iprop(∃ g, ⌜Out (U m d (dr main_v0)) (U m d (dr main_v1)) (U m d (dr main_v11)) g.1 g.2.1 g.2.2 w⌝ ∗ outs d w g)

/-- The row of tile `i` of SparseCore `c`. -/
def rowOf (c : Fin 2) (i : Fin 16) : Fin 32 := ⟨2 * i.val + c.val, by omega⟩

/-- The call hands each SparseCore its tiles' rows; each tile its own, and brings them back, the results' rows written. -/
def P : (K (F := F)).Pay (nD := nD) (Val := Elt F) (Name := ℕ) (U := UU) where
  st := fun q d c => match q with | 0 => bigSep Finset.univ fun i : Fin 16 => iprop(insR m d (rowOf (Fin.cast nCore_zero c) i) ∗ outs0 m d (rowOf (Fin.cast nCore_zero c) i))
  dn := fun q d c => match q with | 0 => bigSep Finset.univ fun i : Fin 16 => iprop(insR m d (rowOf (Fin.cast nCore_zero c) i) ∗ outsR m d (rowOf (Fin.cast nCore_zero c) i))
  go := fun q d c i => match q with
    | 0 => iprop(insR m d (rowOf (Fin.cast nCore_zero c) (Fin.cast nSub_zero i)) ∗ outs0 m d (rowOf (Fin.cast nCore_zero c) (Fin.cast nSub_zero i)))
  td := fun q d c i => match q with
    | 0 => iprop(insR m d (rowOf (Fin.cast nCore_zero c) (Fin.cast nSub_zero i)) ∗ outsR m d (rowOf (Fin.cast nCore_zero c) (Fin.cast nSub_zero i)))
  x := fun _ _ => iprop(emp)

instance P_storable : (P (F := F) m).IsStorable where
  st q d c := match q with
    | 0 => (inferInstance : BI.Storable (upEmb : UEmb _ 𝕄)
        (bigSep Finset.univ fun i : Fin 16 => iprop(insR m d (rowOf (Fin.cast nCore_zero c) i) ∗ outs0 m d (rowOf (Fin.cast nCore_zero c) i))))
  dn q d c := match q with
    | 0 => (inferInstance : BI.Storable (upEmb : UEmb _ 𝕄)
        (bigSep Finset.univ fun i : Fin 16 => iprop(insR m d (rowOf (Fin.cast nCore_zero c) i) ∗ outsR m d (rowOf (Fin.cast nCore_zero c) i))))
  go q d c i := match q with
    | 0 => (inferInstance : BI.Storable (upEmb : UEmb _ 𝕄)
        iprop(insR m d (rowOf (Fin.cast nCore_zero c) (Fin.cast nSub_zero i)) ∗ outs0 m d (rowOf (Fin.cast nCore_zero c) (Fin.cast nSub_zero i))))
  td q d c i := match q with
    | 0 => (inferInstance : BI.Storable (upEmb : UEmb _ 𝕄)
        iprop(insR m d (rowOf (Fin.cast nCore_zero c) (Fin.cast nSub_zero i)) ∗ outsR m d (rowOf (Fin.cast nCore_zero c) (Fin.cast nSub_zero i))))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => args.ap (coordsV c s) (cc0__sc_body (F := F))) ⟨⟩ c s := rfl

theorem widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (U m d (dr main_v0)) (U m d (dr main_v1)) (U m d (dr main_v11)) (U m d (dr main_v12_0), U m d (dr main_v12_1), U m d (dr main_v12_2))
    (hpre d _) O W hO).trans (wp_mono frame _ _ fun _ => widen)

omit [FloatOps F] [∀ e, Nonempty (Elt F e)] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => iprop(insR m d (rowOf (Fin.cast nCore_zero c) i) ∗ outs0 m d (rowOf (Fin.cast nCore_zero c) i))) ⊢ |={Set.univ}=> iprop(
      (bigSep Finset.univ fun i : Fin ((K (F := F)).nSub 0) =>
        iprop(insR m d (rowOf (Fin.cast nCore_zero c) (Fin.cast nSub_zero i)) ∗ outs0 m d (rowOf (Fin.cast nCore_zero c) (Fin.cast nSub_zero i))))
      ∗ ((bigSep Finset.univ fun i : Fin ((K (F := F)).nSub 0) =>
          iprop(insR m d (rowOf (Fin.cast nCore_zero c) (Fin.cast nSub_zero i)) ∗ outsR m d (rowOf (Fin.cast nCore_zero c) (Fin.cast nSub_zero i))))
          -∗ bigSep Finset.univ fun i : Fin 16 => iprop(insR m d (rowOf (Fin.cast nCore_zero c) i) ∗ outsR m d (rowOf (Fin.cast nCore_zero c) i))))
  rw [bigSep_tasks (F := F) (fun i => iprop(insR m d (rowOf (Fin.cast nCore_zero c) i) ∗ outs0 m d (rowOf (Fin.cast nCore_zero c) i))),
    bigSep_tasks (F := F) (fun i => iprop(insR m d (rowOf (Fin.cast nCore_zero c) i) ∗ outsR m d (rowOf (Fin.cast nCore_zero c) i)))]
  iintro H; imodintro
  isplitl [H]; · iexact H
  iintro H; iexact H

/-- The rows, SparseCore by SparseCore. -/
def rowEquiv : Fin 2 × Fin 16 ≃ Fin 32 where
  toFun x := rowOf x.1 x.2
  invFun w := (⟨w.val % 2, Nat.mod_lt _ (by omega)⟩, ⟨w.val / 2, by omega⟩)
  left_inv x := by
    obtain ⟨c, i⟩ := x
    refine Prod.ext (Fin.ext ?_) (Fin.ext ?_) <;> simp only [rowOf] <;> omega
  right_inv w := Fin.ext (by simp only [rowOf]; omega)

omit [FloatOps F] [∀ e, Nonempty (Elt F e)] in
theorem cores_rows (Φ : Fin 32 → sProp 𝕄) :
    (bigSep Finset.univ fun c : Fin ((K (F := F)).nCore 0) => bigSep Finset.univ fun i : Fin 16 => Φ (rowOf (Fin.cast nCore_zero c) i)) = bigSep Finset.univ Φ := by
  rw [bigSep_univ_equiv rowEquiv, bigSep_univ_prod]
  exact bigSep_congr fun _ _ => rfl

theorem st_eq (d : Dev nD) : (bigSep Finset.univ fun c : Fin ((K (F := F)).nCore 0) => (P m).st 0 d c)
    = bigSep Finset.univ fun w : Fin 32 => iprop(insR m d w ∗ outs0 m d w) :=
  cores_rows (F := F) fun w => iprop(insR m d w ∗ outs0 m d w)
theorem dn_eq (d : Dev nD) : (bigSep Finset.univ fun c : Fin ((K (F := F)).nCore 0) => (P m).dn 0 d c)
    = bigSep Finset.univ fun w : Fin 32 => iprop(insR m d w ∗ outsR m d w) :=
  cores_rows (F := F) fun w => iprop(insR m d w ∗ outsR m d w)

end Cert.Proof.Tile

end
-- ==== Proof.Main.lean ====
/-
  The whole program's run: the host's operations, the call between them, and what they leave.
-/
module

public import proofs.«01_k».proof.Proof.Run

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F] [∀ e, Nonempty (Elt F e)]
variable (m : (ℓ : Loc nD τ sig) → Buf (Elt F) ℓ) (ρ : Dev nD → PrngReg)

theorem line_congr {N : ℕ} [NeZero N] {α : Type} {r r' : (R2 N).Idx → α} {w : Fin 32} (h : ∀ i ∈ rset N w, r i = r' i) : line r w = line r' w :=
  funext fun _ => h _ (mem_rset.mpr rfl)

omit [FloatOps F] [∀ e, Nonempty (Elt F e)] in
theorem outs_rows (d : Dev nD) (gs : Fin 32 → Con F main_v12_0 × Con F main_v12_1 × Con F main_v12_2) :
    (bigSep Finset.univ fun w : Fin 32 => (outs d w (gs w) : sProp 𝕄)) = iprop((bigSep Finset.univ fun w : Fin 32 => pt d main_v12_0 (rset 304 w) (gs w).1)
      ∗ (bigSep Finset.univ fun w : Fin 32 => pt d main_v12_1 (rset 304 w) (gs w).2.1) ∗ (bigSep Finset.univ fun w : Fin 32 => pt d main_v12_2 (rset 1216 w) (gs w).2.2)) := by
  rw [bigSep_sep', bigSep_sep']

omit [FloatOps F] [∀ e, Nonempty (Elt F e)] in
theorem ins_rows (d : Dev nD) (p : Con F main_v0) (bx : Con F main_v1) (sc : Con F main_v11) :
    (bigSep Finset.univ fun w : Fin 32 => (ins d w p bx sc : sProp 𝕄))
      = iprop(pt d main_v0 Finset.univ p ∗ pt d main_v1 Finset.univ bx ∗ pt d main_v11 Finset.univ sc) := by
  rw [bigSep_sep', bigSep_sep']
  have e0 : (pt d main_v0 Finset.univ p : sProp 𝕄) = bigSep Finset.univ fun w : Fin 32 => pt d main_v0 (rset 81920 w) p :=
    whole_rows (ℓ := (SparseCore.T d).loc main_v0) (K := rset 81920) rset_disjoint rset_cover p
  have e1 : (pt d main_v1 Finset.univ bx : sProp 𝕄) = bigSep Finset.univ fun w : Fin 32 => pt d main_v1 (rset 3600 w) bx :=
    whole_rows (ℓ := (SparseCore.T d).loc main_v1) (K := rset 3600) rset_disjoint rset_cover bx
  have e2 : (pt d main_v11 Finset.univ sc : sProp 𝕄) = bigSep Finset.univ fun w : Fin 32 => pt d main_v11 (rset 32 w) sc :=
    whole_rows (ℓ := (SparseCore.T d).loc main_v11) (K := rset 32) rset_disjoint rset_cover sc
  rw [e0, e1, e2]

omit [FloatOps F] [∀ e, Nonempty (Elt F e)] in
theorem regroup (A B C D : sProp 𝕄) : (iprop(A ∗ B ∗ C ∗ D) : sProp 𝕄) ⊢ iprop((A ∗ B ∗ C) ∗ D) := by
  iintro ⟨H1, H2, H3, H4⟩
  isplitr [H4]
  · isplitl [H1]; · iexact H1
    isplitl [H2]; · iexact H2
    iexact H3
  iexact H4

omit [FloatOps F] [∀ e, Nonempty (Elt F e)] in
theorem split_rows (d : Dev nD) (p : Con F main_v0) (bx : Con F main_v1) (sc : Con F main_v11) (g : Con F main_v12_0 × Con F main_v12_1 × Con F main_v12_2) :
    (iprop(pt d main_v0 Finset.univ p ∗ pt d main_v1 Finset.univ bx ∗ pt d main_v11 Finset.univ sc
      ∗ pt d main_v12_0 Finset.univ g.1 ∗ pt d main_v12_1 Finset.univ g.2.1 ∗ pt d main_v12_2 Finset.univ g.2.2) : sProp 𝕄)
      ⊢ bigSep Finset.univ fun w : Fin 32 => iprop(ins d w p bx sc ∗ outs d w g) := by
  rw [rows_eq]
  have e : ∀ w : Fin 32, (iprop(pt d main_v0 (rset 81920 w) p ∗ pt d main_v1 (rset 3600 w) bx ∗ pt d main_v11 (rset 32 w) sc ∗ outs d w g) : sProp 𝕄) ⊢ iprop(ins d w p bx sc ∗ outs d w g) := fun w => regroup _ _ _ _
  exact bigSep_mono fun w _ => e w

omit [∀ e, Nonempty (Elt F e)] in
theorem take_rows [∀ e, Nonempty (Elt F e)] (d : Dev nD) : (bigSep Finset.univ fun w : Fin 32 => outsR m d w)
    ⊢ (iprop(∃ gs : Fin 32 → Con F main_v12_0 × Con F main_v12_1 × Con F main_v12_2,
      ⌜∀ w, Out (U m d (dr main_v0)) (U m d (dr main_v1)) (U m d (dr main_v11)) (gs w).1 (gs w).2.1 (gs w).2.2 w⌝ ∗ bigSep Finset.univ fun w => outs d w (gs w)) : sProp 𝕄) := by
  have hne : Nonempty (Con F main_v12_0 × Con F main_v12_1 × Con F main_v12_2) :=
    ⟨(fun _ => Classical.arbitrary _, fun _ => Classical.arbitrary _, fun _ => Classical.arbitrary _)⟩
  refine (bigSep_exists_pi Finset.univ (fun (w : Fin 32) (g : Con F main_v12_0 × Con F main_v12_1 × Con F main_v12_2) =>
    (iprop(⌜Out (U m d (dr main_v0)) (U m d (dr main_v1)) (U m d (dr main_v11)) g.1 g.2.1 g.2.2 w⌝ ∗ outs d w g) : sProp 𝕄))).trans ?_
  iintro ⟨%gs, H⟩
  ihave H := (bigSep_pure_sep Finset.univ (fun w => Out (U m d (dr main_v0)) (U m d (dr main_v1)) (U m d (dr main_v11)) (gs w).1 (gs w).2.1 (gs w).2.2 w)
    (fun w => outs d w (gs w))) $$ H
  icases H with ⟨%hg, H⟩
  iexists gs
  isplitr
  · ipureintro; exact fun w => hg w (Finset.mem_univ _)
  iexact H

/-- The results' rows, each as its tile left it, are three arrays. -/
theorem outs_join (d : Dev nD) : (bigSep Finset.univ fun w : Fin 32 => outsR m d w) ⊢ (iprop(∃ g, ⌜OutAll m d g⌝
    ∗ pt d main_v12_0 Finset.univ g.1 ∗ pt d main_v12_1 Finset.univ g.2.1 ∗ pt d main_v12_2 Finset.univ g.2.2) : sProp 𝕄) := by
  refine (take_rows m d).trans ?_
  iintro ⟨%gs, %hg, H⟩
  ihave H := (Entails.of_eq (outs_rows d gs)) $$ H
  icases H with ⟨Hs, Hl, Hb⟩
  ihave Hs := (join_rows (ℓ := (SparseCore.T d).loc main_v12_0) (K := rset 304) rset_disjoint rset_cover (fun w => (gs w).1)) $$ Hs
  ihave Hl := (join_rows (ℓ := (SparseCore.T d).loc main_v12_1) (K := rset 304) rset_disjoint rset_cover (fun w => (gs w).2.1)) $$ Hl
  ihave Hb := (join_rows (ℓ := (SparseCore.T d).loc main_v12_2) (K := rset 1216) rset_disjoint rset_cover (fun w => (gs w).2.2)) $$ Hb
  icases Hs with ⟨%s, %hs, Hs⟩
  icases Hl with ⟨%l, %hl, Hl⟩
  icases Hb with ⟨%b, %hb, Hb⟩
  iexists (s, l, b)
  isplitr
  · ipureintro
    intro w
    have h := hg w
    unfold Out at h ⊢
    rw [line_congr (N := 304) (hs w), line_congr (N := 304) (hl w), line_congr (N := 1216) (hb w)]
    exact h
  isplitl [Hs]; · iexact Hs
  isplitl [Hl]; · iexact Hl
  iexact Hb

/-- What the program leaves, from what the call left. -/
def E (d : Dev nD) (g : Con F main_v12_0 × Con F main_v12_1 × Con F main_v12_2) : Valuation τ sig (Elt F) := StableHlo.after opsB (put (U m d) g)

abbrev FIN (d : Dev nD) : sProp 𝕄 := iprop(∃ g, ⌜OutAll m d g⌝ ∗ StableHlo.held (T d) arrs (E m d g))

omit [FloatOps F] [∀ e, Nonempty (Elt F e)] in
theorem held_put (d : Dev nD) (W : Valuation τ sig (Elt F)) (g) : (iprop((pt d main_v0 Finset.univ (W (dr main_v0)) ∗ pt d main_v1 Finset.univ (W (dr main_v1)) ∗ pt d main_v11 Finset.univ (W (dr main_v11))
      ∗ pt d main_v12_0 Finset.univ g.1 ∗ pt d main_v12_1 Finset.univ g.2.1 ∗ pt d main_v12_2 Finset.univ g.2.2) ∗ StableHlo.held (T d) (arrs \ six) W) : sProp 𝕄)
      = StableHlo.held (T d) arrs (put W g) := by
  rw [StableHlo.held_sub_split (T d) six_sub (put W g), held_six d (put W g), put_s, put_l, put_b, put_of (b := dr main_v0) W g (by decide),
    put_of (b := dr main_v1) W g (by decide), put_of (b := dr main_v11) W g (by decide)]
  have e : (StableHlo.held (T d) (arrs \ six) W : sProp 𝕄) = StableHlo.held (T d) (arrs \ six) (put W g) := by
    refine StableHlo.held_congr (T d) fun b hb => (put_of _ _ fun h => (Finset.mem_sdiff.mp hb).2 ?_).symm
    revert h
    simp only [six, Finset.mem_insert, Finset.mem_singleton]
    tauto
  rw [e]

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq (defs := (K (F := F)).defs (D (F := F))) 𝒱 none Set.univ d arrs _ (opsA (F := F)) opsA_sub opsA_fresh (fun b => m (d, b))) $$ [Hb Hheld]
  · isplitl [Hb] <;> iassumption
  iintro ⟨Hb, Hheld⟩
  rw [wp_bind]
  have h1 : (StableHlo.held (SparseCore.T d) arrs (StableHlo.after opsA fun b => m (d, b)) : sProp 𝕄)
      ⊢ iprop((bigSep Finset.univ fun w : Fin 32 => iprop(insR m d w ∗ outs0 m d w)) ∗ StableHlo.held (T d) (arrs \ six) (U m d)) := by
    change (StableHlo.held (T d) arrs (U m d) : sProp 𝕄) ⊢ _
    rw [StableHlo.held_sub_split (T d) six_sub (U m d), held_six d (U m d)]
    exact sep_mono_left (split_rows d _ _ _ (U m d (dr main_v12_0), U m d (dr main_v12_1), U m d (dr main_v12_2)))
  ihave Hh := h1 $$ Hheld
  icases Hh with ⟨Hrows, Hrest⟩
  iapply ((K (F := F)).wp_run (D (F := F)) 𝒱 (EH := EH) (P := P m) κ d 0) $$ [Hst Hrows Hb Hts Hrest]
  isplitr; · iexact Hctx
  isplitl [Hst]; · iexact Hst
  isplitl [Hrows]
  · rw [st_eq]
    iexact Hrows
  iintro ⟨Hst, Hdn⟩
  have h2 : (bigSep Finset.univ fun c : Fin ((K (F := F)).nCore 0) => (P m).dn 0 d c)
      ⊢ (iprop(∃ g, ⌜OutAll m d g⌝ ∗ (pt d main_v0 Finset.univ (U m d (dr main_v0)) ∗ pt d main_v1 Finset.univ (U m d (dr main_v1)) ∗ pt d main_v11 Finset.univ (U m d (dr main_v11))
      ∗ pt d main_v12_0 Finset.univ g.1 ∗ pt d main_v12_1 Finset.univ g.2.1 ∗ pt d main_v12_2 Finset.univ g.2.2)) : sProp 𝕄) := by
    rw [dn_eq, bigSep_sep', ins_rows]
    refine (sep_mono_right (outs_join m d)).trans ?_
    iintro ⟨⟨H1, H2, H3⟩, ⟨%g, %hg, H4⟩⟩
    iexists g
    isplitr; · ipureintro; exact hg
    isplitl [H1]; · iexact H1
    isplitl [H2]; · iexact H2
    isplitl [H3]; · iexact H3
    iexact H4
  ihave Hdn := h2 $$ Hdn
  icases Hdn with ⟨%g, %hg, Hdn⟩
  ihave Hh := (Entails.of_eq (held_put d (U m d) g)) $$ [Hdn Hrest]
  · isplitl [Hdn] <;> iassumption
  iapply (StableHlo.wp_seq (defs := (K (F := F)).defs (D (F := F))) 𝒱 none Set.univ d arrs _ (opsB (F := F)) opsB_sub opsB_fresh (put (U m d) g)) $$ [Hb Hh]
  · isplitl [Hb] <;> iassumption
  iintro ⟨Hb, Hheld⟩
  rw [wp_pure]
  imodintro
  isplitl [Hst]; · iexact Hst
  isplitr [Hb Hts]
  · iexists g
    isplitr; · ipureintro; exact hg
    iexact Hheld
  isplitl [Hb] <;> iassumption

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e1 : (bigSep Finset.univ fun _ : Dev nD => iprop(emp)) = (iprop(emp) : sProp 𝕄) := bigSep_emp_const _
  have e2 : (bigSep Finset.univ fun thr : Thread nD τ => bigSep Finset.univ fun q : Fin 1 => (P m).x q thr) = (iprop(emp) : sProp 𝕄) :=
    (bigSep_congr fun _ _ => bigSep_emp_const _).trans (bigSep_emp_const _)
  rw [e1, e2]
  unfold u₀
  iintro Hu
  ihave H := (ownU_pair (initOf (K (F := F)).hsCells (K (F := F)).hsToks) (1 : Counters)) $$ Hu
  icases H with ⟨HH, -⟩
  imodintro
  isplitl [HH]; · iexact HH
  isplitr; · iempintro
  iempintro

def fq (d : Dev nD) (s' : Phys nD τ sig (Elt F)) : Prop := ∃ g, OutAll m d g ∧ ∀ b ∈ arrs, s'.mem.mem (d, b) = E m d g b

omit [FloatOps F] [∀ e, Nonempty (Elt F e)] in
theorem held_agree (d : Dev nD) (W : Valuation τ sig (Elt F)) (s' : Phys nD τ sig (Elt F)) (S : Finset (DevRef τ sig)) :
    iprop(StableHlo.held (T d) S W ∗ SI s') ⊢ (⌜∀ b ∈ S, s'.mem.mem (d, b) = W b⌝ : sProp 𝕄) := by
  induction S using Finset.induction_on with
  | empty => iintro -; ipureintro; intro b hb; exact absurd hb (Finset.notMem_empty _)
  | insert a S ha ih =>
    have e : (StableHlo.held (T d) (insert a S) W : sProp 𝕄) = iprop((((d, a) : Loc nD τ sig) ↦{fullShare} (W a : Buf (Elt F) ((d, a) : Loc nD τ sig))) ∗ StableHlo.held (T d) S W) := by
      unfold StableHlo.held
      exact SparseCore.bigSep_insert' ha
    rw [e]
    iintro ⟨⟨Ha, HS⟩, HSI⟩
    ihave H := (persistent_entails_right (SI_pointsTo_agree (st := s') (ℓ := ((d, a) : Loc nD τ sig)) (I := Finset.univ) (q := fullShare) (f := W a))) $$ [HSI Ha]
    · isplitl [HSI] <;> iassumption
    icases H with ⟨%h1, HSI, -⟩
    ihave H := ih $$ [HSI HS]
    · isplitl [HS] <;> iassumption
    icases H with %h2
    ipureintro
    intro b hb
    rcases Finset.mem_insert.mp hb with rfl | hb
    · exact funext fun i => h1 i (Finset.mem_univ i)
    · exact h2 b hb

theorem hfin (d : Dev nD) (s' : Phys nD τ sig (Elt F)) : iprop(FIN m d ∗ SI s') ⊢ (⌜fq m d s'⌝ : sProp 𝕄) := by
  iintro ⟨⟨%g, %hg, H⟩, HSI⟩
  ihave H := (held_agree d (E m d g) s' arrs) $$ [H HSI]
  · isplitl [H] <;> iassumption
  icases H with %h
  ipureintro
  exact ⟨g, hg, h⟩

/-- What the run leaves: what the call left, and the host's work on it; every semaphore at rest. -/
def QC : PUnit × MemSt nD τ sig (Elt F) → Prop := fun r => (∀ c : Dev nD, ∃ g, OutAll m c g ∧ ∀ b ∈ arrs, r.2.mem (c, b) = E m c g b) ∧ r.2.sem = fun _ => 0

theorem run_main (hpre : PreOK m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tile

end
-- ==== Proof.Ends.lean ====
/-
  What the host's operations on either side of the call compute.
-/
module

public import proofs.«01_k».proof.Proof.Main

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F]
variable (m : (ℓ : Loc nD τ sig) → Buf (Elt F) ℓ)

/-- The words, padded. -/
def padW (x : IVec S32x81900 32) : IVec S32x81920 32 := pad S32x81920 ![0, 0] ![0, 20] ![0, 0] x (constantI S_ 32 0#32) pads_S32x81900_S32x81920_000_0200 h_S_

/-- The boxes, in rows. -/
def rowsB (x : FVec F S32x900x4 .f32) : FVec F S32x3600 .f32 := shapeCast S32x3600 x shapeCasts_S32x900x4_S32x3600

/-- A column of the sizes, as floats, each entry sixteen times. -/
def sixteen (x : FVec F S32 .f32) : FVec F S32x16 .f32 :=
  broadcastInDim S32x16 ![0, 1] bcast_S32x1_S32x16_0_1 (broadcastInDim S32x1 ![0] bcast_S32_S32x1_0 x)

/-- The widths and the heights. -/
def sizesW (x : IVec S32x2 32) : FVec F S32 .f32 := shapeCast S32 (extractStridedSlice S32x1 ![0, 1] (sitofp .f32 x : FVec F S32x2 .f32) slices_S32x2_S32x1_0_1) shapeCasts_S32x1_S32
def sizesH (x : IVec S32x2 32) : FVec F S32 .f32 := shapeCast S32 (extractStridedSlice S32x1 ![0, 0] (sitofp .f32 x : FVec F S32x2 .f32) slices_S32x2_S32x1_0_0) shapeCasts_S32x1_S32

/-- The widths and the heights, sixteen times each, side by side. -/
def scales (x : IVec S32x2 32) : FVec F S32x32 .f32 :=
  concatenate S32x32 1 [⟨S32x16, (sixteen (sizesW x) : FVec F S32x16 .f32)⟩, ⟨S32x16, (sixteen (sizesH x) : FVec F S32x16 .f32)⟩] concatenates_S32x16_S32x16_S32x32_d1

theorem U_v0 (d : Dev nD) : U m d (dr main_v0) = padW (m (d, dr main_arg0)) := by
  unfold U opsA
  after_results_simp
  rfl
theorem U_v1 (d : Dev nD) : U m d (dr main_v1) = rowsB (m (d, dr main_arg1)) := by
  unfold U opsA
  after_results_simp
  rfl
theorem U_v11 (d : Dev nD) : U m d (dr main_v11) = scales (m (d, dr main_arg2)) := by
  unfold U opsA
  after_results_simp
  rfl

/-- The arguments are as they were, before and after the call. -/
theorem E_arg0 (d : Dev nD) (g) : E m d g (dr main_arg0) = m (d, dr main_arg0) := by
  unfold E U opsB opsA
  after_results_simp
  rw [put_of _ _ (by decide)]
  after_results_simp
theorem E_arg1 (d : Dev nD) (g) : E m d g (dr main_arg1) = m (d, dr main_arg1) := by
  unfold E U opsB opsA
  after_results_simp
  rw [put_of _ _ (by decide)]
  after_results_simp
theorem E_arg2 (d : Dev nD) (g) : E m d g (dr main_arg2) = m (d, dr main_arg2) := by
  unfold E U opsB opsA
  after_results_simp
  rw [put_of _ _ (by decide)]
  after_results_simp

/-- The results, from what the call left. -/
theorem E_v13 (d : Dev nD) (g) : E m d g (dr main_v13) = extractStridedSlice S32x300 ![0, 0] (g.1 : IVec S32x304 32) slices_S32x304_S32x300_0_0 := by
  unfold E opsB
  after_results_simp
  rw [put_s]
theorem E_v14 (d : Dev nD) (g) : E m d g (dr main_v14) = extractStridedSlice S32x300 ![0, 0] (g.2.1 : IVec S32x304 32) slices_S32x304_S32x300_0_0 := by
  unfold E opsB
  after_results_simp
  rw [put_l]
theorem E_v17 (d : Dev nD) (g) : E m d g (dr main_v17) = extractStridedSlice S32x300x4 ![0, 0, 0]
    (transpose S32x304x4 [0, 2, 1] (shapeCast S32x4x304 (g.2.2 : FVec F S32x1216 .f32) shapeCasts_S32x1216_S32x4x304) transposes_S32x4x304_S32x304x4_0_2_1) slices_S32x304x4_S32x300x4_0_0_0 := by
  unfold E opsB
  after_results_simp
  rw [put_b]
  rfl

end Cert.Proof.Tile

end
-- ==== Proof.Top.lean ====
/-
  The reference's selection: what a stable sort, greatest first, puts where.
-/
module

public import proofs.«01_k».proof.Proof.Body
public import Idealize.ShloMosaic.Lib.SortPrefix

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

/-! ## The reference's selection: the places the stable sort gives -/

/-- A stable sort compares a position only with earlier ones on its left: breaking its ties by the position changes nothing. -/
theorem stableSort_ties {n : ℕ} (R : Fin n → Fin n → Bool) (Q : Fin n → Fin n → Bool) (l : List (Fin n)) (hl : l.Pairwise (· < ·))
    (h : ∀ a b : Fin n, a < b → R b a = Q b a) : stableSort R l = stableSort Q l := by
  induction l with
  | nil => rfl
  | cons a l ih =>
    rw [List.pairwise_cons] at hl
    unfold stableSort
    rw [ih hl.2]
    exact insertBefore_congr R Q a _ fun b hb => h a b (hl.1 b ((perm_stableSort Q l).mem_iff.mp hb))

/-- The position the stable sort, greatest first, puts at `r` is the one of place `r`. -/
theorem sorted_place {n : ℕ} (D : ℕ → ℤ) (R : Fin n → Fin n → Bool) (hR : ∀ a b : Fin n, R a b = true ↔ D b < D a) (r : Fin n) :
    place D n (sortedFrom R r).val = r.val := by
  classical
  let Q : Fin n → Fin n → Bool := fun a b => decide (Before D a.val b.val)
  have hQ : StrictTotalBefore Q := {
    irrefl := fun a => by simp only [Q, decide_eq_false_iff_not]; exact Before.irrefl
    trans := fun a b c h h' => by simp only [Q, decide_eq_true_eq] at *; exact h.trans h'
    total := fun a b h => by simp only [Q, decide_eq_true_eq]; exact Before.total fun e => h (Fin.ext e) }
  have e : sortedFrom R r = sortedFrom Q r := by
    have hs : sortPositions n R = sortPositions n Q := by
      refine stableSort_ties R Q _ (List.pairwise_lt_finRange n) fun a b hab => ?_
      have h1 := hR b a
      have hv : a.val < b.val := hab
      have h2 : Q b a = true ↔ D a.val < D b.val := by
        simp only [Q, decide_eq_true_eq]
        exact ⟨fun h => h.elim id fun h => absurd h.2 (by omega), Or.inl⟩
      exact Bool.eq_iff_iff.mpr (h1.trans h2.symm)
    unfold sortedFrom
    rw [List.get_of_eq hs]
    rfl
  have hex : ∀ q : Fin n, ∃ i : Fin n, place D n i.val = q.val := fun q => by
    obtain ⟨i, hi, h⟩ := place_surj (D := D) q.isLt
    exact ⟨⟨i, hi⟩, h⟩
  choose σ hσ using hex
  have := hQ.sortedFrom_eq_of_prefix (k := n) le_rfl σ (fun a b h => Fin.ext (by rw [← hσ a, ← hσ b, h]))
    (fun i j hij => by
      simp only [Q, decide_eq_false_iff_not]
      intro hb
      have := place_lt (σ j).isLt hb
      rw [hσ, hσ] at this
      have : i.val < j.val := hij
      omega)
    (fun i p hp => absurd (Fin.ext (place_inj (σ ⟨_, place_bound p.isLt⟩).isLt p.isLt (hσ ⟨_, place_bound p.isLt⟩))) (hp _)) r
  have er : r.castLE le_rfl = r := rfl
  rw [er] at this
  rw [e, this, hσ]

/-- Read signed, words below half the range compare as numbers. -/
theorem sgt_nat {x y : BitVec 32} (hx : x.toNat < 2 ^ 31) (hy : y.toNat < 2 ^ 31) : (IntOp.cmpi .sgt x y == 1#1) = true ↔ y.toNat < x.toNat := by
  have e : (IntOp.cmpi .sgt x y == 1#1) = y.slt x := by
    unfold IntOp.cmpi
    cases y.slt x <;> rfl
  rw [e, BitVec.slt_iff_toInt_lt, BitVec.toInt_eq_toNat_of_lt (by omega), BitVec.toInt_eq_toNat_of_lt (by omega)]
  omega

theorem topK_row {N : ℕ} [NeZero N] (hN : 300 ≤ N) (x : (R2 N).Idx → BitVec 32) (hx : ∀ i, (x i).toNat < 2 ^ 31) (h : (R2 N).Slices (fun _ => 0) (R2 300)) (w : Fin 32) (r : Fin 300) :
    ∃ i : Fin N, (Host.topK (R2 300) 1 (IntOp.cmpi .sgt) x h).1 (at2 w r) = x (at2 w i)
      ∧ (Host.topK (R2 300) 1 (IntOp.cmpi .sgt) x h).2 (at2 w r) = BitVec.ofNat 32 i.val ∧ place (fun i => ((line x w i).toNat : ℤ)) N i.val = r.val := by
  let R : Fin N → Fin N → Bool := fun k k' => IntOp.cmpi .sgt (x (at2 w k)) (x (at2 w k')) == 1#1
  let q : Fin N := ⟨0 + r.val, by omega⟩
  have hal : ∀ k : Fin N, Shape.Idx.along (s := R2 N) (at2 w q) (1 : Fin 2) k = at2 w k := fun k => by
    funext a
    match a with
    | 0 => rfl
    | 1 => rfl
  have hj : (fun a : Fin 2 => (⟨(0 : ℕ) + ((at2 w r : (R2 300).Idx) (a.cast h.1.symm)).val, Nat.lt_of_lt_of_le (Nat.add_lt_add_left ((at2 w r : (R2 300).Idx) _).isLt _) (h.2 a)⟩ : Fin ((R2 N).size a))) = at2 w q := by
    funext a
    match a with
    | 0 => exact Fin.ext (Nat.zero_add _)
    | 1 => rfl
  have hR : (fun k k' : Fin N => IntOp.cmpi .sgt (x (Shape.Idx.along (s := R2 N) (at2 w q) (1 : Fin 2) k)) (x (Shape.Idx.along (s := R2 N) (at2 w q) (1 : Fin 2) k')) == 1#1) = R := by
    funext k k'
    rw [hal, hal]
  refine ⟨sortedFrom R q, ?_, ?_, ?_⟩
  · unfold Host.topK Host.sort2 extractStridedSlice
    simp only []
    rw [dif_pos (show 1 < (R2 N).rank from (by decide : 1 < 2))]
    simp only []
    rw [hj]
    exact (congrArg (fun Q : Fin N → Fin N → Bool => x (Shape.Idx.along (s := R2 N) (at2 w q) (1 : Fin 2) (sortedFrom Q q))) hR).trans (congrArg x (hal _))
  · unfold Host.topK Host.sort2 extractStridedSlice
    simp only []
    rw [dif_pos (show 1 < (R2 N).rank from (by decide : 1 < 2))]
    simp only []
    rw [hj]
    exact (congrArg (fun Q : Fin N → Fin N → Bool => iotaInDim (R2 N) 32 (1 : Fin 2) (Shape.Idx.along (s := R2 N) (at2 w q) (1 : Fin 2) (sortedFrom Q q))) hR).trans
      (congrArg (iotaInDim (R2 N) 32 (1 : Fin 2)) (hal _))
  · refine (?_ : _ = q.val).trans (Nat.zero_add _)
    exact sorted_place (fun i => ((line x w i).toNat : ℤ)) R (fun a b => by
      simp only [R]
      rw [sgt_nat (hx _) (hx _), line_fin x w a, line_fin x w b]
      exact Int.ofNat_lt.symm) q

/-! ## The padded row -/

/-- A row of words, padded with zeros, ranks its words as the row itself does. -/
theorem place_pad {N M : ℕ} (hNM : N ≤ M) (p : ℕ → ℕ) (v : ℕ → ℕ) (hv : ∀ i < N, p i = v i) (h0 : ∀ i, N ≤ i → i < M → p i = 0) (i : ℕ) (hi : i < N) :
    place (fun j => (p j : ℤ)) M i = place (fun j => (v j : ℤ)) N i := by
  unfold place
  refine congrArg Finset.card (Finset.ext fun y => ?_)
  rw [Finset.mem_filter, Finset.mem_filter, Finset.mem_range, Finset.mem_range]
  change (y < M ∧ ((p i : ℤ) < (p y : ℤ) ∨ (p y : ℤ) = (p i : ℤ) ∧ y < i)) ↔ (y < N ∧ ((v i : ℤ) < (v y : ℤ) ∨ (v y : ℤ) = (v i : ℤ) ∧ y < i))
  constructor
  · rintro ⟨hy, h⟩
    by_cases hy' : y < N
    · refine ⟨hy', ?_⟩
      rwa [hv i hi, hv y hy'] at h
    · rw [h0 y (by omega) hy] at h
      omega
  · rintro ⟨hy, h⟩
    refine ⟨by omega, ?_⟩
    rwa [hv i hi, hv y hy]

/-- At least `r + 1` values are at or above that of place `r`. -/
theorem count_place (D : ℕ → ℤ) (N x : ℕ) (hx : x < N) (q : ℤ → ℕ) (hq : ∀ a b, a ≤ b → q a ≤ q b) :
    place D N x + 1 ≤ Nat.count (fun y => q (D x) ≤ q (D y)) N := by
  rw [Nat.count_eq_card_filter_range]
  have hn : x ∉ (Finset.range N).filter fun y => Before D y x := fun h => Before.irrefl (Finset.mem_filter.mp h).2
  unfold place
  rw [← Finset.card_insert_of_notMem hn]
  refine Finset.card_le_card fun y hy => ?_
  rcases Finset.mem_insert.mp hy with rfl | hy
  · exact Finset.mem_filter.mpr ⟨Finset.mem_range.mpr hx, le_rfl⟩
  · rw [Finset.mem_filter] at hy ⊢
    refine ⟨hy.1, hq _ _ ?_⟩
    rcases hy.2 with h | h <;> omega

end Cert.Proof.Tile

end
-- ==== Proof.Pre.lean ====
/-
What the precondition says of the words
-/
module

public import proofs.«01_k».proof.Proof.Ends
public import proofs.«01_k».proof.Proof.Top
public import proofs.«01_k».proof.Proof.Gen.Pre_few_coarse
public import Idealize.ShloMosaic.Lib.ReduceAll
public import Idealize.ShloMosaic.Lib.StableHlo.Predicate
public import Idealize.ShloMosaic.Lib.KernelVsHost

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

/-! ## What the precondition says of the words -/

/-- The eighth-and-up bits of a word, on the host. -/
theorem host_shr (w : BitVec 32) (h : w.toNat < 2 ^ 31) : (IntOp.shrsi .host w 17#32).toNat = w.toNat / 2 ^ 17 := by
  unfold IntOp.shrsi
  rw [if_pos (by decide)]
  show (w.sshiftRight (17#32).toNat).toNat = _
  rw [BitVec.sshiftRight_eq_of_msb_false (by rw [BitVec.msb_eq_decide]; simpa using h), BitVec.toNat_ushiftRight, Nat.shiftRight_eq_div_pow]
  rfl

/-- A word that two signed comparisons put between zero and a bound. -/
theorem word_range (w : BitVec 32) (h : IntOp.cmpi .sge w 0#32 = 1#1) (h' : IntOp.cmpi .sle w 1065353216#32 = 1#1) : w.toNat ≤ 1065353216 := by
  simp only [IntOp.cmpi, StableHlo.Predicate.ofBool_eq_one_iff, BitVec.sle_eq_decide, decide_eq_true_eq, BitVec.toInt_eq_toNat_cond] at h h'
  have e1 : (0#32 : BitVec 32).toNat = 0 := by decide
  have e2 : (1065353216#32 : BitVec 32).toNat = 1065353216 := by decide
  rw [e1] at h
  rw [e2] at h'
  split at h <;> split at h' <;> omega

theorem at2_ij {N : ℕ} (w : Fin 32) (k : Fin N) : StableHlo.Predicate.ij (n := 32) (m := N) w k = at2 w k := by
  funext a
  match a with
  | 0 => rfl
  | 1 => rfl

/-- Counting over the positions of a row, as over a range. -/
theorem card_count {N : ℕ} (q : ℕ → Prop) [DecidablePred q] : (Finset.univ.filter fun k : Fin N => q k.val).card = Nat.count q N := by
  rw [Nat.count_eq_card_filter_range]
  refine Finset.card_bij (fun k _ => k.val) (fun k hk => ?_) (fun a _ b _ e => Fin.ext e) fun i hi => ?_
  · exact Finset.mem_filter.mpr ⟨Finset.mem_range.mpr k.isLt, (Finset.mem_filter.mp hk).2⟩
  · rw [Finset.mem_filter, Finset.mem_range] at hi
    exact ⟨⟨i, hi.1⟩, Finset.mem_filter.mpr ⟨Finset.mem_univ _, hi.2⟩, rfl⟩

/-- A mask's count along the rows, compared with a bound. -/
theorem count_row {N : ℕ} [NeZero N] (hN : N < 2 ^ 31) (x : (R2 N).Idx → BitVec 32) (hx : ∀ i, (x i).toNat < 2 ^ 31) (t : (R2 N).Idx → BitVec 32) (w : Fin 32) (k : ℕ) (hk : k < 2 ^ 31)
    (ht : ∀ q : Fin N, (t (at2 w q)).toNat = k) (C : ℕ) (hC : C < 2 ^ 31) (h : (R2 N).ReducesTo [1] ⟨1, ![32]⟩) {u : Shape} (hu : 0 < u.numel) (hw : 1 < 32)
    (hc : IntOp.cmpi .sle (Host.reduce IntOp.addi (extui 32 (fun i => IntOp.cmpi .sge (IntOp.shrsi .host (x i) 17#32) (t i) : IVec (R2 N) 1) hw) (constantI u 32 0#32) h hu (Shape.Idx.ofFin w)) (BitVec.ofNat 32 C) = 1#1) :
    Nat.count (fun y => k ≤ (line x w y).toNat / 2 ^ 17) N ≤ C := by
  have e := StableHlo.Predicate.toNat_reduce_count_cols (n := 32) (m := N) (by omega) (fun i => IntOp.cmpi .sge (IntOp.shrsi .host (x i) 17#32) (t i)) hw h hu (Shape.Idx.ofFin w)
  have hb : (Finset.univ.filter fun q : Fin N => IntOp.cmpi .sge (IntOp.shrsi .host (x (StableHlo.Predicate.ij (n := 32) (m := N) w q)) 17#32) (t (StableHlo.Predicate.ij (n := 32) (m := N) w q)) = 1#1).card
      = Nat.count (fun y => k ≤ (line x w y).toNat / 2 ^ 17) N := by
    rw [← card_count]
    refine congrArg Finset.card (Finset.filter_congr fun q _ => ?_)
    have hxq := hx (at2 w q)
    rw [at2_ij, StableHlo.Predicate.sge_iff_toNat (by rw [host_shr _ hxq]; omega) (by rw [ht]; exact hk), host_shr _ hxq, ht, line_fin x w q]
  have e' := e.trans hb
  rw [StableHlo.Predicate.sle_iff_toNat (by rw [e']; exact lt_of_le_of_lt (Nat.count_le _) hN) (by rw [BitVec.toNat_ofNat]; omega), e', BitVec.toNat_ofNat, Nat.mod_eq_of_lt (by omega)] at hc
  exact hc

open Cert.Pre_few_coarse (fn fn_part1) in
/-- The precondition: the words' range, and the candidates each row's threshold leaves. -/
theorem pre_split (x : IVec S32x81900 32) (b : FVec F S32x900x4 .f32) (s : IVec S32x2 32)
    (h : fn (F := F) x b s = fun _ => 1#1) :
    (∀ i, (x i).toNat ≤ 1065353216) ∧ ∀ w : Fin 32, IntOp.cmpi .sle
      (Host.reduce IntOp.addi (extui 32 (fun i => IntOp.cmpi .sge (IntOp.shrsi .host (x i) 17#32)
          (broadcastInDim S32x81900 ![0, 1] Cert.Pre_few_coarse.Gen.bcast_S32x1_S32x81900_0_1 (fun j => IntOp.shrsi .host (extractStridedSlice S32x1 ![0, 299]
            (Host.topK S32x300 1 (IntOp.cmpi .sgt) x Cert.Pre_few_coarse.Gen.sliceFits_S32x81900_S32x300).1 Cert.Pre_few_coarse.Gen.slices_S32x300_S32x1_0_299 j) 17#32) i) : IVec S32x81900 1)
        Cert.Pre_few_coarse.Gen.natLt_1_32) (constantI Cert.Pre_few_coarse.S_ 32 0#32) Cert.Pre_few_coarse.Gen.reducesTo_S32x81900_S32_d1 Cert.Pre_few_coarse.Gen.h_S_ (Shape.Idx.ofFin w)) (BitVec.ofNat 32 4096) = 1#1 := by
  haveI : Subsingleton Cert.Pre_few_coarse.S_.Idx := ⟨fun a b => funext fun i => i.elim0⟩
  have h0 := congrFun h (fun a => a.elim0)
  obtain ⟨h1, h2⟩ := IntOp.andi_eq_one.1 h0
  refine ⟨fun i => ?_, fun w => ?_⟩
  · obtain ⟨h3, h4⟩ := IntOp.andi_eq_one.1 (Host.reduce_andi_all _ _ _ _ _ h1 i)
    exact word_range (x i) h3 h4
  · exact Host.reduce_andi_all _ _ _ _ _ h2 (Shape.Idx.ofFin w)

/-- A padded row: the words, then zeros. -/
theorem padW_in (x : IVec S32x81900 32) (w : Fin 32) (i : ℕ) (hi : i < 81900) : line (N := 81920) (padW x) w i = line (N := 81900) x w i := by
  unfold line padW
  refine pad_apply_of_inside _ _ _ _ _ _ _ _ _ fun a => ?_
  match a with
  | 0 => exact (show w.val = 0 + w.val * (0 + 1) by omega)
  | 1 => exact (show i % 81920 = 0 + (i % 81900) * (0 + 1) by omega)

theorem padW_out (x : IVec S32x81900 32) (w : Fin 32) (i : ℕ) (hi : 81900 ≤ i) (hi' : i < 81920) : line (N := 81920) (padW x) w i = 0#32 := by
  unfold line padW
  refine pad_apply_of_not_inside _ _ _ _ _ _ _ _ (1 : Fin 2) ?_
  exact (show ¬(0 ≤ i % 81920 ∧ (i % 81920 - 0) % (0 + 1) = 0 ∧ (i % 81920 - 0) / (0 + 1) < 81900) by omega)

/-- A tail with none of the counted adds nothing. -/
theorem count_tail (q : ℕ → Prop) [DecidablePred q] {N M : ℕ} (h : N ≤ M) (h0 : ∀ i, N ≤ i → i < M → ¬q i) : Nat.count q M = Nat.count q N := by
  obtain ⟨k, rfl⟩ := Nat.exists_eq_add_of_le h
  rw [Nat.count_add, Nat.count_iff_forall_not.mpr fun i hi => h0 (N + i) (by omega) (by omega)]
  rfl

/-- A row of words in range, few of them at or above the threshold's digit: padded, what the tiles need. -/
theorem words_of (p v : ℕ → BitVec 32) (hv : ∀ i < 81900, p i = v i) (h0 : ∀ i, 81900 ≤ i → i < 81920 → p i = 0#32)
    (hr : ∀ i < 81900, (v i).toNat ≤ 1065353216) (i0 : ℕ) (hi0 : i0 < 81900) (hp : place (fun j => ((v j).toNat : ℤ)) 81900 i0 = 299)
    (hc : Nat.count (fun y => (v i0).toNat / 2 ^ 17 ≤ (v y).toNat / 2 ^ 17) 81900 ≤ 4096) : Words p where
  range i hi := by
    by_cases h : i < 81900
    · rw [hv i h]
      have := hr i h
      omega
    · rw [h0 i (by omega) hi]
      decide
  pad i hi hi' := by
    rw [h0 i hi hi']
    rfl
  few b hb _ := by
    have hk := count_place (fun j => ((v j).toNat : ℤ)) 81900 i0 hi0 (fun a => a.toNat / 2 ^ 17) fun a b h => Nat.div_le_div_right (Int.toNat_le_toNat h)
    rw [hp] at hk
    have hmono : ∀ c, Nat.count (fun i => c ≤ (v i).toNat / 2 ^ 17) 81900 ≤ Nat.count (fun i => c ≤ (p i).toNat / 2 ^ 17) 81920 := fun c => by
      refine le_trans (Nat.count_mono_left fun i hi h => ?_) (Nat.count_monotone _ (by omega : 81900 ≤ 81920))
      rw [hv i hi]
      exact h
    have hle : (v i0).toNat / 2 ^ 17 ≤ b := by
      by_contra hlt
      have := hmono (b + 1)
      have h2 : Nat.count (fun y => (v i0).toNat / 2 ^ 17 ≤ (v y).toNat / 2 ^ 17) 81900 ≤ Nat.count (fun i => b + 1 ≤ (v i).toNat / 2 ^ 17) 81900 :=
        Nat.count_mono_left fun i _ h => by omega
      have hk' : 299 + 1 ≤ Nat.count (fun y => (v i0).toNat / 2 ^ 17 ≤ (v y).toNat / 2 ^ 17) 81900 := hk
      omega
    have hb0 : 0 < b := by
      by_contra hz
      have hz' : (v i0).toNat / 2 ^ 17 = 0 := by omega
      rw [hz'] at hc
      have : Nat.count (fun y => 0 ≤ (v y).toNat / 2 ^ 17) 81900 = 81900 := Nat.count_iff_forall.mpr fun _ _ => Nat.zero_le _
      omega
    have e : Nat.count (fun i => b ≤ (p i).toNat / 2 ^ 17) 81920 = Nat.count (fun i => b ≤ (p i).toNat / 2 ^ 17) 81900 := by
      refine count_tail (fun i => b ≤ (p i).toNat / 2 ^ 17) (by omega) fun i hi hi' h => ?_
      rw [h0 i hi hi'] at h
      have : (0#32 : BitVec 32).toNat = 0 := rfl
      omega
    rw [e]
    refine le_trans (Nat.count_mono_left fun i hi h => ?_) hc
    rw [hv i hi] at h
    exact le_trans hle h

/-- The words as numbers, and the padded rows. -/
theorem pre_words (x : IVec S32x81900 32) (b : FVec F S32x900x4 .f32) (s : IVec S32x2 32)
    (h : Cert.Pre_few_coarse.fn (F := F) x b s = fun _ => 1#1) :
    (∀ i, (x i).toNat < 2 ^ 31) ∧ ∀ w : Fin 32, Words (line (N := 81920) (padW x) w) := by
  obtain ⟨hr, hc⟩ := pre_split x b s h
  have hx : ∀ i, (x i).toNat < 2 ^ 31 := fun i => by
    have := hr i
    omega
  refine ⟨hx, fun w => ?_⟩
  obtain ⟨i0, e1, _, e3⟩ := topK_row (N := 81900) (by omega) x hx Cert.Pre_few_coarse.Gen.sliceFits_S32x81900_S32x300 w ⟨299, by omega⟩
  refine words_of _ (line (N := 81900) x w) (padW_in x w) (padW_out x w) (fun i _ => hr _) i0.val i0.isLt e3 ?_
  have hxi := hx (at2 w i0)
  rw [← line_fin x w i0]
  refine count_row (by omega) x hx _ w _ (by omega) (fun q => ?_) 4096 (by omega) _ _ _ (hc w)
  rw [← host_shr _ hxi, ← e1]
  unfold broadcastInDim extractStridedSlice
  refine congrArg (fun j => (IntOp.shrsi .host ((Host.topK S32x300 1 (IntOp.cmpi .sgt) x Cert.Pre_few_coarse.Gen.sliceFits_S32x81900_S32x300).1 j) 17#32).toNat) ?_
  funext a
  match a with
  | 0 => exact Fin.ext (Nat.zero_add _)
  | 1 => rfl

/-- Every row of the padded words is as the tiles need it. -/
theorem preOK_of (m : (ℓ : Loc nD τ sig) → Buf (Elt F) ℓ)
    (h : ∀ d : Dev nD, Cert.Pre_few_coarse.fn (F := F) (m (d, dr main_arg0)) (m (d, dr main_arg1)) (m (d, dr main_arg2)) = fun _ => 1#1) : PreOK m := by
  intro d w
  rw [U_v0]
  exact (pre_words _ _ _ (h d)).2 w

end Cert.Proof.Tile

end
-- ==== Proof.Frames.lean ====
/-
The frames: each program's run ends with its arguments as they were and every semaphore at zero.
-/
module

public import proofs.«01_k».proof.Defs
public import proofs.«01_k».proof.Proof.Pre
public import proofs.«01_k».proof.Proof.Gen.ReferenceIdeal.Run
public import proofs.«01_k».proof.Proof.Gen.Kernel.Skeleton
public import proofs.«01_k».proof.Proof.Gen.KernelIdeal.Skeleton
public import proofs.«01_k».proof.Proof.Gen.Pre_few_coarse

@[expose] public section

noncomputable section

namespace Cert.Proof

open Idealize.ShloMosaic Idealize.SL.Sem Cert.Proof.Tile

/-- The kernel as printed, from words the precondition holds of. -/
theorem frame_kernel : Cert.quiescent_Kernel := fun m ρ hpre =>
  (θ_run Cert.KernelIdeal.defs _ _).mono (fun r h => ⟨fun c => by
    obtain ⟨g, _, hm⟩ := h.1 c
    exact ⟨(hm _ (mem_arrs rfl)).trans (E_arg0 m c g), (hm _ (mem_arrs rfl)).trans (E_arg1 m c g), (hm _ (mem_arrs rfl)).trans (E_arg2 m c g)⟩, h.2⟩)
    (run_main (F := Bits) m ρ (preOK_of m hpre))

/-- The same of its text over the reals. -/
theorem frame_kernelIdeal : Cert.quiescent_KernelIdeal := fun m ρ hpre =>
  (θ_run Cert.KernelIdeal.defs _ _).mono (fun r h => ⟨fun c => by
    obtain ⟨g, _, hm⟩ := h.1 c
    exact ⟨(hm _ (mem_arrs rfl)).trans (E_arg0 m c g), (hm _ (mem_arrs rfl)).trans (E_arg1 m c g), (hm _ (mem_arrs rfl)).trans (E_arg2 m c g)⟩, h.2⟩)
    (run_main (F := Ideal) m ρ (preOK_of m hpre))

/-- The reference has no semaphores and writes none of its arguments. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_reference_pre : Cert.quiescent_ReferenceIdeal_pre_few_coarse := fun m ρ _ => frame_reference m ρ trivial

end Cert.Proof

end
-- ==== Proof.KVal.lean ====
/-
What the host's steps before and after the call put at an index.
-/
module

public import proofs.«01_k».proof.Proof.Ends
public import Idealize.ShloMosaic.Lib.Pipeline.Value

@[expose] public section

noncomputable section

namespace Cert.Proof.Tile

open Cert.KernelIdeal Cert.KernelIdeal.Gen
open Idealize.ShloMosaic Idealize.SL.Sem
open Idealize.ShloMosaic.SparseCore (S V T)

variable {F : FTy → Type} [FloatOps F] {d : Dev nD} {L : grid0.Coords} {α β : Type} {T : St F}

/-! ## What the host does around the call, at an index -/

/-- An index of a block of rows of rows. -/
def at3 {N C : ℕ} (w : Fin 32) (k : Fin N) (c : Fin C) : (⟨3, ![32, N, C]⟩ : Shape).Idx := fun a => match a with
  | 0 => w
  | 1 => k
  | 2 => c

theorem at2_eta {N : ℕ} (j : (R2 N).Idx) : j = at2 (j 0) (j 1) := by
  funext a
  match a with
  | 0 => rfl
  | 1 => rfl

theorem at3_eta {N C : ℕ} (j : (⟨3, ![32, N, C]⟩ : Shape).Idx) : j = at3 (j 0) (j 1) (j 2) := by
  funext a
  match a with
  | 0 => rfl
  | 1 => rfl
  | 2 => rfl

/-- A row of the boxes holds coordinate `j` of box `q` at `4 q + j`. -/
theorem rowsB_at (x : FVec F S32x900x4 .f32) (w : Fin 32) (q : Fin 900) (j : Fin 4) : line (N := 3600) (rowsB x) w (4 * q.val + j.val) = x (at3 w q j) := by
  unfold line rowsB
  refine shapeCast_apply _ _ _ _ ?_
  rw [Shape.rowMajor_val_three, Shape.rowMajor_val_two]
  exact (show (w.val * 900 + q.val) * 4 + j.val = w.val * 3600 + (4 * q.val + j.val) % 3600 by omega)

/-- A size of an image, as a float. -/
def sizeAt (s : IVec S32x2 32) (w : Fin 32) (j : Fin 2) : F .f32 := (sitofp .f32 s : FVec F S32x2 .f32) (at2 w j)

theorem col_at (s : FVec F S32x2 .f32) (j : Fin 2) (h : S32x2.Slices ![0, j.val] S32x1) (w : Fin 32) :
    shapeCast S32 (extractStridedSlice S32x1 ![0, j.val] s h) shapeCasts_S32x1_S32 (Shape.Idx.ofFin w) = s (at2 w j) := by
  have e : shapeCast S32 (extractStridedSlice S32x1 ![0, j.val] s h) shapeCasts_S32x1_S32 (Shape.Idx.ofFin w) = extractStridedSlice S32x1 ![0, j.val] s h (at2 w 0) := by
    refine shapeCast_apply _ _ _ _ ?_
    rw [Shape.rowMajor_val_one, Shape.rowMajor_val_two]
    exact (show w.val * 1 + 0 = w.val by omega)
  rw [e]
  unfold extractStridedSlice
  refine congrArg s (funext fun a => ?_)
  match a with
  | 0 => exact Fin.ext (Nat.zero_add _)
  | 1 => rfl

theorem sizesW_at (s : IVec S32x2 32) (w : Fin 32) : (sizesW s : FVec F S32 .f32) (Shape.Idx.ofFin w) = sizeAt s w 1 := col_at (sitofp .f32 s) 1 slices_S32x2_S32x1_0_1 w
theorem sizesH_at (s : IVec S32x2 32) (w : Fin 32) : (sizesH s : FVec F S32 .f32) (Shape.Idx.ofFin w) = sizeAt s w 0 := col_at (sitofp .f32 s) 0 slices_S32x2_S32x1_0_0 w

theorem sixteen_at (x : FVec F S32 .f32) (w : Fin 32) (l : Fin 16) : sixteen x (at2 w l) = x (Shape.Idx.ofFin w) := by
  unfold sixteen broadcastInDim
  refine congrArg x (funext fun a => ?_)
  match a with
  | 0 => rfl

/-- The first sixteen scales of a row are the image's width, the next sixteen its height. -/
theorem scales_w (s : IVec S32x2 32) (w : Fin 32) (k : ℕ) : line (N := 32) (scales s : FVec F S32x32 .f32) w (k % 16) = sizeAt s w 1 := by
  rw [← sizesW_at, ← sixteen_at (sizesW s) w ⟨k % 16, by omega⟩]
  unfold line scales
  refine concatenate_apply_piece (t := S32x32) 1 [⟨S32x16, (sixteen (sizesW s) : FVec F S32x16 .f32)⟩, ⟨S32x16, (sixteen (sizesH s) : FVec F S32x16 .f32)⟩] _ _ 0 Nat.zero_lt_two S32x16 _ rfl rfl 0 rfl _ (fun b hb => ?_) ?_
  · match b with
    | 0 => rfl
    | 1 => exact absurd rfl hb
  · exact (show 0 + k % 16 = k % 16 % 32 by omega)
theorem scales_h (s : IVec S32x2 32) (w : Fin 32) (k : ℕ) : line (N := 32) (scales s : FVec F S32x32 .f32) w (16 + k % 16) = sizeAt s w 0 := by
  rw [← sizesH_at, ← sixteen_at (sizesH s) w ⟨k % 16, by omega⟩]
  unfold line scales
  refine concatenate_apply_piece (t := S32x32) 1 [⟨S32x16, (sixteen (sizesW s) : FVec F S32x16 .f32)⟩, ⟨S32x16, (sixteen (sizesH s) : FVec F S32x16 .f32)⟩] _ _ 1 Nat.one_lt_two S32x16 _ rfl rfl 16 rfl _ (fun b hb => ?_) ?_
  · match b with
    | 0 => rfl
    | 1 => exact absurd rfl hb
  · exact (show 16 + k % 16 = (16 + k % 16) % 32 by omega)

/-- The results' rows, cut to the places kept. -/
theorem cut_at {α : Type} (x : S32x304.Idx → α) (h : S32x304.Slices ![0, 0] S32x300) (w : Fin 32) (k : Fin 300) : extractStridedSlice S32x300 ![0, 0] x h (at2 w k) = line (N := 304) x w k.val := by
  unfold line extractStridedSlice
  refine congrArg x (funext fun a => ?_)
  match a with
  | 0 => exact Fin.ext (Nat.zero_add _)
  | 1 => exact Fin.ext (show 0 + k.val = k.val % 304 by omega)

/-- The corners' rows, turned and cut. -/
theorem turn_at {α : Type} (x : S32x1216.Idx → α) (w : Fin 32) (k : Fin 300) (c : Fin 4) :
    extractStridedSlice S32x300x4 ![0, 0, 0] (transpose S32x304x4 [0, 2, 1] (shapeCast S32x4x304 x shapeCasts_S32x1216_S32x4x304) transposes_S32x4x304_S32x304x4_0_2_1)
      slices_S32x304x4_S32x300x4_0_0_0 (at3 w k c) = line (N := 1216) x w (304 * c.val + k.val) := by
  have e : extractStridedSlice S32x300x4 ![0, 0, 0] (transpose S32x304x4 [0, 2, 1] (shapeCast S32x4x304 x shapeCasts_S32x1216_S32x4x304) transposes_S32x4x304_S32x304x4_0_2_1)
      slices_S32x304x4_S32x300x4_0_0_0 (at3 w k c) = shapeCast S32x4x304 x shapeCasts_S32x1216_S32x4x304 (at3 w c ⟨k.val, by omega⟩) := by
    unfold extractStridedSlice transpose
    refine congrArg (shapeCast S32x4x304 x shapeCasts_S32x1216_S32x4x304) (funext fun a => ?_)
    match a with
    | 0 => exact Fin.ext (Nat.zero_add _)
    | 1 => exact Fin.ext (Nat.zero_add _)
    | 2 => exact Fin.ext (Nat.zero_add _)
  rw [e]
  unfold line
  refine shapeCast_apply _ _ _ _ ?_
  rw [Shape.rowMajor_val_three, Shape.rowMajor_val_two]
  exact (show w.val * 1216 + (304 * c.val + k.val) % 1216 = (w.val * 4 + c.val) * 304 + k.val by omega)

end Cert.Proof.Tile

end
-- ==== Proof.RVal.lean ====
/-
The reference's results at an index.
-/
module

public import proofs.«01_k».proof.Proof.KVal
public import proofs.«01_k».proof.Proof.Gen.ReferenceIdeal.Run
public import Idealize.ShloMosaic.Lib.Routing.Words
public import Idealize.ShloMosaic.Lib.StableHlo.Predicate

@[expose] public section

noncomputable section

namespace Cert.Proof.Ref

open Cert.ReferenceIdeal Cert.ReferenceIdeal.Gen
open Idealize.ShloMosaic Idealize.SL.Sem
open Cert.Proof.Tile (at2 at3 sizeAt corner)

variable {F : FTy → Type} [FloatOps F]

/-! ## The labels -/

/-- The class of a flat position: the floored remainder by the classes. -/
theorem class_at (x : IVec S32x300 32) (j : S32x300.Idx) (i : ℕ) (hi : i < 81900) (hx : x j = BitVec.ofNat 32 i) :
    Routing.pyRem bcast_S_S32x300 x (id (constantI S_ 32 91#32)) j = BitVec.ofNat 32 (i % 91) :=
  Routing.pyRem_ap bcast_S_S32x300 x (id (constantI S_ 32 91#32)) j hx rfl (by omega) (by omega) (by omega)

/-- The query of a flat position: the floored quotient. -/
theorem query_at (x : IVec S32x300 32) (j : S32x300.Idx) (i : ℕ) (hi : i < 81900) (hx : x j = BitVec.ofNat 32 i) :
    Routing.pyDiv bcast_S_S32x300 x (id (constantI S_ 32 91#32)) j = BitVec.ofNat 32 (i / 91) :=
  Routing.pyDiv_ap bcast_S_S32x300 x (id (constantI S_ 32 91#32)) j hx rfl (by omega) (by omega) (by omega)

/-! ## The boxes -/

/-- Four columns side by side. -/
theorem four_cols {α : Type} (f : Fin 4 → S32x1.Idx → α) (h : Shape.Concatenates [S32x1, S32x1, S32x1, S32x1] S32x4 1) (w : Fin 32) (c : Fin 4) :
    concatenate S32x4 1 [⟨S32x1, f 0⟩, ⟨S32x1, f 1⟩, ⟨S32x1, f 2⟩, ⟨S32x1, f 3⟩] h (at2 w c) = f c (at2 w 0) := by
  refine concatenate_apply_piece (t := S32x4) 1 [⟨S32x1, f 0⟩, ⟨S32x1, f 1⟩, ⟨S32x1, f 2⟩, ⟨S32x1, f 3⟩] h (at2 w c) c.val c.isLt S32x1 (f c) ?_ rfl c.val ?_ (at2 w 0) (fun b hb => ?_) (Nat.add_zero _)
  · match c with
    | 0 => rfl
    | 1 => rfl
    | 2 => rfl
    | 3 => rfl
  · match c with
    | 0 => rfl
    | 1 => rfl
    | 2 => rfl
    | 3 => rfl
  · match b with
    | 0 => rfl
    | 1 => exact absurd rfl hb

/-- Four blocks of one coordinate side by side. -/
theorem four_blocks {α : Type} (f : Fin 4 → S32x900x1.Idx → α) (h : Shape.Concatenates [S32x900x1, S32x900x1, S32x900x1, S32x900x1] S32x900x4 2) (w : Fin 32) (q : Fin 900) (c : Fin 4) :
    concatenate S32x900x4 2 [⟨S32x900x1, f 0⟩, ⟨S32x900x1, f 1⟩, ⟨S32x900x1, f 2⟩, ⟨S32x900x1, f 3⟩] h (at3 w q c) = f c (at3 w q 0) := by
  refine concatenate_apply_piece (t := S32x900x4) 2 [⟨S32x900x1, f 0⟩, ⟨S32x900x1, f 1⟩, ⟨S32x900x1, f 2⟩, ⟨S32x900x1, f 3⟩] h (at3 w q c) c.val c.isLt S32x900x1 (f c) ?_ rfl c.val ?_ (at3 w q 0) (fun b hb => ?_) (Nat.add_zero _)
  · match c with
    | 0 => rfl
    | 1 => rfl
    | 2 => rfl
    | 3 => rfl
  · match c with
    | 0 => rfl
    | 1 => rfl
    | 2 => rfl
    | 3 => rfl
  · match b with
    | 0 => rfl
    | 1 => rfl
    | 2 => exact absurd rfl hb

/-- The corners of every box. -/
def cornersOf (b : FVec F S32x900x4 .f32) : FVec F S32x900x4 .f32 :=
  concatenate S32x900x4 2
    [⟨S32x900x1, (subf (extractStridedSlice S32x900x1 ![0, 0, 0] b slices_S32x900x4_S32x900x1_0_0_0) (mulf (broadcastInDim S32x900x1 ![] bcast_S_S32x900x1 (constant S_ .f32 0x3F000000#32)) (extractStridedSlice S32x900x1 ![0, 0, 2] b slices_S32x900x4_S32x900x1_0_0_2)) : FVec F S32x900x1 .f32)⟩,
     ⟨S32x900x1, (subf (extractStridedSlice S32x900x1 ![0, 0, 1] b slices_S32x900x4_S32x900x1_0_0_1) (mulf (broadcastInDim S32x900x1 ![] bcast_S_S32x900x1 (constant S_ .f32 0x3F000000#32)) (extractStridedSlice S32x900x1 ![0, 0, 3] b slices_S32x900x4_S32x900x1_0_0_3)) : FVec F S32x900x1 .f32)⟩,
     ⟨S32x900x1, (addf (extractStridedSlice S32x900x1 ![0, 0, 0] b slices_S32x900x4_S32x900x1_0_0_0) (mulf (broadcastInDim S32x900x1 ![] bcast_S_S32x900x1 (constant S_ .f32 0x3F000000#32)) (extractStridedSlice S32x900x1 ![0, 0, 2] b slices_S32x900x4_S32x900x1_0_0_2)) : FVec F S32x900x1 .f32)⟩,
     ⟨S32x900x1, (addf (extractStridedSlice S32x900x1 ![0, 0, 1] b slices_S32x900x4_S32x900x1_0_0_1) (mulf (broadcastInDim S32x900x1 ![] bcast_S_S32x900x1 (constant S_ .f32 0x3F000000#32)) (extractStridedSlice S32x900x1 ![0, 0, 3] b slices_S32x900x4_S32x900x1_0_0_3)) : FVec F S32x900x1 .f32)⟩]
    concatenates_S32x900x1_S32x900x1_S32x900x1_S32x900x1_S32x900x4_d2

/-- A size of the images, in a column. -/
def sizeCol (s : IVec S32x1 32) : FVec F S32x1 .f32 := broadcastInDim S32x1 ![0] bcast_S32_S32x1_0 (sitofp .f32 (shapeCast S32 s shapeCasts_S32x1_S32))

/-- Width, height, width, height. -/
def sizesOf (s : IVec S32x2 32) : FVec F S32x4 .f32 :=
  concatenate S32x4 1
    [⟨S32x1, (sizeCol (extractStridedSlice S32x1 ![0, 1] s slices_S32x2_S32x1_0_1) : FVec F S32x1 .f32)⟩, ⟨S32x1, (sizeCol (extractStridedSlice S32x1 ![0, 0] s slices_S32x2_S32x1_0_0) : FVec F S32x1 .f32)⟩,
     ⟨S32x1, (sizeCol (extractStridedSlice S32x1 ![0, 1] s slices_S32x2_S32x1_0_1) : FVec F S32x1 .f32)⟩, ⟨S32x1, (sizeCol (extractStridedSlice S32x1 ![0, 0] s slices_S32x2_S32x1_0_0) : FVec F S32x1 .f32)⟩]
    concatenates_S32x1_S32x1_S32x1_S32x1_S32x4_d1

/-- The query of each place, wrapped where negative. -/
def queryOf (x : IVec S32x300 32) : IVec S32x300x1 32 :=
  select (cmpi .slt (broadcastInDim S32x300x1 ![0, 1] bcast_S32x300_S32x300x1_0_1 (Routing.pyDiv bcast_S_S32x300 x (id (constantI S_ 32 91#32)))) (broadcastInDim S32x300x1 ![] bcast_S_S32x300x1 (constantI S_ 32 0#32)))
    (addi (broadcastInDim S32x300x1 ![0, 1] bcast_S32x300_S32x300x1_0_1 (Routing.pyDiv bcast_S_S32x300 x (id (constantI S_ 32 91#32)))) (broadcastInDim S32x300x1 ![] bcast_S_S32x300x1 (constantI S_ 32 900#32)))
    (broadcastInDim S32x300x1 ![0, 1] bcast_S32x300_S32x300x1_0_1 (Routing.pyDiv bcast_S_S32x300 x (id (constantI S_ 32 91#32))))

/-- The boxes' result, named by its parts. -/
def boxesOf (x : IVec S32x81900 32) (b : FVec F S32x900x4 .f32) (s : IVec S32x2 32) : FVec F S32x300x4 .f32 :=
  mulf (Host.gather gather_S32x900x4_S32x300x1_S32x300x4_2_1_0_0_1_2_114 (cornersOf b) (queryOf (Host.topK S32x300 1 (IntOp.cmpi .sgt) x sliceFits_S32x81900_S32x300).2))
    (broadcastInDim S32x300x4 ![0, 1, 2] bcast_S32x1x4_S32x300x4_0_1_2 (broadcastInDim S32x1x4 ![0, 2] bcast_S32x4_S32x1x4_0_2 (sizesOf s)))

theorem res_eq (m : (ℓ : Loc nD τ sig) → Buf (Elt F) ℓ) (c : Dev nD) :
    Value.res_main_v34 m c = boxesOf (m ((c.tc : Thread nD τ).loc main_arg0)) (m ((c.tc : Thread nD τ).loc main_arg1)) (m ((c.tc : Thread nD τ).loc main_arg2)) := rfl

theorem sizeCol_at (s : IVec S32x2 32) (j : Fin 2) (h : S32x2.Slices ![0, j.val] S32x1) (w : Fin 32) (z : Fin 1) :
    sizeCol (extractStridedSlice S32x1 ![0, j.val] s h) (at2 w z) = (sizeAt s w j : F .f32) := by
  have e : shapeCast S32 (extractStridedSlice S32x1 ![0, j.val] s h) shapeCasts_S32x1_S32 (Shape.Idx.ofFin w) = extractStridedSlice S32x1 ![0, j.val] s h (at2 w 0) := by
    refine shapeCast_apply _ _ _ _ ?_
    rw [Shape.rowMajor_val_one, Shape.rowMajor_val_two]
    exact (show w.val * 1 + 0 = w.val by omega)
  have e' : extractStridedSlice S32x1 ![0, j.val] s h (at2 w 0) = s (at2 w j) := by
    unfold extractStridedSlice
    refine congrArg s (funext fun a => ?_)
    match a with
    | 0 => exact Fin.ext (Nat.zero_add _)
    | 1 => rfl
  have e2 : (sizeCol (extractStridedSlice S32x1 ![0, j.val] s h) (at2 w z) : F .f32) = (sitofp .f32 (shapeCast S32 (extractStridedSlice S32x1 ![0, j.val] s h) shapeCasts_S32x1_S32) : FVec F S32 .f32) (Shape.Idx.ofFin w) := by
    unfold sizeCol broadcastInDim
    refine congrArg _ (funext fun a => ?_)
    match a with
    | 0 => rfl
  rw [e2]
  exact congrArg (fun v : BitVec 32 => (FloatOps.sitofp .f32 v : F .f32)) (e.trans e')

/-- The scales of a row: the width at the even corners, the height at the odd ones. -/
theorem sizesOf_at (s : IVec S32x2 32) (w : Fin 32) (c : Fin 4) : (sizesOf s : FVec F S32x4 .f32) (at2 w c) = if c.val % 2 = 0 then sizeAt s w 1 else sizeAt s w 0 := by
  have e := four_cols (fun c : Fin 4 => match c with
    | 0 => (sizeCol (extractStridedSlice S32x1 ![0, 1] s slices_S32x2_S32x1_0_1) : FVec F S32x1 .f32)
    | 1 => sizeCol (extractStridedSlice S32x1 ![0, 0] s slices_S32x2_S32x1_0_0)
    | 2 => sizeCol (extractStridedSlice S32x1 ![0, 1] s slices_S32x2_S32x1_0_1)
    | 3 => sizeCol (extractStridedSlice S32x1 ![0, 0] s slices_S32x2_S32x1_0_0)) concatenates_S32x1_S32x1_S32x1_S32x1_S32x4_d1 w c
  refine Eq.trans e ?_
  match c with
  | 0 => exact sizeCol_at s 1 _ w 0
  | 1 => exact sizeCol_at s 0 _ w 0
  | 2 => exact sizeCol_at s 1 _ w 0
  | 3 => exact sizeCol_at s 0 _ w 0

/-- The scales, laid over every place. -/
theorem laid_at (v : FVec F S32x4 .f32) (w : Fin 32) (k : Fin 300) (c : Fin 4) :
    broadcastInDim S32x300x4 ![0, 1, 2] bcast_S32x1x4_S32x300x4_0_1_2 (broadcastInDim S32x1x4 ![0, 2] bcast_S32x4_S32x1x4_0_2 v) (at3 w k c) = v (at2 w c) := by
  unfold broadcastInDim
  refine congrArg v (funext fun a => ?_)
  match a with
  | 0 => rfl
  | 1 => rfl

/-- One coordinate of the boxes. -/
theorem coord_at (b : FVec F S32x900x4 .f32) (j : Fin 4) (h : S32x900x4.Slices ![0, 0, j.val] S32x900x1) (w : Fin 32) (q : Fin 900) :
    extractStridedSlice S32x900x1 ![0, 0, j.val] b h (at3 w q 0) = b (at3 w q j) := by
  unfold extractStridedSlice
  refine congrArg b (funext fun a => ?_)
  match a with
  | 0 => exact Fin.ext (Nat.zero_add _)
  | 1 => exact Fin.ext (Nat.zero_add _)
  | 2 => rfl

/-- A corner of a box, scaled, is what the tiles compute. -/
theorem corners_at (b : FVec F S32x900x4 .f32) (w : Fin 32) (q : Fin 900) (c : Fin 4) (W H : F .f32) (B : ℕ → F .f32) (hB : ∀ j : Fin 4, B j.val = b (at3 w q j)) :
    FloatOps.mulf (cornersOf b (at3 w q c)) (if c.val % 2 = 0 then W else H) = corner c.val W H B := by
  have e := four_blocks (fun c : Fin 4 => match c with
    | 0 => (subf (extractStridedSlice S32x900x1 ![0, 0, 0] b slices_S32x900x4_S32x900x1_0_0_0) (mulf (broadcastInDim S32x900x1 ![] bcast_S_S32x900x1 (constant S_ .f32 0x3F000000#32)) (extractStridedSlice S32x900x1 ![0, 0, 2] b slices_S32x900x4_S32x900x1_0_0_2)) : FVec F S32x900x1 .f32)
    | 1 => subf (extractStridedSlice S32x900x1 ![0, 0, 1] b slices_S32x900x4_S32x900x1_0_0_1) (mulf (broadcastInDim S32x900x1 ![] bcast_S_S32x900x1 (constant S_ .f32 0x3F000000#32)) (extractStridedSlice S32x900x1 ![0, 0, 3] b slices_S32x900x4_S32x900x1_0_0_3))
    | 2 => addf (extractStridedSlice S32x900x1 ![0, 0, 0] b slices_S32x900x4_S32x900x1_0_0_0) (mulf (broadcastInDim S32x900x1 ![] bcast_S_S32x900x1 (constant S_ .f32 0x3F000000#32)) (extractStridedSlice S32x900x1 ![0, 0, 2] b slices_S32x900x4_S32x900x1_0_0_2))
    | 3 => addf (extractStridedSlice S32x900x1 ![0, 0, 1] b slices_S32x900x4_S32x900x1_0_0_1) (mulf (broadcastInDim S32x900x1 ![] bcast_S_S32x900x1 (constant S_ .f32 0x3F000000#32)) (extractStridedSlice S32x900x1 ![0, 0, 3] b slices_S32x900x4_S32x900x1_0_0_3)))
    concatenates_S32x900x1_S32x900x1_S32x900x1_S32x900x1_S32x900x4_d2 w q c
  refine Eq.trans (congrArg (fun v => FloatOps.mulf v (if c.val % 2 = 0 then W else H)) e) ?_
  have h0 := (coord_at b 0 slices_S32x900x4_S32x900x1_0_0_0 w q).trans (hB 0).symm
  have h1 := (coord_at b 1 slices_S32x900x4_S32x900x1_0_0_1 w q).trans (hB 1).symm
  have h2 := (coord_at b 2 slices_S32x900x4_S32x900x1_0_0_2 w q).trans (hB 2).symm
  have h3 := (coord_at b 3 slices_S32x900x4_S32x900x1_0_0_3 w q).trans (hB 3).symm
  match c with
  | 0 => exact congrArg₂ (fun u v : F .f32 => FloatOps.mulf (FloatOps.subf u (FloatOps.mulf (Scalar.ofBits .f32 0x3F000000#32) v)) W) h0 h2
  | 1 => exact congrArg₂ (fun u v : F .f32 => FloatOps.mulf (FloatOps.subf u (FloatOps.mulf (Scalar.ofBits .f32 0x3F000000#32) v)) H) h1 h3
  | 2 => exact congrArg₂ (fun u v : F .f32 => FloatOps.mulf (FloatOps.addf u (FloatOps.mulf (Scalar.ofBits .f32 0x3F000000#32) v)) W) h0 h2
  | 3 => exact congrArg₂ (fun u v : F .f32 => FloatOps.mulf (FloatOps.addf u (FloatOps.mulf (Scalar.ofBits .f32 0x3F000000#32) v)) H) h1 h3

/-- The queries are never negative, so the wrap leaves them. -/
theorem queryOf_at (x : IVec S32x300 32) (w : Fin 32) (k : Fin 300) (i : ℕ) (hi : i < 81900) (hx : x (at2 w k) = BitVec.ofNat 32 i) :
    queryOf x (at3 w k 0) = BitVec.ofNat 32 (i / 91) := by
  have e : broadcastInDim S32x300x1 ![0, 1] bcast_S32x300_S32x300x1_0_1 (Routing.pyDiv bcast_S_S32x300 x (id (constantI S_ 32 91#32))) (at3 w k 0) = BitVec.ofNat 32 (i / 91) := by
    rw [← query_at x (at2 w k) i hi hx]
    refine congrArg (Routing.pyDiv bcast_S_S32x300 x (id (constantI S_ 32 91#32))) (funext fun a => ?_)
    match a with
    | 0 => rfl
    | 1 => rfl
  refine Eq.trans (?_ : _ = Scalar.select (IntOp.cmpi .slt (BitVec.ofNat 32 (i / 91)) 0#32) (BitVec.ofNat 32 (i / 91) + 900#32) (BitVec.ofNat 32 (i / 91))) ?_
  · rw [← e]
    rfl
  · have hz : ¬IntOp.cmpi .slt (BitVec.ofNat 32 (i / 91)) 0#32 = 1#1 := fun h => by
      have e0 : (0#32 : BitVec 32).toNat = 0 := rfl
      rw [StableHlo.Predicate.slt_iff_toNat (by rw [BitVec.toNat_ofNat]; omega) (by decide), e0] at h
      omega
    exact if_neg hz

/-- The gather takes the query's row. -/
theorem gather_at {α : Type} (x : S32x900x4.Idx → α) (idx : IVec S32x300x1 32) (w : Fin 32) (k : Fin 300) (c : Fin 4) (q : Fin 900) (h : idx (at3 w k 0) = BitVec.ofNat 32 q.val) :
    Host.gather gather_S32x900x4_S32x300x1_S32x300x4_2_1_0_0_1_2_114 x idx (at3 w k c) = x (at3 w q c) := by
  unfold Host.gather
  refine congrArg x (funext fun a => ?_)
  match a with
  | 0 => exact Fin.ext (show 0 + w.val + 0 = w.val by omega)
  | 1 =>
    refine Fin.ext (Eq.trans (?_ : _ = min (idx (at3 w k 0)).toInt.toNat (900 - 1) + 0 + 0) ?_)
    · have e : gather_S32x900x4_S32x300x1_S32x300x4_2_1_0_0_1_2_114.siIdx (at3 w k c) ⟨0, by decide⟩ = at3 w k 0 := by
        funext a
        match a with
        | 0 => rfl
        | 1 => rfl
        | 2 => rfl
      rw [← e]
      rfl
    · rw [h, StableHlo.Predicate.toInt_ofNat_small _ (by omega)]
      exact (show min ((q.val : ℤ).toNat) 899 + 0 + 0 = q.val by omega)
  | 2 => exact Fin.ext (show 0 + 0 + c.val = c.val by omega)

/-- The boxes' result at a place. -/
theorem boxesOf_at (x : IVec S32x81900 32) (b : FVec F S32x900x4 .f32) (s : IVec S32x2 32) (w : Fin 32) (k : Fin 300) (c : Fin 4) (i : ℕ) (hi : i < 81900)
    (hx : (Host.topK S32x300 1 (IntOp.cmpi .sgt) x sliceFits_S32x81900_S32x300).2 (at2 w k) = BitVec.ofNat 32 i) (B : ℕ → F .f32) (hB : ∀ j : Fin 4, B j.val = b (at3 w ⟨i / 91, by omega⟩ j)) :
    boxesOf x b s (at3 w k c) = corner c.val (sizeAt s w 1) (sizeAt s w 0) B := by
  rw [← corners_at b w ⟨i / 91, by omega⟩ c _ _ B hB, ← sizesOf_at s w c, ← laid_at (sizesOf s) w k c,
    ← gather_at (cornersOf b) _ w k c ⟨i / 91, by omega⟩ (queryOf_at _ w k i hi hx)]
  rfl

end Cert.Proof.Ref

end
-- ==== Proof.Equal.lean ====
/-
The kernel's results are the reference's.
-/
module

public import proofs.«01_k».proof.Proof.Frames
public import proofs.«01_k».proof.Proof.RVal

@[expose] public section

noncomputable section

namespace Cert.Proof

open Idealize.ShloMosaic Idealize.SL.Sem Cert.Proof.Tile
open Cert.KernelIdeal (nD τ sig main_arg0 main_arg1 main_arg2 main_v0 main_v1 main_v11 main_v13 main_v14 main_v17 S32x81900 S32x300)

variable {F : FTy → Type} [FloatOps F]

/-- At each place a row keeps, the tiles' word is the reference's, and so is its position. -/
theorem same_place (m : (ℓ : Loc nD τ sig) → Buf (Elt F) ℓ) (d : Dev nD) (g)
    (hx : ∀ i, ((m (d, dr main_arg0) : IVec S32x81900 32) i).toNat < 2 ^ 31) (h : OutAll m d g) (w : Fin 32) (k : Fin 300) :
    ∃ i < 81900, (Host.topK S32x300 1 (IntOp.cmpi .sgt) (m (d, dr main_arg0) : IVec S32x81900 32) Cert.ReferenceIdeal.Gen.sliceFits_S32x81900_S32x300).1 (at2 w k) = line (N := 304) g.1 w k.val
      ∧ (Host.topK S32x300 1 (IntOp.cmpi .sgt) (m (d, dr main_arg0) : IVec S32x81900 32) Cert.ReferenceIdeal.Gen.sliceFits_S32x81900_S32x300).2 (at2 w k) = BitVec.ofNat 32 i
      ∧ line (N := 304) g.2.1 w k.val = BitVec.ofNat 32 (i % 91)
      ∧ ∀ c : Fin 4, line (N := 1216) g.2.2 w (304 * c.val + k.val) = corner c.val (sizeAt (m (d, dr main_arg2)) w 1) (sizeAt (m (d, dr main_arg2)) w 0)
          fun j => line (N := 3600) (rowsB (m (d, dr main_arg1))) w (4 * (i / 91) + j) := by
  obtain ⟨i, hi, hr, hs, hl, hb⟩ := h w k.val k.isLt
  rw [U_v0] at hr hs
  rw [U_v1, U_v11] at hb
  obtain ⟨i', e1, e2, e3⟩ := topK_row (N := 81900) (by omega) (m (d, dr main_arg0)) hx Cert.ReferenceIdeal.Gen.sliceFits_S32x81900_S32x300 w k
  have hp := place_pad (N := 81900) (M := 81920) (by omega) (fun j => (line (N := 81920) (padW (m (d, dr main_arg0))) w j).toNat)
    (fun j => (line (N := 81900) (m (d, dr main_arg0) : IVec S32x81900 32) w j).toNat) (fun j hj => congrArg BitVec.toNat (padW_in _ w j hj))
    (fun j hj hj' => congrArg BitVec.toNat (padW_out _ w j hj hj')) i hi
  have ei : i'.val = i := place_inj i'.isLt hi (e3.trans (hr.symm.trans hp))
  refine ⟨i, hi, ?_, ?_, hl, fun c => ?_⟩
  · rw [e1, line_fin (m (d, dr main_arg0) : IVec S32x81900 32) w i', ei]
    exact ((hs.trans (padW_in _ w i hi))).symm
  · rw [e2, ei]
  · refine Eq.trans (hb c.val c.isLt) ?_
    rw [scales_w, scales_h]

/-- The scores kept. -/
theorem same_scores (m : (ℓ : Loc nD τ sig) → Buf (Elt F) ℓ) (d : Dev nD) (g)
    (hx : ∀ i, ((m (d, dr main_arg0) : IVec S32x81900 32) i).toNat < 2 ^ 31) (h : OutAll m d g) :
    E m d g (dr main_v13) = (Host.topK S32x300 1 (IntOp.cmpi .sgt) (m (d, dr main_arg0) : IVec S32x81900 32) Cert.ReferenceIdeal.Gen.sliceFits_S32x81900_S32x300).1 := by
  rw [E_v13]
  funext j
  obtain ⟨w, k, rfl⟩ : ∃ (w : Fin 32) (k : Fin 300), j = at2 w k := ⟨j 0, j 1, at2_eta j⟩
  refine (cut_at _ _ w k).trans ?_
  obtain ⟨i, _, hs, _⟩ := same_place m d g hx h w k
  exact hs.symm

/-- The labels. -/
theorem same_labels (m : (ℓ : Loc nD τ sig) → Buf (Elt F) ℓ) (d : Dev nD) (g)
    (hx : ∀ i, ((m (d, dr main_arg0) : IVec S32x81900 32) i).toNat < 2 ^ 31) (h : OutAll m d g) :
    E m d g (dr main_v14) = Routing.pyRem Cert.ReferenceIdeal.Gen.bcast_S_S32x300
      (Host.topK S32x300 1 (IntOp.cmpi .sgt) (m (d, dr main_arg0) : IVec S32x81900 32) Cert.ReferenceIdeal.Gen.sliceFits_S32x81900_S32x300).2 (id (constantI Cert.ReferenceIdeal.S_ 32 91#32)) := by
  rw [E_v14]
  funext j
  obtain ⟨w, k, rfl⟩ : ∃ (w : Fin 32) (k : Fin 300), j = at2 w k := ⟨j 0, j 1, at2_eta j⟩
  refine (cut_at _ _ w k).trans ?_
  obtain ⟨i, hi, _, hx', hl, _⟩ := same_place m d g hx h w k
  exact hl.trans (Ref.class_at _ _ i hi hx').symm

/-- The boxes. -/
theorem same_boxes (m : (ℓ : Loc nD τ sig) → Buf (Elt F) ℓ) (d : Dev nD) (g)
    (hx : ∀ i, ((m (d, dr main_arg0) : IVec S32x81900 32) i).toNat < 2 ^ 31) (h : OutAll m d g) :
    E m d g (dr main_v17) = Ref.boxesOf (m (d, dr main_arg0)) (m (d, dr main_arg1)) (m (d, dr main_arg2)) := by
  rw [E_v17]
  funext j
  obtain ⟨w, k, c, rfl⟩ : ∃ (w : Fin 32) (k : Fin 300) (c : Fin 4), j = at3 w k c := ⟨j 0, j 1, j 2, at3_eta j⟩
  refine (turn_at _ w k c).trans ?_
  obtain ⟨i, hi, _, hx', _, hb⟩ := same_place m d g hx h w k
  exact (hb c).trans (Ref.boxesOf_at _ _ _ w k c i hi hx' _ fun q => rowsB_at _ w ⟨i / 91, by omega⟩ q).symm

/-- From arguments that agree, both run, and end with the same results. -/
theorem algebraic : Cert.algebraic_KernelIdeal_ReferenceIdeal := by
  intro m ρ m' ρ' hpre hag
  refine ⟨fun c => (Host.topK S32x300 1 (IntOp.cmpi .sgt) (m (c, dr main_arg0) : IVec S32x81900 32) Cert.ReferenceIdeal.Gen.sliceFits_S32x81900_S32x300).1,
    fun c => Routing.pyRem Cert.ReferenceIdeal.Gen.bcast_S_S32x300
      (Host.topK S32x300 1 (IntOp.cmpi .sgt) (m (c, dr main_arg0) : IVec S32x81900 32) Cert.ReferenceIdeal.Gen.sliceFits_S32x81900_S32x300).2 (id (constantI Cert.ReferenceIdeal.S_ 32 91#32)),
    fun c => Ref.boxesOf (F := Ideal) (m (c, dr main_arg0)) (m (c, dr main_arg1)) (m (c, dr main_arg2)), ?_, ?_⟩
  · refine (θ_run Cert.KernelIdeal.defs _ _).mono (fun r h c => ?_) (run_main (F := Ideal) m ρ (preOK_of m hpre))
    obtain ⟨g, ho, hm⟩ := h.1 c
    have hx := (pre_words (F := Ideal) _ _ _ (hpre c)).1
    exact ⟨(hm _ (mem_arrs rfl)).trans (same_scores m c g hx ho), (hm _ (mem_arrs rfl)).trans (same_labels m c g hx ho), (hm _ (mem_arrs rfl)).trans (same_boxes m c g hx ho),
      (hm _ (mem_arrs rfl)).trans (E_arg0 m c g), (hm _ (mem_arrs rfl)).trans (E_arg1 m c g), (hm _ (mem_arrs rfl)).trans (E_arg2 m c g)⟩
  · refine (θ_run Cert.ReferenceIdeal.defs _ _).mono (fun r h c => ?_) (Cert.ReferenceIdeal.Value.run (F := Ideal) m' ρ')
    obtain ⟨h0, h1, h2, ha⟩ := h c
    obtain ⟨g0, g1, g2⟩ := hag c
    refine ⟨h0.trans ?_, h1.trans ?_, (h2.trans (Ref.res_eq m' c)).trans ?_, ha⟩
    · rw [g0]
    · rw [g0]
      rfl
    · rw [g0, g1, g2]

end Cert.Proof

end
-- ==== Proof.lean ====
/-
The certificate: the five claims, each from its run.
-/
module

public import proofs.«01_k».proof.Defs
public import proofs.«01_k».proof.Proof.Gen.ReferenceIdeal.Run
public import proofs.«01_k».proof.Proof.Gen.Kernel.Skeleton
public import proofs.«01_k».proof.Proof.Gen.KernelIdeal.Skeleton
public import proofs.«01_k».proof.Proof.Gen.Pre_few_coarse
public import proofs.«01_k».proof.Proof.Frames
public import proofs.«01_k».proof.Proof.Equal

@[expose] public section

/-- Every claim, under the programs' proved side conditions. -/
theorem Cert.Proof.claim : Cert.Claim :=
  ⟨Cert.Kernel.Gen.facts, Cert.KernelIdeal.Gen.facts, Cert.ReferenceIdeal.Gen.facts, Cert.Pre_few_coarse.Gen.facts,
    Cert.Proof.frame_kernel, Cert.Proof.frame_kernelIdeal, Cert.Proof.frame_reference, Cert.Proof.frame_reference_pre, trivial, Cert.Proof.algebraic⟩

end
